-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nonvanishing [hPre_finite_nonvanishing : Cert.Pre_finite_nonvanishing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nonvanishing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nonvanishing [hPre_finite_nonvanishing : Cert.Pre_finite_nonvanishing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nonvanishing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_nonvanishing [hKernelIdeal : Cert.KernelIdeal.Facts] [hPre_finite_nonvanishing : Cert.Pre_finite_nonvanishing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nonvanishing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_nonvanishing [hReferenceIdeal : Cert.ReferenceIdeal.Facts] [hPre_finite_nonvanishing : Cert.Pre_finite_nonvanishing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nonvanishing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_nonvanishing [hKernelIdeal : Cert.KernelIdeal.Facts] [hReferenceIdeal : Cert.ReferenceIdeal.Facts] [hPre_finite_nonvanishing : Cert.Pre_finite_nonvanishing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nonvanishing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v373) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_nonvanishing : Cert.Pre_finite_nonvanishing.Facts),
    quiescent_Kernel (hKernel := hKernel)
    ∧ quiescent_KernelIdeal (hKernelIdeal := hKernelIdeal)
    ∧ quiescent_KernelIdeal_pre_finite_nonvanishing (hKernelIdeal := hKernelIdeal) (hPre_finite_nonvanishing := hPre_finite_nonvanishing)
    ∧ quiescent_ReferenceIdeal (hReferenceIdeal := hReferenceIdeal)
    ∧ quiescent_ReferenceIdeal_pre_finite_nonvanishing (hReferenceIdeal := hReferenceIdeal) (hPre_finite_nonvanishing := hPre_finite_nonvanishing)
    ∧ preserves_Kernel_KernelIdeal
    ∧ algebraic_KernelIdeal_ReferenceIdeal_pre_finite_nonvanishing (hKernelIdeal := hKernelIdeal) (hReferenceIdeal := hReferenceIdeal) (hPre_finite_nonvanishing := hPre_finite_nonvanishing)
-- ==== Pre_finite_nonvanishing.lean ====
abbrev S1x128x128x3 : Shape := ⟨4, ![1, 128, 128, 3]⟩
abbrev S1x128x128x1 : Shape := ⟨4, ![1, 128, 128, 1]⟩
abbrev S1024 : Shape := ⟨1, ![1024]⟩
abbrev S_ : Shape := ⟨0, ![]⟩
abbrev S128x128x1 : Shape := ⟨3, ![128, 128, 1]⟩
abbrev S4 : Shape := ⟨1, ![4]⟩
abbrev S125 : Shape := ⟨1, ![125]⟩
abbrev S3 : Shape := ⟨1, ![3]⟩
abbrev S132 : Shape := ⟨1, ![132]⟩
abbrev S1 : Shape := ⟨1, ![1]⟩
abbrev S1x1024 : Shape := ⟨2, ![1, 1024]⟩
abbrev S126 : Shape := ⟨1, ![126]⟩
abbrev S126x1 : Shape := ⟨2, ![126, 1]⟩
abbrev S126x1024 : Shape := ⟨2, ![126, 1024]⟩
abbrev S6 : Shape := ⟨1, ![6]⟩
abbrev S6x1 : Shape := ⟨2, ![6, 1]⟩
abbrev S6x1024 : Shape := ⟨2, ![6, 1024]⟩
abbrev S6x1024x1 : Shape := ⟨3, ![6, 1024, 1]⟩
abbrev S4x1024 : Shape := ⟨2, ![4, 1024]⟩
abbrev S4x1 : Shape := ⟨2, ![4, 1]⟩
abbrev S4x1024x1 : Shape := ⟨3, ![4, 1024, 1]⟩
abbrev S4x1024x128x1 : Shape := ⟨4, ![4, 1024, 128, 1]⟩
abbrev S4x1024x4x1024x1 : Shape := ⟨5, ![4, 1024, 4, 1024, 1]⟩
abbrev S4x1024x1x1x1 : Shape := ⟨5, ![4, 1024, 1, 1, 1]⟩
abbrev S1x1x4x1024x1 : Shape := ⟨5, ![1, 1, 4, 1024, 1]⟩
abbrev S1024x1024x1 : Shape := ⟨3, ![1024, 1024, 1]⟩

class Facts : Prop where
  bcast_S_S1x128x128x3 : S_.BroadcastsInDim S1x128x128x3 (![] : Fin 0 → Fin S1x128x128x3.rank)
  reducesTo_S1x128x128x3_S_d0_1_2_3 : S1x128x128x3.ReducesTo [0, 1, 2, 3] S_
  h_S_ : 0 < S_.numel
  bcast_S_S1x128x128x1 : S_.BroadcastsInDim S1x128x128x1 (![] : Fin 0 → Fin S1x128x128x1.rank)
  reducesTo_S1x128x128x1_S_d0_1_2_3 : S1x128x128x1.ReducesTo [0, 1, 2, 3] S_
  bcast_S_S1024 : S_.BroadcastsInDim S1024 (![] : Fin 0 → Fin S1024.rank)
  reducesTo_S1024_S_d0 : S1024.ReducesTo [0] S_
  shapeCasts_S1x128x128x1_S128x128x1 : S1x128x128x1.ShapeCasts S128x128x1
  bcast_S_S4 : S_.BroadcastsInDim S4 (![] : Fin 0 → Fin S4.rank)
  bcast_S_S125 : S_.BroadcastsInDim S125 (![] : Fin 0 → Fin S125.rank)
  bcast_S_S3 : S_.BroadcastsInDim S3 (![] : Fin 0 → Fin S3.rank)
  concatenates_S4_S125_S3_S132_d0 : Shape.Concatenates [S4, S125, S3] S132 0
  bcast_S_S132 : S_.BroadcastsInDim S132 (![] : Fin 0 → Fin S132.rank)
  bcast_S_S_ : S_.BroadcastsInDim S_ (![] : Fin 0 → Fin S_.rank)
  reduceWindows_S132_S132_w132s1p131_0 : S132.ReduceWindows (![132] : Fin 1 → Nat) ![1] ![131] ![0] S132
  slices_S132_S1_0 : S132.Slices ![0] S1
  shapeCasts_S1_S_ : S1.ShapeCasts S_
  slices_S132_S1_131 : S132.Slices ![131] S1
  bcast_S1024_S1x1024_1 : S1024.BroadcastsInDim S1x1024 (![1] : Fin 1 → Fin S1x1024.rank)
  slices_S132_S126_3 : S132.Slices ![3] S126
  bcast_S126_S126x1_0 : S126.BroadcastsInDim S126x1 (![0] : Fin 1 → Fin S126x1.rank)
  bcast_S1x1024_S126x1024_0_1 : S1x1024.BroadcastsInDim S126x1024 (![0, 1] : Fin 2 → Fin S126x1024.rank)
  bcast_S126x1_S126x1024_0_1 : S126x1.BroadcastsInDim S126x1024 (![0, 1] : Fin 2 → Fin S126x1024.rank)
  bcast_S_S126x1024 : S_.BroadcastsInDim S126x1024 (![] : Fin 0 → Fin S126x1024.rank)
  reducesTo_S126x1024_S1024_d0 : S126x1024.ReducesTo [0] S1024
  bcast_S_S6 : S_.BroadcastsInDim S6 (![] : Fin 0 → Fin S6.rank)
  bcast_S6_S6x1_0 : S6.BroadcastsInDim S6x1 (![0] : Fin 1 → Fin S6x1.rank)
  bcast_S1x1024_S6x1024_0_1 : S1x1024.BroadcastsInDim S6x1024 (![0, 1] : Fin 2 → Fin S6x1024.rank)
  bcast_S6x1_S6x1024_0_1 : S6x1.BroadcastsInDim S6x1024 (![0, 1] : Fin 2 → Fin S6x1024.rank)
  bcast_S_S6x1024 : S_.BroadcastsInDim S6x1024 (![] : Fin 0 → Fin S6x1024.rank)
  bcast_S6x1024_S6x1024x1_0_1 : S6x1024.BroadcastsInDim S6x1024x1 (![0, 1] : Fin 2 → Fin S6x1024x1.rank)
  slices_S6x1024_S1x1024_3_0 : S6x1024.Slices ![3, 0] S1x1024
  shapeCasts_S1x1024_S1024 : S1x1024.ShapeCasts S1024
  slices_S6x1024_S1x1024_2_0 : S6x1024.Slices ![2, 0] S1x1024
  slices_S6x1024_S1x1024_1_0 : S6x1024.Slices ![1, 0] S1x1024
  slices_S6x1024_S1x1024_4_0 : S6x1024.Slices ![4, 0] S1x1024
  slices_S6x1024_S1x1024_0_0 : S6x1024.Slices ![0, 0] S1x1024
  slices_S6x1024_S1x1024_5_0 : S6x1024.Slices ![5, 0] S1x1024
  concatenates_S1x1024_S1x1024_S1x1024_S1x1024_S4x1024_d0 : Shape.Concatenates [S1x1024, S1x1024, S1x1024, S1x1024] S4x1024 0
  bcast_S4_S4x1_0 : S4.BroadcastsInDim S4x1 (![0] : Fin 1 → Fin S4x1.rank)
  bcast_S1x1024_S4x1024_0_1 : S1x1024.BroadcastsInDim S4x1024 (![0, 1] : Fin 2 → Fin S4x1024.rank)
  bcast_S4x1_S4x1024_0_1 : S4x1.BroadcastsInDim S4x1024 (![0, 1] : Fin 2 → Fin S4x1024.rank)
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024_S4x1024x1x1x1_0_1 : S4x1024.BroadcastsInDim S4x1024x1x1x1 (![0, 1] : Fin 2 → Fin S4x1024x1x1x1.rank)
  bcast_S4x1024x1x1x1_S4x1024x4x1024x1_0_1_2_3_4 : S4x1024x1x1x1.BroadcastsInDim S4x1024x4x1024x1 (![0, 1, 2, 3, 4] : Fin 5 → Fin S4x1024x4x1024x1.rank)
  bcast_S4x1024_S1x1x4x1024x1_2_3 : S4x1024.BroadcastsInDim S1x1x4x1024x1 (![2, 3] : Fin 2 → Fin S1x1x4x1024x1.rank)
  bcast_S1x1x4x1024x1_S4x1024x4x1024x1_0_1_2_3_4 : S1x1x4x1024x1.BroadcastsInDim S4x1024x4x1024x1 (![0, 1, 2, 3, 4] : Fin 5 → Fin S4x1024x4x1024x1.rank)
  reducesTo_S4x1024x4x1024x1_S1024x1024x1_d0_2 : S4x1024x4x1024x1.ReducesTo [0, 2] S1024x1024x1
  bcast_S_S1024x1024x1 : S_.BroadcastsInDim S1024x1024x1 (![] : Fin 0 → Fin S1024x1024x1.rank)
  reducesTo_S1024x1024x1_S_d0_1_2 : S1024x1024x1.ReducesTo [0, 1, 2] S_
  gather_S132_S6x1024x1_S6x1024_n_0_n_n_0_2_1_wf : GatherDims.WF S132 S6x1024x1 S6x1024 [] [0] [] [0] [] 2 ![1]
  gather_S128x128x1_S4x1024x1_S4x1024x128x1_23_0_n_n_0_2_11281_wf : GatherDims.WF S128x128x1 S4x1024x1 S4x1024x128x1 [2, 3] [0] [] [0] [] 2 ![1, 128, 1]
  gather_S4x1024x128x1_S4x1024x1_S4x1024x4x1024x1_014_2_n_n_2_2_4102411_wf : GatherDims.WF S4x1024x128x1 S4x1024x1 S4x1024x4x1024x1 [0, 1, 4] [2] [] [2] [] 2 ![4, 1024, 1, 1]

variable [Facts]

variable {F : FTy → Type} [FloatOps F]
def comparator_f32_d0 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S132_S6x1024x1_S6x1024_n_0_n_n_0_2_1 : GatherDims S132 S6x1024x1 S6x1024 where
  offsetDims := []
  collapsedSliceDims := [0]
  operandBatchingDims := []
  startIndicesBatchingDims := []
  startIndexMap := [0]
  indexVectorDim := 2
  sliceSizes := ![1]
  wf := gather_S132_S6x1024x1_S6x1024_n_0_n_n_0_2_1_wf
def gather_S128x128x1_S4x1024x1_S4x1024x128x1_23_0_n_n_0_2_11281 : GatherDims S128x128x1 S4x1024x1 S4x1024x128x1 where
  offsetDims := [2, 3]
  collapsedSliceDims := [0]
  operandBatchingDims := []
  startIndicesBatchingDims := []
  startIndexMap := [0]
  indexVectorDim := 2
  sliceSizes := ![1, 128, 1]
  wf := gather_S128x128x1_S4x1024x1_S4x1024x128x1_23_0_n_n_0_2_11281_wf
def gather_S4x1024x128x1_S4x1024x1_S4x1024x4x1024x1_014_2_n_n_2_2_4102411 : GatherDims S4x1024x128x1 S4x1024x1 S4x1024x4x1024x1 where
  offsetDims := [0, 1, 4]
  collapsedSliceDims := [2]
  operandBatchingDims := []
  startIndicesBatchingDims := []
  startIndexMap := [2]
  indexVectorDim := 2
  sliceSizes := ![4, 1024, 1, 1]
  wf := gather_S4x1024x128x1_S4x1024x1_S4x1024x4x1024x1_014_2_n_n_2_2_4102411_wf

def fn_where {F : FTy → Type} [FloatOps F] (arg0 : IVec S132 1) (arg1 : FVec F S_ .f32) (arg2 : FVec F S132 .f32) : FVec F S132 .f32 :=
  let v0 : FVec F S132 .f32 := broadcastInDim S132 ![] bcast_S_S132 arg1
  let v1 : FVec F S132 .f32 := select arg0 v0 arg2
  v1

def fn_cumsum_0 {F : FTy → Type} [FloatOps F] (arg0 : FVec F S132 .f32) : FVec F S132 .f32 :=
  let cst : FVec F S_ .f32 := constant S_ .f32 0x00000000#32
  let v0 : FVec F S_ .f32 := broadcastInDim S_ ![] bcast_S_S_ cst
  let v1 : FVec F S132 .f32 := (fun x v => Host.reduceWindowAdd ![132] ![1] ![131] ![0] x v reduceWindows_S132_S132_w132s1p131_0 h_S_) arg0 v0
  v1

def fn_cumsum {F : FTy → Type} [FloatOps F] (arg0 : FVec F S132 .f32) : FVec F S132 .f32 :=
  let v0 : FVec F S132 .f32 := fn_cumsum_0 (F := F) arg0
  v0

def fn_sort {F : FTy → Type} [FloatOps F] (arg0 : FVec F S1024 .f32) : FVec F S1024 .f32 :=
  let v0 : FVec F S1024 .f32 := (fun x => Host.sort S1024 0 comparator_f32_d0 x) arg0
  v0

def fn_where_1 {F : FTy → Type} [FloatOps F] (arg0 : IVec S126x1024 1) (arg1 : FVec F S126x1024 .f32) (arg2 : FVec F S126x1024 .f32) : FVec F S126x1024 .f32 :=
  let v0 : FVec F S126x1024 .f32 := select arg0 arg1 arg2
  v0

def fn_argmin {F : FTy → Type} [FloatOps F] (arg0 : FVec F S126x1024 .f32) : IVec S1024 32 :=
  let v0 : IVec S126x1024 32 := iotaInDim S126x1024 32 0
  let cst : FVec F S_ .f32 := constant S_ .f32 0x7F800000#32
  let c : IVec S_ 32 := constantI S_ 32 0#32
  let v1_0 : FVec F S1024 .f32 := (fun x y u v j => (Host.argReduce reducer_argmin_f32_i32 x y u v reducesTo_S126x1024_S1024_d0 h_S_ j).1) arg0 v0 cst c
  let v1_1 : IVec S1024 32 := (fun x y u v j => (Host.argReduce reducer_argmin_f32_i32 x y u v reducesTo_S126x1024_S1024_d0 h_S_ j).2) arg0 v0 cst c
  v1_1

def fn_where_2 {F : FTy → Type} [FloatOps F] (arg0 : IVec S1024 1) (arg1 : IVec S_ 32) (arg2 : IVec S1024 32) : IVec S1024 32 :=
  let v0 : IVec S_ 32 := id arg1
  let v1 : IVec S1024 32 := broadcastInDim S1024 ![] bcast_S_S1024 v0
  let v2 : IVec S1024 32 := select arg0 v1 arg2
  v2

def fn_where_3 {F : FTy → Type} [FloatOps F] (arg0 : IVec S1024 1) (arg1 : FVec F S1024 .f32) (arg2 : FVec F S1024 .f32) : FVec F S1024 .f32 :=
  let v0 : FVec F S1024 .f32 := select arg0 arg1 arg2
  v0

def fn_part20 {F : FTy → Type} [FloatOps F] (main_v392 : IVec S_ 1) (main_v394 : IVec S1024x1024x1 1) (main_c_82 : IVec S_ 1) : IVec S_ 1 :=
  let main_v395 : IVec S_ 1 := (fun x v => Host.reduce IntOp.andi x v reducesTo_S1024x1024x1_S_d0_1_2 h_S_) main_v394 main_c_82
  let main_v396 : IVec S_ 1 := andi main_v392 main_v395
  main_v396

def fn_part19 {F : FTy → Type} [FloatOps F] (main_v3 : IVec S_ 1) (main_v7 : IVec S_ 1) (main_v11 : IVec S_ 1) (main_v15 : IVec S_ 1) (main_v18 : IVec S_ 1) (main_v21 : IVec S_ 1) (main_v207 : FVec F S4x1024 .f32) (main_v350 : FVec F S4x1024 .f32) (main_v366 : IVec S4x1024 32) (main_v373 : FVec F S4x1024x128x1 .f32) (main_v374 : IVec S4x1024 32) : IVec S_ 1 :=
  let main_v375 : IVec S4x1024 1 := cmpi .slt main_v366 main_v374
  let main_c_79 : IVec S_ 32 := constantI S_ 32 128#32
  let main_v376 : IVec S4x1024 32 := broadcastInDim S4x1024 ![] bcast_S_S4x1024 main_c_79
  let main_v377 : IVec S4x1024 32 := addi main_v366 main_v376
  let main_v378 : IVec S4x1024 32 := select main_v375 main_v377 main_v366
  let main_v379 : IVec S4x1024x1 32 := broadcastInDim S4x1024x1 ![0, 1] bcast_S4x1024_S4x1024x1_0_1 main_v378
  let main_v380 : FVec F S4x1024x4x1024x1 .f32 := (fun x i => Host.gather gather_S4x1024x128x1_S4x1024x1_S4x1024x4x1024x1_014_2_n_n_2_2_4102411 x i) main_v373 main_v379
  let main_v381 : FVec F S4x1024x1x1x1 .f32 := broadcastInDim S4x1024x1x1x1 ![0, 1] bcast_S4x1024_S4x1024x1x1x1_0_1 main_v207
  let main_v382 : FVec F S4x1024x4x1024x1 .f32 := broadcastInDim S4x1024x4x1024x1 ![0, 1, 2, 3, 4] bcast_S4x1024x1x1x1_S4x1024x4x1024x1_0_1_2_3_4 main_v381
  let main_v383 : FVec F S4x1024x4x1024x1 .f32 := mulf main_v382 main_v380
  let main_v384 : FVec F S1x1x4x1024x1 .f32 := broadcastInDim S1x1x4x1024x1 ![2, 3] bcast_S4x1024_S1x1x4x1024x1_2_3 main_v350
  let main_v385 : FVec F S4x1024x4x1024x1 .f32 := broadcastInDim S4x1024x4x1024x1 ![0, 1, 2, 3, 4] bcast_S1x1x4x1024x1_S4x1024x4x1024x1_0_1_2_3_4 main_v384
  let main_v386 : FVec F S4x1024x4x1024x1 .f32 := mulf main_v383 main_v385
  let main_cst_80 : FVec F S_ .f32 := constant S_ .f32 0x00000000#32
  let main_v387 : FVec F S1024x1024x1 .f32 := (fun x v => Host.reduceAdd x v reducesTo_S4x1024x4x1024x1_S1024x1024x1_d0_2 h_S_) main_v386 main_cst_80
  let main_v388 : IVec S_ 1 := andi main_v3 main_v7
  let main_v389 : IVec S_ 1 := andi main_v388 main_v11
  let main_v390 : IVec S_ 1 := andi main_v389 main_v15
  let main_v391 : IVec S_ 1 := andi main_v390 main_v18
  let main_v392 : IVec S_ 1 := andi main_v391 main_v21
  let main_cst_81 : FVec F S_ .f32 := constant S_ .f32 0x00000000#32
  let main_v393 : FVec F S1024x1024x1 .f32 := broadcastInDim S1024x1024x1 ![] bcast_S_S1024x1024x1 main_cst_81
  let main_v394 : IVec S1024x1024x1 1 := cmpf .une main_v387 main_v393
  let main_c_82 : IVec S_ 1 := constantI S_ 1 1#1
  fn_part20 (F := F) main_v392 main_v394 main_c_82

def fn_part18 {F : FTy → Type} [FloatOps F] (main_v3 : IVec S_ 1) (main_v7 : IVec S_ 1) (main_v11 : IVec S_ 1) (main_v15 : IVec S_ 1) (main_v18 : IVec S_ 1) (main_v21 : IVec S_ 1) (main_v22 : FVec F S128x128x1 .f32) (main_v207 : FVec F S4x1024 .f32) (main_v220 : IVec S1024 32) (main_v350 : FVec F S4x1024 .f32) (main_v353 : IVec S1x1024 32) (main_v354 : IVec S4 32) : IVec S_ 1 :=
  let main_v355 : IVec S4x1 32 := broadcastInDim S4x1 ![0] bcast_S4_S4x1_0 main_v354
  let main_v356 : IVec S4x1024 32 := broadcastInDim S4x1024 ![0, 1] bcast_S1x1024_S4x1024_0_1 main_v353
  let main_v357 : IVec S4x1024 32 := broadcastInDim S4x1024 ![0, 1] bcast_S4x1_S4x1024_0_1 main_v355
  let main_v358 : IVec S4x1024 32 := addi main_v356 main_v357
  let main_c_75 : IVec S_ 32 := constantI S_ 32 3#32
  let main_v359 : IVec S1024 32 := broadcastInDim S1024 ![] bcast_S_S1024 main_c_75
  let main_v360 : IVec S1024 32 := subi main_v220 main_v359
  let main_v361 : IVec S1x1024 32 := broadcastInDim S1x1024 ![1] bcast_S1024_S1x1024_1 main_v360
  let main_v362 : IVec S4 32 := iotaInDim S4 32 0
  let main_v363 : IVec S4x1 32 := broadcastInDim S4x1 ![0] bcast_S4_S4x1_0 main_v362
  let main_v364 : IVec S4x1024 32 := broadcastInDim S4x1024 ![0, 1] bcast_S1x1024_S4x1024_0_1 main_v361
  let main_v365 : IVec S4x1024 32 := broadcastInDim S4x1024 ![0, 1] bcast_S4x1_S4x1024_0_1 main_v363
  let main_v366 : IVec S4x1024 32 := addi main_v364 main_v365
  let main_c_76 : IVec S_ 32 := constantI S_ 32 0#32
  let main_v367 : IVec S4x1024 32 := broadcastInDim S4x1024 ![] bcast_S_S4x1024 main_c_76
  let main_v368 : IVec S4x1024 1 := cmpi .slt main_v358 main_v367
  let main_c_77 : IVec S_ 32 := constantI S_ 32 128#32
  let main_v369 : IVec S4x1024 32 := broadcastInDim S4x1024 ![] bcast_S_S4x1024 main_c_77
  let main_v370 : IVec S4x1024 32 := addi main_v358 main_v369
  let main_v371 : IVec S4x1024 32 := select main_v368 main_v370 main_v358
  let main_v372 : IVec S4x1024x1 32 := broadcastInDim S4x1024x1 ![0, 1] bcast_S4x1024_S4x1024x1_0_1 main_v371
  let main_v373 : FVec F S4x1024x128x1 .f32 := (fun x i => Host.gather gather_S128x128x1_S4x1024x1_S4x1024x128x1_23_0_n_n_0_2_11281 x i) main_v22 main_v372
  let main_c_78 : IVec S_ 32 := constantI S_ 32 0#32
  let main_v374 : IVec S4x1024 32 := broadcastInDim S4x1024 ![] bcast_S_S4x1024 main_c_78
  fn_part19 (F := F) main_v3 main_v7 main_v11 main_v15 main_v18 main_v21 main_v207 main_v350 main_v366 main_v373 main_v374

def fn_part17 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v77 : IVec S1024 32) (main_v207 : FVec F S4x1024 .f32) (main_v220 : IVec S1024 32) (main_v293 : FVec F S1024 .f32) (main_v309 : FVec F S1024 .f32) (main_v326 : FVec F S1024 .f32) (main_v328 : FVec F S1024 .f32) (main_v330 : FVec F S1024 .f32) (main_v332 : FVec F S1024 .f32) (main_v333 : FVec F S1024 .f32) : IVec S_ 1 :=
  let main_v334 : FVec F S1024 .f32 := subf main_arg3 main_v332
  let main_v335 : FVec F S1024 .f32 := addf main_v333 main_v334
  let main_cst_72 : FVec F S_ .f32 := constant S_ .f32 0x00000000#32
  let main_v336 : FVec F S1024 .f32 := broadcastInDim S1024 ![] bcast_S_S1024 main_cst_72
  let main_v337 : IVec S1024 1 := cmpf .oeq main_v335 main_v336
  let main_cst_73 : FVec F S_ .f32 := constant S_ .f32 0x38D1B717#32
  let main_v338 : FVec F S1024 .f32 := broadcastInDim S1024 ![] bcast_S_S1024 main_cst_73
  let main_v339 : FVec F S1024 .f32 := Host.divf main_v293 main_v335
  let main_v340 : FVec F S1024 .f32 := fn_where_3 (F := F) main_v337 main_v338 main_v339
  let main_v341 : FVec F S1024 .f32 := subf main_v330 main_arg3
  let main_v342 : FVec F S1024 .f32 := mulf main_v341 main_v340
  let main_v343 : FVec F S1024 .f32 := addf main_v328 main_v342
  let main_v344 : FVec F S1024 .f32 := subf main_arg3 main_v332
  let main_v345 : FVec F S1024 .f32 := mulf main_v344 main_v340
  let main_v346 : FVec F S1x1024 .f32 := broadcastInDim S1x1024 ![1] bcast_S1024_S1x1024_1 main_v309
  let main_v347 : FVec F S1x1024 .f32 := broadcastInDim S1x1024 ![1] bcast_S1024_S1x1024_1 main_v326
  let main_v348 : FVec F S1x1024 .f32 := broadcastInDim S1x1024 ![1] bcast_S1024_S1x1024_1 main_v343
  let main_v349 : FVec F S1x1024 .f32 := broadcastInDim S1x1024 ![1] bcast_S1024_S1x1024_1 main_v345
  let main_v350 : FVec F S4x1024 .f32 := concatenate S4x1024 0 [⟨S1x1024, main_v346⟩, ⟨S1x1024, main_v347⟩, ⟨S1x1024, main_v348⟩, ⟨S1x1024, main_v349⟩] concatenates_S1x1024_S1x1024_S1x1024_S1x1024_S4x1024_d0
  let main_c_74 : IVec S_ 32 := constantI S_ 32 3#32
  let main_v351 : IVec S1024 32 := broadcastInDim S1024 ![] bcast_S_S1024 main_c_74
  let main_v352 : IVec S1024 32 := subi main_v77 main_v351
  let main_v353 : IVec S1x1024 32 := broadcastInDim S1x1024 ![1] bcast_S1024_S1x1024_1 main_v352
  let main_v354 : IVec S4 32 := iotaInDim S4 32 0
  fn_part18 (F := F) main_v3 main_v7 main_v11 main_v15 main_v18 main_v21 main_v22 main_v207 main_v220 main_v350 main_v353 main_v354

def fn_part16 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v77 : IVec S1024 32) (main_v207 : FVec F S4x1024 .f32) (main_v220 : IVec S1024 32) (main_v235 : FVec F S6x1024 .f32) (main_v291 : FVec F S1024 .f32) (main_v293 : FVec F S1024 .f32) (main_v309 : FVec F S1024 .f32) (main_v311 : FVec F S1024 .f32) : IVec S_ 1 :=
  let main_v312 : FVec F S1x1024 .f32 := (extractStridedSlice S1x1024 ![4, 0] · slices_S6x1024_S1x1024_4_0) main_v235
  let main_v313 : FVec F S1024 .f32 := shapeCast S1024 main_v312 shapeCasts_S1x1024_S1024
  let main_v314 : FVec F S1x1024 .f32 := (extractStridedSlice S1x1024 ![1, 0] · slices_S6x1024_S1x1024_1_0) main_v235
  let main_v315 : FVec F S1024 .f32 := shapeCast S1024 main_v314 shapeCasts_S1x1024_S1024
  let main_v316 : FVec F S1024 .f32 := subf main_v313 main_arg3
  let main_v317 : FVec F S1024 .f32 := subf main_arg3 main_v315
  let main_v318 : FVec F S1024 .f32 := addf main_v316 main_v317
  let main_cst_70 : FVec F S_ .f32 := constant S_ .f32 0x00000000#32
  let main_v319 : FVec F S1024 .f32 := broadcastInDim S1024 ![] bcast_S_S1024 main_cst_70
  let main_v320 : IVec S1024 1 := cmpf .oeq main_v318 main_v319
  let main_cst_71 : FVec F S_ .f32 := constant S_ .f32 0x38D1B717#32
  let main_v321 : FVec F S1024 .f32 := broadcastInDim S1024 ![] bcast_S_S1024 main_cst_71
  let main_v322 : FVec F S1024 .f32 := Host.divf main_v291 main_v318
  let main_v323 : FVec F S1024 .f32 := fn_where_3 (F := F) main_v320 main_v321 main_v322
  let main_v324 : FVec F S1024 .f32 := subf main_v313 main_arg3
  let main_v325 : FVec F S1024 .f32 := mulf main_v324 main_v323
  let main_v326 : FVec F S1024 .f32 := addf main_v311 main_v325
  let main_v327 : FVec F S1024 .f32 := subf main_arg3 main_v315
  let main_v328 : FVec F S1024 .f32 := mulf main_v327 main_v323
  let main_v329 : FVec F S1x1024 .f32 := (extractStridedSlice S1x1024 ![5, 0] · slices_S6x1024_S1x1024_5_0) main_v235
  let main_v330 : FVec F S1024 .f32 := shapeCast S1024 main_v329 shapeCasts_S1x1024_S1024
  let main_v331 : FVec F S1x1024 .f32 := (extractStridedSlice S1x1024 ![2, 0] · slices_S6x1024_S1x1024_2_0) main_v235
  let main_v332 : FVec F S1024 .f32 := shapeCast S1024 main_v331 shapeCasts_S1x1024_S1024
  let main_v333 : FVec F S1024 .f32 := subf main_v330 main_arg3
  fn_part17 (F := F) main_arg3 main_v3 main_v7 main_v11 main_v15 main_v18 main_v21 main_v22 main_v77 main_v207 main_v220 main_v293 main_v309 main_v326 main_v328 main_v330 main_v332 main_v333

def fn_part15 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v77 : IVec S1024 32) (main_v207 : FVec F S4x1024 .f32) (main_v220 : IVec S1024 32) (main_v235 : FVec F S6x1024 .f32) (main_v274 : FVec F S1024 .f32) (main_v276 : FVec F S1024 .f32) (main_v280 : FVec F S1024 .f32) (main_v288 : FVec F S1024 .f32) (main_v290 : FVec F S1024 .f32) : IVec S_ 1 :=
  let main_v291 : FVec F S1024 .f32 := addf main_v276 main_v290
  let main_v292 : FVec F S1024 .f32 := subf main_arg3 main_v280
  let main_v293 : FVec F S1024 .f32 := mulf main_v292 main_v288
  let main_cst_67 : FVec F S_ .f32 := constant S_ .f32 0x00000000#32
  let main_v294 : FVec F S1024 .f32 := broadcastInDim S1024 ![] bcast_S_S1024 main_cst_67
  let main_v295 : FVec F S1x1024 .f32 := (extractStridedSlice S1x1024 ![3, 0] · slices_S6x1024_S1x1024_3_0) main_v235
  let main_v296 : FVec F S1024 .f32 := shapeCast S1024 main_v295 shapeCasts_S1x1024_S1024
  let main_v297 : FVec F S1x1024 .f32 := (extractStridedSlice S1x1024 ![0, 0] · slices_S6x1024_S1x1024_0_0) main_v235
  let main_v298 : FVec F S1024 .f32 := shapeCast S1024 main_v297 shapeCasts_S1x1024_S1024
  let main_v299 : FVec F S1024 .f32 := subf main_v296 main_arg3
  let main_v300 : FVec F S1024 .f32 := subf main_arg3 main_v298
  let main_v301 : FVec F S1024 .f32 := addf main_v299 main_v300
  let main_cst_68 : FVec F S_ .f32 := constant S_ .f32 0x00000000#32
  let main_v302 : FVec F S1024 .f32 := broadcastInDim S1024 ![] bcast_S_S1024 main_cst_68
  let main_v303 : IVec S1024 1 := cmpf .oeq main_v301 main_v302
  let main_cst_69 : FVec F S_ .f32 := constant S_ .f32 0x38D1B717#32
  let main_v304 : FVec F S1024 .f32 := broadcastInDim S1024 ![] bcast_S_S1024 main_cst_69
  let main_v305 : FVec F S1024 .f32 := Host.divf main_v274 main_v301
  let main_v306 : FVec F S1024 .f32 := fn_where_3 (F := F) main_v303 main_v304 main_v305
  let main_v307 : FVec F S1024 .f32 := subf main_v296 main_arg3
  let main_v308 : FVec F S1024 .f32 := mulf main_v307 main_v306
  let main_v309 : FVec F S1024 .f32 := addf main_v294 main_v308
  let main_v310 : FVec F S1024 .f32 := subf main_arg3 main_v298
  let main_v311 : FVec F S1024 .f32 := mulf main_v310 main_v306
  fn_part16 (F := F) main_arg3 main_v3 main_v7 main_v11 main_v15 main_v18 main_v21 main_v22 main_v77 main_v207 main_v220 main_v235 main_v291 main_v293 main_v309 main_v311

def fn_part14 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v77 : IVec S1024 32) (main_v207 : FVec F S4x1024 .f32) (main_v220 : IVec S1024 32) (main_v235 : FVec F S6x1024 .f32) (main_v256 : FVec F S1024 .f32) (main_v258 : FVec F S1024 .f32) (main_v259 : FVec F S1024 .f32) (main_v261 : FVec F S1024 .f32) (main_v263 : FVec F S1024 .f32) (main_v266 : FVec F S1024 .f32) (main_v268 : IVec S1024 1) (main_cst_64 : FVec F S_ .f32) : IVec S_ 1 :=
  let main_v269 : FVec F S1024 .f32 := broadcastInDim S1024 ![] bcast_S_S1024 main_cst_64
  let main_v270 : FVec F S1024 .f32 := Host.divf main_v256 main_v266
  let main_v271 : FVec F S1024 .f32 := fn_where_3 (F := F) main_v268 main_v269 main_v270
  let main_v272 : FVec F S1024 .f32 := subf main_v261 main_arg3
  let main_v273 : FVec F S1024 .f32 := mulf main_v272 main_v271
  let main_v274 : FVec F S1024 .f32 := addf main_v259 main_v273
  let main_v275 : FVec F S1024 .f32 := subf main_arg3 main_v263
  let main_v276 : FVec F S1024 .f32 := mulf main_v275 main_v271
  let main_v277 : FVec F S1x1024 .f32 := (extractStridedSlice S1x1024 ![4, 0] · slices_S6x1024_S1x1024_4_0) main_v235
  let main_v278 : FVec F S1024 .f32 := shapeCast S1024 main_v277 shapeCasts_S1x1024_S1024
  let main_v279 : FVec F S1x1024 .f32 := (extractStridedSlice S1x1024 ![2, 0] · slices_S6x1024_S1x1024_2_0) main_v235
  let main_v280 : FVec F S1024 .f32 := shapeCast S1024 main_v279 shapeCasts_S1x1024_S1024
  let main_v281 : FVec F S1024 .f32 := subf main_v278 main_arg3
  let main_v282 : FVec F S1024 .f32 := subf main_arg3 main_v280
  let main_v283 : FVec F S1024 .f32 := addf main_v281 main_v282
  let main_cst_65 : FVec F S_ .f32 := constant S_ .f32 0x00000000#32
  let main_v284 : FVec F S1024 .f32 := broadcastInDim S1024 ![] bcast_S_S1024 main_cst_65
  let main_v285 : IVec S1024 1 := cmpf .oeq main_v283 main_v284
  let main_cst_66 : FVec F S_ .f32 := constant S_ .f32 0x38D1B717#32
  let main_v286 : FVec F S1024 .f32 := broadcastInDim S1024 ![] bcast_S_S1024 main_cst_66
  let main_v287 : FVec F S1024 .f32 := Host.divf main_v258 main_v283
  let main_v288 : FVec F S1024 .f32 := fn_where_3 (F := F) main_v285 main_v286 main_v287
  let main_v289 : FVec F S1024 .f32 := subf main_v278 main_arg3
  let main_v290 : FVec F S1024 .f32 := mulf main_v289 main_v288
  fn_part15 (F := F) main_arg3 main_v3 main_v7 main_v11 main_v15 main_v18 main_v21 main_v22 main_v77 main_v207 main_v220 main_v235 main_v274 main_v276 main_v280 main_v288 main_v290

def fn_part13 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v77 : IVec S1024 32) (main_v207 : FVec F S4x1024 .f32) (main_v220 : IVec S1024 32) (main_v235 : FVec F S6x1024 .f32) (main_v240 : FVec F S1024 .f32) (main_v241 : FVec F S1024 .f32) (main_v243 : FVec F S1024 .f32) (main_v245 : FVec F S1024 .f32) (main_v248 : FVec F S1024 .f32) (main_cst_60 : FVec F S_ .f32) : IVec S_ 1 :=
  let main_v249 : FVec F S1024 .f32 := broadcastInDim S1024 ![] bcast_S_S1024 main_cst_60
  let main_v250 : IVec S1024 1 := cmpf .oeq main_v248 main_v249
  let main_cst_61 : FVec F S_ .f32 := constant S_ .f32 0x38D1B717#32
  let main_v251 : FVec F S1024 .f32 := broadcastInDim S1024 ![] bcast_S_S1024 main_cst_61
  let main_v252 : FVec F S1024 .f32 := Host.divf main_v240 main_v248
  let main_v253 : FVec F S1024 .f32 := fn_where_3 (F := F) main_v250 main_v251 main_v252
  let main_v254 : FVec F S1024 .f32 := subf main_v243 main_arg3
  let main_v255 : FVec F S1024 .f32 := mulf main_v254 main_v253
  let main_v256 : FVec F S1024 .f32 := addf main_v241 main_v255
  let main_v257 : FVec F S1024 .f32 := subf main_arg3 main_v245
  let main_v258 : FVec F S1024 .f32 := mulf main_v257 main_v253
  let main_cst_62 : FVec F S_ .f32 := constant S_ .f32 0x00000000#32
  let main_v259 : FVec F S1024 .f32 := broadcastInDim S1024 ![] bcast_S_S1024 main_cst_62
  let main_v260 : FVec F S1x1024 .f32 := (extractStridedSlice S1x1024 ![3, 0] · slices_S6x1024_S1x1024_3_0) main_v235
  let main_v261 : FVec F S1024 .f32 := shapeCast S1024 main_v260 shapeCasts_S1x1024_S1024
  let main_v262 : FVec F S1x1024 .f32 := (extractStridedSlice S1x1024 ![1, 0] · slices_S6x1024_S1x1024_1_0) main_v235
  let main_v263 : FVec F S1024 .f32 := shapeCast S1024 main_v262 shapeCasts_S1x1024_S1024
  let main_v264 : FVec F S1024 .f32 := subf main_v261 main_arg3
  let main_v265 : FVec F S1024 .f32 := subf main_arg3 main_v263
  let main_v266 : FVec F S1024 .f32 := addf main_v264 main_v265
  let main_cst_63 : FVec F S_ .f32 := constant S_ .f32 0x00000000#32
  let main_v267 : FVec F S1024 .f32 := broadcastInDim S1024 ![] bcast_S_S1024 main_cst_63
  let main_v268 : IVec S1024 1 := cmpf .oeq main_v266 main_v267
  let main_cst_64 : FVec F S_ .f32 := constant S_ .f32 0x38D1B717#32
  fn_part14 (F := F) main_arg3 main_v3 main_v7 main_v11 main_v15 main_v18 main_v21 main_v22 main_v77 main_v207 main_v220 main_v235 main_v256 main_v258 main_v259 main_v261 main_v263 main_v266 main_v268 main_cst_64

def fn_part12 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v77 : IVec S1024 32) (main_v207 : FVec F S4x1024 .f32) (main_v220 : IVec S1024 32) (main_v228 : IVec S6x1024 32) (main_v230 : IVec S6x1024 1) (main_v231 : IVec S6x1024 32) : IVec S_ 1 :=
  let main_v232 : IVec S6x1024 32 := addi main_v228 main_v231
  let main_v233 : IVec S6x1024 32 := select main_v230 main_v232 main_v228
  let main_v234 : IVec S6x1024x1 32 := broadcastInDim S6x1024x1 ![0, 1] bcast_S6x1024_S6x1024x1_0_1 main_v233
  let main_v235 : FVec F S6x1024 .f32 := (fun x i => Host.gather gather_S132_S6x1024x1_S6x1024_n_0_n_n_0_2_1 x i) main_v60 main_v234
  let main_cst_54 : FVec F S_ .f32 := constant S_ .f32 0x00000000#32
  let main_v236 : FVec F S1024 .f32 := broadcastInDim S1024 ![] bcast_S_S1024 main_cst_54
  let main_cst_55 : FVec F S_ .f32 := constant S_ .f32 0x00000000#32
  let main_v237 : FVec F S1024 .f32 := broadcastInDim S1024 ![] bcast_S_S1024 main_cst_55
  let main_cst_56 : FVec F S_ .f32 := constant S_ .f32 0x00000000#32
  let main_v238 : FVec F S1024 .f32 := broadcastInDim S1024 ![] bcast_S_S1024 main_cst_56
  let main_cst_57 : FVec F S_ .f32 := constant S_ .f32 0x00000000#32
  let main_v239 : FVec F S1024 .f32 := broadcastInDim S1024 ![] bcast_S_S1024 main_cst_57
  let main_cst_58 : FVec F S_ .f32 := constant S_ .f32 0x3F800000#32
  let main_v240 : FVec F S1024 .f32 := broadcastInDim S1024 ![] bcast_S_S1024 main_cst_58
  let main_cst_59 : FVec F S_ .f32 := constant S_ .f32 0x00000000#32
  let main_v241 : FVec F S1024 .f32 := broadcastInDim S1024 ![] bcast_S_S1024 main_cst_59
  let main_v242 : FVec F S1x1024 .f32 := (extractStridedSlice S1x1024 ![3, 0] · slices_S6x1024_S1x1024_3_0) main_v235
  let main_v243 : FVec F S1024 .f32 := shapeCast S1024 main_v242 shapeCasts_S1x1024_S1024
  let main_v244 : FVec F S1x1024 .f32 := (extractStridedSlice S1x1024 ![2, 0] · slices_S6x1024_S1x1024_2_0) main_v235
  let main_v245 : FVec F S1024 .f32 := shapeCast S1024 main_v244 shapeCasts_S1x1024_S1024
  let main_v246 : FVec F S1024 .f32 := subf main_v243 main_arg3
  let main_v247 : FVec F S1024 .f32 := subf main_arg3 main_v245
  let main_v248 : FVec F S1024 .f32 := addf main_v246 main_v247
  let main_cst_60 : FVec F S_ .f32 := constant S_ .f32 0x00000000#32
  fn_part13 (F := F) main_arg3 main_v3 main_v7 main_v11 main_v15 main_v18 main_v21 main_v22 main_v77 main_v207 main_v220 main_v235 main_v240 main_v241 main_v243 main_v245 main_v248 main_cst_60

def fn_part11 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v77 : IVec S1024 32) (main_v207 : FVec F S4x1024 .f32) (main_v213 : FVec F S126x1024 .f32) : IVec S_ 1 :=
  let main_cst_48 : FVec F S_ .f32 := constant S_ .f32 0x322BCC77#32
  let main_v214 : FVec F S126x1024 .f32 := broadcastInDim S126x1024 ![] bcast_S_S126x1024 main_cst_48
  let main_v215 : IVec S126x1024 1 := cmpf .ogt main_v213 main_v214
  let main_cst_49 : FVec F S_ .f32 := constant S_ .f32 0x3F800000#32
  let main_v216 : FVec F S126x1024 .f32 := broadcastInDim S126x1024 ![] bcast_S_S126x1024 main_cst_49
  let main_v217 : FVec F S126x1024 .f32 := fn_where_1 (F := F) main_v215 main_v213 main_v216
  let main_v218 : IVec S1024 32 := fn_argmin (F := F) main_v217
  let main_c_50 : IVec S_ 32 := constantI S_ 32 3#32
  let main_v219 : IVec S1024 32 := broadcastInDim S1024 ![] bcast_S_S1024 main_c_50
  let main_v220 : IVec S1024 32 := addi main_v218 main_v219
  let main_v221 : IVec S1x1024 32 := broadcastInDim S1x1024 ![1] bcast_S1024_S1x1024_1 main_v220
  let main_v222 : IVec S6 32 := iotaInDim S6 32 0
  let main_c_51 : IVec S_ 32 := constantI S_ 32 4294967294#32
  let main_v223 : IVec S6 32 := broadcastInDim S6 ![] bcast_S_S6 main_c_51
  let main_v224 : IVec S6 32 := addi main_v222 main_v223
  let main_v225 : IVec S6x1 32 := broadcastInDim S6x1 ![0] bcast_S6_S6x1_0 main_v224
  let main_v226 : IVec S6x1024 32 := broadcastInDim S6x1024 ![0, 1] bcast_S1x1024_S6x1024_0_1 main_v221
  let main_v227 : IVec S6x1024 32 := broadcastInDim S6x1024 ![0, 1] bcast_S6x1_S6x1024_0_1 main_v225
  let main_v228 : IVec S6x1024 32 := addi main_v226 main_v227
  let main_c_52 : IVec S_ 32 := constantI S_ 32 0#32
  let main_v229 : IVec S6x1024 32 := broadcastInDim S6x1024 ![] bcast_S_S6x1024 main_c_52
  let main_v230 : IVec S6x1024 1 := cmpi .slt main_v228 main_v229
  let main_c_53 : IVec S_ 32 := constantI S_ 32 132#32
  let main_v231 : IVec S6x1024 32 := broadcastInDim S6x1024 ![] bcast_S_S6x1024 main_c_53
  fn_part12 (F := F) main_arg3 main_v3 main_v7 main_v11 main_v15 main_v18 main_v21 main_v22 main_v60 main_v77 main_v207 main_v220 main_v228 main_v230 main_v231

def fn_part10 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v61 : FVec F S1024 .f32) (main_v77 : IVec S1024 32) (main_v150 : FVec F S1024 .f32) (main_v166 : FVec F S1024 .f32) (main_v183 : FVec F S1024 .f32) (main_v185 : FVec F S1024 .f32) (main_v187 : FVec F S1024 .f32) (main_v189 : FVec F S1024 .f32) (main_v190 : FVec F S1024 .f32) (main_v191 : FVec F S1024 .f32) : IVec S_ 1 :=
  let main_v192 : FVec F S1024 .f32 := addf main_v190 main_v191
  let main_cst_46 : FVec F S_ .f32 := constant S_ .f32 0x00000000#32
  let main_v193 : FVec F S1024 .f32 := broadcastInDim S1024 ![] bcast_S_S1024 main_cst_46
  let main_v194 : IVec S1024 1 := cmpf .oeq main_v192 main_v193
  let main_cst_47 : FVec F S_ .f32 := constant S_ .f32 0x38D1B717#32
  let main_v195 : FVec F S1024 .f32 := broadcastInDim S1024 ![] bcast_S_S1024 main_cst_47
  let main_v196 : FVec F S1024 .f32 := Host.divf main_v150 main_v192
  let main_v197 : FVec F S1024 .f32 := fn_where_3 (F := F) main_v194 main_v195 main_v196
  let main_v198 : FVec F S1024 .f32 := subf main_v187 main_v61
  let main_v199 : FVec F S1024 .f32 := mulf main_v198 main_v197
  let main_v200 : FVec F S1024 .f32 := addf main_v185 main_v199
  let main_v201 : FVec F S1024 .f32 := subf main_v61 main_v189
  let main_v202 : FVec F S1024 .f32 := mulf main_v201 main_v197
  let main_v203 : FVec F S1x1024 .f32 := broadcastInDim S1x1024 ![1] bcast_S1024_S1x1024_1 main_v166
  let main_v204 : FVec F S1x1024 .f32 := broadcastInDim S1x1024 ![1] bcast_S1024_S1x1024_1 main_v183
  let main_v205 : FVec F S1x1024 .f32 := broadcastInDim S1x1024 ![1] bcast_S1024_S1x1024_1 main_v200
  let main_v206 : FVec F S1x1024 .f32 := broadcastInDim S1x1024 ![1] bcast_S1024_S1x1024_1 main_v202
  let main_v207 : FVec F S4x1024 .f32 := concatenate S4x1024 0 [⟨S1x1024, main_v203⟩, ⟨S1x1024, main_v204⟩, ⟨S1x1024, main_v205⟩, ⟨S1x1024, main_v206⟩] concatenates_S1x1024_S1x1024_S1x1024_S1x1024_S4x1024_d0
  let main_v208 : FVec F S1x1024 .f32 := broadcastInDim S1x1024 ![1] bcast_S1024_S1x1024_1 main_arg3
  let main_v209 : FVec F S126 .f32 := (extractStridedSlice S126 ![3] · slices_S132_S126_3) main_v60
  let main_v210 : FVec F S126x1 .f32 := broadcastInDim S126x1 ![0] bcast_S126_S126x1_0 main_v209
  let main_v211 : FVec F S126x1024 .f32 := broadcastInDim S126x1024 ![0, 1] bcast_S1x1024_S126x1024_0_1 main_v208
  let main_v212 : FVec F S126x1024 .f32 := broadcastInDim S126x1024 ![0, 1] bcast_S126x1_S126x1024_0_1 main_v210
  let main_v213 : FVec F S126x1024 .f32 := subf main_v211 main_v212
  fn_part11 (F := F) main_arg3 main_v3 main_v7 main_v11 main_v15 main_v18 main_v21 main_v22 main_v60 main_v77 main_v207 main_v213

def fn_part9 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v61 : FVec F S1024 .f32) (main_v77 : IVec S1024 32) (main_v92 : FVec F S6x1024 .f32) (main_v148 : FVec F S1024 .f32) (main_v150 : FVec F S1024 .f32) (main_v166 : FVec F S1024 .f32) (main_v168 : FVec F S1024 .f32) (main_v169 : FVec F S1x1024 .f32) : IVec S_ 1 :=
  let main_v170 : FVec F S1024 .f32 := shapeCast S1024 main_v169 shapeCasts_S1x1024_S1024
  let main_v171 : FVec F S1x1024 .f32 := (extractStridedSlice S1x1024 ![1, 0] · slices_S6x1024_S1x1024_1_0) main_v92
  let main_v172 : FVec F S1024 .f32 := shapeCast S1024 main_v171 shapeCasts_S1x1024_S1024
  let main_v173 : FVec F S1024 .f32 := subf main_v170 main_v61
  let main_v174 : FVec F S1024 .f32 := subf main_v61 main_v172
  let main_v175 : FVec F S1024 .f32 := addf main_v173 main_v174
  let main_cst_44 : FVec F S_ .f32 := constant S_ .f32 0x00000000#32
  let main_v176 : FVec F S1024 .f32 := broadcastInDim S1024 ![] bcast_S_S1024 main_cst_44
  let main_v177 : IVec S1024 1 := cmpf .oeq main_v175 main_v176
  let main_cst_45 : FVec F S_ .f32 := constant S_ .f32 0x38D1B717#32
  let main_v178 : FVec F S1024 .f32 := broadcastInDim S1024 ![] bcast_S_S1024 main_cst_45
  let main_v179 : FVec F S1024 .f32 := Host.divf main_v148 main_v175
  let main_v180 : FVec F S1024 .f32 := fn_where_3 (F := F) main_v177 main_v178 main_v179
  let main_v181 : FVec F S1024 .f32 := subf main_v170 main_v61
  let main_v182 : FVec F S1024 .f32 := mulf main_v181 main_v180
  let main_v183 : FVec F S1024 .f32 := addf main_v168 main_v182
  let main_v184 : FVec F S1024 .f32 := subf main_v61 main_v172
  let main_v185 : FVec F S1024 .f32 := mulf main_v184 main_v180
  let main_v186 : FVec F S1x1024 .f32 := (extractStridedSlice S1x1024 ![5, 0] · slices_S6x1024_S1x1024_5_0) main_v92
  let main_v187 : FVec F S1024 .f32 := shapeCast S1024 main_v186 shapeCasts_S1x1024_S1024
  let main_v188 : FVec F S1x1024 .f32 := (extractStridedSlice S1x1024 ![2, 0] · slices_S6x1024_S1x1024_2_0) main_v92
  let main_v189 : FVec F S1024 .f32 := shapeCast S1024 main_v188 shapeCasts_S1x1024_S1024
  let main_v190 : FVec F S1024 .f32 := subf main_v187 main_v61
  let main_v191 : FVec F S1024 .f32 := subf main_v61 main_v189
  fn_part10 (F := F) main_arg3 main_v3 main_v7 main_v11 main_v15 main_v18 main_v21 main_v22 main_v60 main_v61 main_v77 main_v150 main_v166 main_v183 main_v185 main_v187 main_v189 main_v190 main_v191

def fn_part8 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v61 : FVec F S1024 .f32) (main_v77 : IVec S1024 32) (main_v92 : FVec F S6x1024 .f32) (main_v131 : FVec F S1024 .f32) (main_v137 : FVec F S1024 .f32) (main_v145 : FVec F S1024 .f32) (main_v148 : FVec F S1024 .f32) : IVec S_ 1 :=
  let main_v149 : FVec F S1024 .f32 := subf main_v61 main_v137
  let main_v150 : FVec F S1024 .f32 := mulf main_v149 main_v145
  let main_cst_41 : FVec F S_ .f32 := constant S_ .f32 0x00000000#32
  let main_v151 : FVec F S1024 .f32 := broadcastInDim S1024 ![] bcast_S_S1024 main_cst_41
  let main_v152 : FVec F S1x1024 .f32 := (extractStridedSlice S1x1024 ![3, 0] · slices_S6x1024_S1x1024_3_0) main_v92
  let main_v153 : FVec F S1024 .f32 := shapeCast S1024 main_v152 shapeCasts_S1x1024_S1024
  let main_v154 : FVec F S1x1024 .f32 := (extractStridedSlice S1x1024 ![0, 0] · slices_S6x1024_S1x1024_0_0) main_v92
  let main_v155 : FVec F S1024 .f32 := shapeCast S1024 main_v154 shapeCasts_S1x1024_S1024
  let main_v156 : FVec F S1024 .f32 := subf main_v153 main_v61
  let main_v157 : FVec F S1024 .f32 := subf main_v61 main_v155
  let main_v158 : FVec F S1024 .f32 := addf main_v156 main_v157
  let main_cst_42 : FVec F S_ .f32 := constant S_ .f32 0x00000000#32
  let main_v159 : FVec F S1024 .f32 := broadcastInDim S1024 ![] bcast_S_S1024 main_cst_42
  let main_v160 : IVec S1024 1 := cmpf .oeq main_v158 main_v159
  let main_cst_43 : FVec F S_ .f32 := constant S_ .f32 0x38D1B717#32
  let main_v161 : FVec F S1024 .f32 := broadcastInDim S1024 ![] bcast_S_S1024 main_cst_43
  let main_v162 : FVec F S1024 .f32 := Host.divf main_v131 main_v158
  let main_v163 : FVec F S1024 .f32 := fn_where_3 (F := F) main_v160 main_v161 main_v162
  let main_v164 : FVec F S1024 .f32 := subf main_v153 main_v61
  let main_v165 : FVec F S1024 .f32 := mulf main_v164 main_v163
  let main_v166 : FVec F S1024 .f32 := addf main_v151 main_v165
  let main_v167 : FVec F S1024 .f32 := subf main_v61 main_v155
  let main_v168 : FVec F S1024 .f32 := mulf main_v167 main_v163
  let main_v169 : FVec F S1x1024 .f32 := (extractStridedSlice S1x1024 ![4, 0] · slices_S6x1024_S1x1024_4_0) main_v92
  fn_part9 (F := F) main_arg3 main_v3 main_v7 main_v11 main_v15 main_v18 main_v21 main_v22 main_v60 main_v61 main_v77 main_v92 main_v148 main_v150 main_v166 main_v168 main_v169

def fn_part7 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v61 : FVec F S1024 .f32) (main_v77 : IVec S1024 32) (main_v92 : FVec F S6x1024 .f32) (main_v113 : FVec F S1024 .f32) (main_v115 : FVec F S1024 .f32) (main_v116 : FVec F S1024 .f32) (main_v118 : FVec F S1024 .f32) (main_v120 : FVec F S1024 .f32) (main_v123 : FVec F S1024 .f32) (main_v125 : IVec S1024 1) (main_v126 : FVec F S1024 .f32) : IVec S_ 1 :=
  let main_v127 : FVec F S1024 .f32 := Host.divf main_v113 main_v123
  let main_v128 : FVec F S1024 .f32 := fn_where_3 (F := F) main_v125 main_v126 main_v127
  let main_v129 : FVec F S1024 .f32 := subf main_v118 main_v61
  let main_v130 : FVec F S1024 .f32 := mulf main_v129 main_v128
  let main_v131 : FVec F S1024 .f32 := addf main_v116 main_v130
  let main_v132 : FVec F S1024 .f32 := subf main_v61 main_v120
  let main_v133 : FVec F S1024 .f32 := mulf main_v132 main_v128
  let main_v134 : FVec F S1x1024 .f32 := (extractStridedSlice S1x1024 ![4, 0] · slices_S6x1024_S1x1024_4_0) main_v92
  let main_v135 : FVec F S1024 .f32 := shapeCast S1024 main_v134 shapeCasts_S1x1024_S1024
  let main_v136 : FVec F S1x1024 .f32 := (extractStridedSlice S1x1024 ![2, 0] · slices_S6x1024_S1x1024_2_0) main_v92
  let main_v137 : FVec F S1024 .f32 := shapeCast S1024 main_v136 shapeCasts_S1x1024_S1024
  let main_v138 : FVec F S1024 .f32 := subf main_v135 main_v61
  let main_v139 : FVec F S1024 .f32 := subf main_v61 main_v137
  let main_v140 : FVec F S1024 .f32 := addf main_v138 main_v139
  let main_cst_39 : FVec F S_ .f32 := constant S_ .f32 0x00000000#32
  let main_v141 : FVec F S1024 .f32 := broadcastInDim S1024 ![] bcast_S_S1024 main_cst_39
  let main_v142 : IVec S1024 1 := cmpf .oeq main_v140 main_v141
  let main_cst_40 : FVec F S_ .f32 := constant S_ .f32 0x38D1B717#32
  let main_v143 : FVec F S1024 .f32 := broadcastInDim S1024 ![] bcast_S_S1024 main_cst_40
  let main_v144 : FVec F S1024 .f32 := Host.divf main_v115 main_v140
  let main_v145 : FVec F S1024 .f32 := fn_where_3 (F := F) main_v142 main_v143 main_v144
  let main_v146 : FVec F S1024 .f32 := subf main_v135 main_v61
  let main_v147 : FVec F S1024 .f32 := mulf main_v146 main_v145
  let main_v148 : FVec F S1024 .f32 := addf main_v133 main_v147
  fn_part8 (F := F) main_arg3 main_v3 main_v7 main_v11 main_v15 main_v18 main_v21 main_v22 main_v60 main_v61 main_v77 main_v92 main_v131 main_v137 main_v145 main_v148

def fn_part6 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v60 : FVec F S132 .f32) (main_v61 : FVec F S1024 .f32) (main_v77 : IVec S1024 32) (main_v92 : FVec F S6x1024 .f32) (main_v97 : FVec F S1024 .f32) (main_v98 : FVec F S1024 .f32) (main_v100 : FVec F S1024 .f32) (main_v102 : FVec F S1024 .f32) (main_v105 : FVec F S1024 .f32) (main_v106 : FVec F S1024 .f32) : IVec S_ 1 :=
  let main_v107 : IVec S1024 1 := cmpf .oeq main_v105 main_v106
  let main_cst_35 : FVec F S_ .f32 := constant S_ .f32 0x38D1B717#32
  let main_v108 : FVec F S1024 .f32 := broadcastInDim S1024 ![] bcast_S_S1024 main_cst_35
  let main_v109 : FVec F S1024 .f32 := Host.divf main_v97 main_v105
  let main_v110 : FVec F S1024 .f32 := fn_where_3 (F := F) main_v107 main_v108 main_v109
  let main_v111 : FVec F S1024 .f32 := subf main_v100 main_v61
  let main_v112 : FVec F S1024 .f32 := mulf main_v111 main_v110
  let main_v113 : FVec F S1024 .f32 := addf main_v98 main_v112
  let main_v114 : FVec F S1024 .f32 := subf main_v61 main_v102
  let main_v115 : FVec F S1024 .f32 := mulf main_v114 main_v110
  let main_cst_36 : FVec F S_ .f32 := constant S_ .f32 0x00000000#32
  let main_v116 : FVec F S1024 .f32 := broadcastInDim S1024 ![] bcast_S_S1024 main_cst_36
  let main_v117 : FVec F S1x1024 .f32 := (extractStridedSlice S1x1024 ![3, 0] · slices_S6x1024_S1x1024_3_0) main_v92
  let main_v118 : FVec F S1024 .f32 := shapeCast S1024 main_v117 shapeCasts_S1x1024_S1024
  let main_v119 : FVec F S1x1024 .f32 := (extractStridedSlice S1x1024 ![1, 0] · slices_S6x1024_S1x1024_1_0) main_v92
  let main_v120 : FVec F S1024 .f32 := shapeCast S1024 main_v119 shapeCasts_S1x1024_S1024
  let main_v121 : FVec F S1024 .f32 := subf main_v118 main_v61
  let main_v122 : FVec F S1024 .f32 := subf main_v61 main_v120
  let main_v123 : FVec F S1024 .f32 := addf main_v121 main_v122
  let main_cst_37 : FVec F S_ .f32 := constant S_ .f32 0x00000000#32
  let main_v124 : FVec F S1024 .f32 := broadcastInDim S1024 ![] bcast_S_S1024 main_cst_37
  let main_v125 : IVec S1024 1 := cmpf .oeq main_v123 main_v124
  let main_cst_38 : FVec F S_ .f32 := constant S_ .f32 0x38D1B717#32
  let main_v126 : FVec F S1024 .f32 := broadcastInDim S1024 ![] bcast_S_S1024 main_cst_38
  fn_part7 (F := F) main_arg3 main_v3 main_v7 main_v11 main_v15 main_v18 main_v21 main_v22 main_v60 main_v61 main_v77 main_v92 main_v113 main_v115 main_v116 main_v118 main_v120 main_v123 main_v125 main_v126

def fn_part5 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v41 : FVec F S132 .f32) (main_v60 : FVec F S132 .f32) (main_v61 : FVec F S1024 .f32) (main_v77 : IVec S1024 32) (main_v85 : IVec S6x1024 32) (main_v87 : IVec S6x1024 1) (main_v89 : IVec S6x1024 32) : IVec S_ 1 :=
  let main_v90 : IVec S6x1024 32 := select main_v87 main_v89 main_v85
  let main_v91 : IVec S6x1024x1 32 := broadcastInDim S6x1024x1 ![0, 1] bcast_S6x1024_S6x1024x1_0_1 main_v90
  let main_v92 : FVec F S6x1024 .f32 := (fun x i => Host.gather gather_S132_S6x1024x1_S6x1024_n_0_n_n_0_2_1 x i) main_v41 main_v91
  let main_cst_28 : FVec F S_ .f32 := constant S_ .f32 0x00000000#32
  let main_v93 : FVec F S1024 .f32 := broadcastInDim S1024 ![] bcast_S_S1024 main_cst_28
  let main_cst_29 : FVec F S_ .f32 := constant S_ .f32 0x00000000#32
  let main_v94 : FVec F S1024 .f32 := broadcastInDim S1024 ![] bcast_S_S1024 main_cst_29
  let main_cst_30 : FVec F S_ .f32 := constant S_ .f32 0x00000000#32
  let main_v95 : FVec F S1024 .f32 := broadcastInDim S1024 ![] bcast_S_S1024 main_cst_30
  let main_cst_31 : FVec F S_ .f32 := constant S_ .f32 0x00000000#32
  let main_v96 : FVec F S1024 .f32 := broadcastInDim S1024 ![] bcast_S_S1024 main_cst_31
  let main_cst_32 : FVec F S_ .f32 := constant S_ .f32 0x3F800000#32
  let main_v97 : FVec F S1024 .f32 := broadcastInDim S1024 ![] bcast_S_S1024 main_cst_32
  let main_cst_33 : FVec F S_ .f32 := constant S_ .f32 0x00000000#32
  let main_v98 : FVec F S1024 .f32 := broadcastInDim S1024 ![] bcast_S_S1024 main_cst_33
  let main_v99 : FVec F S1x1024 .f32 := (extractStridedSlice S1x1024 ![3, 0] · slices_S6x1024_S1x1024_3_0) main_v92
  let main_v100 : FVec F S1024 .f32 := shapeCast S1024 main_v99 shapeCasts_S1x1024_S1024
  let main_v101 : FVec F S1x1024 .f32 := (extractStridedSlice S1x1024 ![2, 0] · slices_S6x1024_S1x1024_2_0) main_v92
  let main_v102 : FVec F S1024 .f32 := shapeCast S1024 main_v101 shapeCasts_S1x1024_S1024
  let main_v103 : FVec F S1024 .f32 := subf main_v100 main_v61
  let main_v104 : FVec F S1024 .f32 := subf main_v61 main_v102
  let main_v105 : FVec F S1024 .f32 := addf main_v103 main_v104
  let main_cst_34 : FVec F S_ .f32 := constant S_ .f32 0x00000000#32
  let main_v106 : FVec F S1024 .f32 := broadcastInDim S1024 ![] bcast_S_S1024 main_cst_34
  fn_part6 (F := F) main_arg3 main_v3 main_v7 main_v11 main_v15 main_v18 main_v21 main_v22 main_v60 main_v61 main_v77 main_v92 main_v97 main_v98 main_v100 main_v102 main_v105 main_v106

def fn_part4 {F : FTy → Type} [FloatOps F] (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v41 : FVec F S132 .f32) (main_v60 : FVec F S132 .f32) (main_v61 : FVec F S1024 .f32) (main_v71 : FVec F S126x1024 .f32) : IVec S_ 1 :=
  let main_v72 : IVec S1024 32 := fn_argmin (F := F) main_v71
  let main_c_22 : IVec S_ 32 := constantI S_ 32 3#32
  let main_v73 : IVec S1024 32 := broadcastInDim S1024 ![] bcast_S_S1024 main_c_22
  let main_v74 : IVec S1024 32 := addi main_v72 main_v73
  let main_c_23 : IVec S_ 32 := constantI S_ 32 1024#32
  let main_v75 : IVec S1024 32 := broadcastInDim S1024 ![] bcast_S_S1024 main_c_23
  let main_v76 : IVec S1024 1 := cmpi .eq main_v74 main_v75
  let main_c_24 : IVec S_ 32 := constantI S_ 32 1023#32
  let main_v77 : IVec S1024 32 := fn_where_2 (F := F) main_v76 main_c_24 main_v74
  let main_v78 : IVec S1x1024 32 := broadcastInDim S1x1024 ![1] bcast_S1024_S1x1024_1 main_v77
  let main_v79 : IVec S6 32 := iotaInDim S6 32 0
  let main_c_25 : IVec S_ 32 := constantI S_ 32 4294967294#32
  let main_v80 : IVec S6 32 := broadcastInDim S6 ![] bcast_S_S6 main_c_25
  let main_v81 : IVec S6 32 := addi main_v79 main_v80
  let main_v82 : IVec S6x1 32 := broadcastInDim S6x1 ![0] bcast_S6_S6x1_0 main_v81
  let main_v83 : IVec S6x1024 32 := broadcastInDim S6x1024 ![0, 1] bcast_S1x1024_S6x1024_0_1 main_v78
  let main_v84 : IVec S6x1024 32 := broadcastInDim S6x1024 ![0, 1] bcast_S6x1_S6x1024_0_1 main_v82
  let main_v85 : IVec S6x1024 32 := addi main_v83 main_v84
  let main_c_26 : IVec S_ 32 := constantI S_ 32 0#32
  let main_v86 : IVec S6x1024 32 := broadcastInDim S6x1024 ![] bcast_S_S6x1024 main_c_26
  let main_v87 : IVec S6x1024 1 := cmpi .slt main_v85 main_v86
  let main_c_27 : IVec S_ 32 := constantI S_ 32 132#32
  let main_v88 : IVec S6x1024 32 := broadcastInDim S6x1024 ![] bcast_S_S6x1024 main_c_27
  let main_v89 : IVec S6x1024 32 := addi main_v85 main_v88
  fn_part5 (F := F) main_arg3 main_v3 main_v7 main_v11 main_v15 main_v18 main_v21 main_v22 main_v41 main_v60 main_v61 main_v77 main_v85 main_v87 main_v89

def fn_part3 {F : FTy → Type} [FloatOps F] (main_arg2 : FVec F S1024 .f32) (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v41 : FVec F S132 .f32) (main_v49 : FVec F S132 .f32) : IVec S_ 1 :=
  let main_v50 : FVec F S1 .f32 := (extractStridedSlice S1 ![0] · slices_S132_S1_0) main_v49
  let main_v51 : FVec F S_ .f32 := shapeCast S_ main_v50 shapeCasts_S1_S_
  let main_v52 : FVec F S132 .f32 := broadcastInDim S132 ![] bcast_S_S132 main_v51
  let main_v53 : FVec F S132 .f32 := subf main_v49 main_v52
  let main_v54 : FVec F S1 .f32 := (extractStridedSlice S1 ![131] · slices_S132_S1_131) main_v49
  let main_v55 : FVec F S_ .f32 := shapeCast S_ main_v54 shapeCasts_S1_S_
  let main_v56 : FVec F S1 .f32 := (extractStridedSlice S1 ![0] · slices_S132_S1_0) main_v49
  let main_v57 : FVec F S_ .f32 := shapeCast S_ main_v56 shapeCasts_S1_S_
  let main_v58 : FVec F S_ .f32 := subf main_v55 main_v57
  let main_v59 : FVec F S132 .f32 := broadcastInDim S132 ![] bcast_S_S132 main_v58
  let main_v60 : FVec F S132 .f32 := Host.divf main_v53 main_v59
  let main_v61 : FVec F S1024 .f32 := fn_sort (F := F) main_arg2
  let main_v62 : FVec F S1x1024 .f32 := broadcastInDim S1x1024 ![1] bcast_S1024_S1x1024_1 main_v61
  let main_v63 : FVec F S126 .f32 := (extractStridedSlice S126 ![3] · slices_S132_S126_3) main_v41
  let main_v64 : FVec F S126x1 .f32 := broadcastInDim S126x1 ![0] bcast_S126_S126x1_0 main_v63
  let main_v65 : FVec F S126x1024 .f32 := broadcastInDim S126x1024 ![0, 1] bcast_S1x1024_S126x1024_0_1 main_v62
  let main_v66 : FVec F S126x1024 .f32 := broadcastInDim S126x1024 ![0, 1] bcast_S126x1_S126x1024_0_1 main_v64
  let main_v67 : FVec F S126x1024 .f32 := subf main_v65 main_v66
  let main_cst_20 : FVec F S_ .f32 := constant S_ .f32 0x322BCC77#32
  let main_v68 : FVec F S126x1024 .f32 := broadcastInDim S126x1024 ![] bcast_S_S126x1024 main_cst_20
  let main_v69 : IVec S126x1024 1 := cmpf .ogt main_v67 main_v68
  let main_cst_21 : FVec F S_ .f32 := constant S_ .f32 0x3F800000#32
  let main_v70 : FVec F S126x1024 .f32 := broadcastInDim S126x1024 ![] bcast_S_S126x1024 main_cst_21
  let main_v71 : FVec F S126x1024 .f32 := fn_where_1 (F := F) main_v69 main_v67 main_v70
  fn_part4 (F := F) main_arg3 main_v3 main_v7 main_v11 main_v15 main_v18 main_v21 main_v22 main_v41 main_v60 main_v61 main_v71

def fn_part2 {F : FTy → Type} [FloatOps F] (main_arg2 : FVec F S1024 .f32) (main_arg3 : FVec F S1024 .f32) (main_v3 : IVec S_ 1) (main_v7 : IVec S_ 1) (main_v11 : IVec S_ 1) (main_v15 : IVec S_ 1) (main_v18 : IVec S_ 1) (main_v21 : IVec S_ 1) (main_v22 : FVec F S128x128x1 .f32) (main_v30 : FVec F S132 .f32) : IVec S_ 1 :=
  let main_v31 : FVec F S1 .f32 := (extractStridedSlice S1 ![0] · slices_S132_S1_0) main_v30
  let main_v32 : FVec F S_ .f32 := shapeCast S_ main_v31 shapeCasts_S1_S_
  let main_v33 : FVec F S132 .f32 := broadcastInDim S132 ![] bcast_S_S132 main_v32
  let main_v34 : FVec F S132 .f32 := subf main_v30 main_v33
  let main_v35 : FVec F S1 .f32 := (extractStridedSlice S1 ![131] · slices_S132_S1_131) main_v30
  let main_v36 : FVec F S_ .f32 := shapeCast S_ main_v35 shapeCasts_S1_S_
  let main_v37 : FVec F S1 .f32 := (extractStridedSlice S1 ![0] · slices_S132_S1_0) main_v30
  let main_v38 : FVec F S_ .f32 := shapeCast S_ main_v37 shapeCasts_S1_S_
  let main_v39 : FVec F S_ .f32 := subf main_v36 main_v38
  let main_v40 : FVec F S132 .f32 := broadcastInDim S132 ![] bcast_S_S132 main_v39
  let main_v41 : FVec F S132 .f32 := Host.divf main_v34 main_v40
  let main_cst_15 : FVec F S_ .f32 := constant S_ .f32 0x00000000#32
  let main_v42 : FVec F S4 .f32 := broadcastInDim S4 ![] bcast_S_S4 main_cst_15
  let main_cst_16 : FVec F S_ .f32 := constant S_ .f32 0x3F800000#32
  let main_v43 : FVec F S125 .f32 := broadcastInDim S125 ![] bcast_S_S125 main_cst_16
  let main_cst_17 : FVec F S_ .f32 := constant S_ .f32 0x00000000#32
  let main_v44 : FVec F S3 .f32 := broadcastInDim S3 ![] bcast_S_S3 main_cst_17
  let main_v45 : FVec F S132 .f32 := concatenate S132 0 [⟨S4, main_v42⟩, ⟨S125, main_v43⟩, ⟨S3, main_v44⟩] concatenates_S4_S125_S3_S132_d0
  let main_cst_18 : FVec F S_ .f32 := constant S_ .f32 0x00000000#32
  let main_v46 : FVec F S132 .f32 := broadcastInDim S132 ![] bcast_S_S132 main_cst_18
  let main_v47 : IVec S132 1 := cmpf .olt main_v45 main_v46
  let main_cst_19 : FVec F S_ .f32 := constant S_ .f32 0x38D1B717#32
  let main_v48 : FVec F S132 .f32 := fn_where (F := F) main_v47 main_cst_19 main_v45
  let main_v49 : FVec F S132 .f32 := fn_cumsum (F := F) main_v48
  fn_part3 (F := F) main_arg2 main_arg3 main_v3 main_v7 main_v11 main_v15 main_v18 main_v21 main_v22 main_v41 main_v49

def fn_part1 {F : FTy → Type} [FloatOps F] (main_arg1 : FVec F S1x128x128x1 .f32) (main_arg2 : FVec F S1024 .f32) (main_arg3 : FVec F S1024 .f32) (main_v3 : IVec S_ 1) (main_v7 : IVec S_ 1) (main_v11 : IVec S_ 1) (main_v15 : IVec S_ 1) : IVec S_ 1 :=
  let main_cst_6 : FVec F S_ .f32 := constant S_ .f32 0x3F800000#32
  let main_v16 : FVec F S1024 .f32 := broadcastInDim S1024 ![] bcast_S_S1024 main_cst_6
  let main_v17 : IVec S1024 1 := cmpf .ole main_arg2 main_v16
  let main_c_7 : IVec S_ 1 := constantI S_ 1 1#1
  let main_v18 : IVec S_ 1 := (fun x v => Host.reduce IntOp.andi x v reducesTo_S1024_S_d0 h_S_) main_v17 main_c_7
  let main_cst_8 : FVec F S_ .f32 := constant S_ .f32 0x3F800000#32
  let main_v19 : FVec F S1024 .f32 := broadcastInDim S1024 ![] bcast_S_S1024 main_cst_8
  let main_v20 : IVec S1024 1 := cmpf .ole main_arg3 main_v19
  let main_c_9 : IVec S_ 1 := constantI S_ 1 1#1
  let main_v21 : IVec S_ 1 := (fun x v => Host.reduce IntOp.andi x v reducesTo_S1024_S_d0 h_S_) main_v20 main_c_9
  let main_v22 : FVec F S128x128x1 .f32 := shapeCast S128x128x1 main_arg1 shapeCasts_S1x128x128x1_S128x128x1
  let main_cst_10 : FVec F S_ .f32 := constant S_ .f32 0x00000000#32
  let main_v23 : FVec F S4 .f32 := broadcastInDim S4 ![] bcast_S_S4 main_cst_10
  let main_cst_11 : FVec F S_ .f32 := constant S_ .f32 0x3F800000#32
  let main_v24 : FVec F S125 .f32 := broadcastInDim S125 ![] bcast_S_S125 main_cst_11
  let main_cst_12 : FVec F S_ .f32 := constant S_ .f32 0x00000000#32
  let main_v25 : FVec F S3 .f32 := broadcastInDim S3 ![] bcast_S_S3 main_cst_12
  let main_v26 : FVec F S132 .f32 := concatenate S132 0 [⟨S4, main_v23⟩, ⟨S125, main_v24⟩, ⟨S3, main_v25⟩] concatenates_S4_S125_S3_S132_d0
  let main_cst_13 : FVec F S_ .f32 := constant S_ .f32 0x00000000#32
  let main_v27 : FVec F S132 .f32 := broadcastInDim S132 ![] bcast_S_S132 main_cst_13
  let main_v28 : IVec S132 1 := cmpf .olt main_v26 main_v27
  let main_cst_14 : FVec F S_ .f32 := constant S_ .f32 0x38D1B717#32
  let main_v29 : FVec F S132 .f32 := fn_where (F := F) main_v28 main_cst_14 main_v26
  let main_v30 : FVec F S132 .f32 := fn_cumsum (F := F) main_v29
  fn_part2 (F := F) main_arg2 main_arg3 main_v3 main_v7 main_v11 main_v15 main_v18 main_v21 main_v22 main_v30

def fn {F : FTy → Type} [FloatOps F] (main_arg0 : FVec F S1x128x128x3 .f32) (main_arg1 : FVec F S1x128x128x1 .f32) (main_arg2 : FVec F S1024 .f32) (main_arg3 : FVec F S1024 .f32) : IVec S_ 1 :=
  let main_v0 : FVec F S1x128x128x3 .f32 := Host.absf main_arg0
  let main_cst : FVec F S_ .f32 := constant S_ .f32 0x7F800000#32
  let main_v1 : FVec F S1x128x128x3 .f32 := broadcastInDim S1x128x128x3 ![] bcast_S_S1x128x128x3 main_cst
  let main_v2 : IVec S1x128x128x3 1 := cmpf .olt main_v0 main_v1
  let main_c : IVec S_ 1 := constantI S_ 1 1#1
  let main_v3 : IVec S_ 1 := (fun x v => Host.reduce IntOp.andi x v reducesTo_S1x128x128x3_S_d0_1_2_3 h_S_) main_v2 main_c
  let main_v4 : FVec F S1x128x128x1 .f32 := Host.absf main_arg1
  let main_cst_0 : FVec F S_ .f32 := constant S_ .f32 0x7F800000#32
  let main_v5 : FVec F S1x128x128x1 .f32 := broadcastInDim S1x128x128x1 ![] bcast_S_S1x128x128x1 main_cst_0
  let main_v6 : IVec S1x128x128x1 1 := cmpf .olt main_v4 main_v5
  let main_c_1 : IVec S_ 1 := constantI S_ 1 1#1
  let main_v7 : IVec S_ 1 := (fun x v => Host.reduce IntOp.andi x v reducesTo_S1x128x128x1_S_d0_1_2_3 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg1 main_arg2 main_arg3 main_v3 main_v7 main_v11 main_v15
-- ==== Kernel.lean ====
abbrev S1x128x128x3 : Shape := ⟨4, ![1, 128, 128, 3]⟩
abbrev S1x128x128x1 : Shape := ⟨4, ![1, 128, 128, 1]⟩
abbrev S1024 : Shape := ⟨1, ![1024]⟩
abbrev S128x384 : Shape := ⟨2, ![128, 384]⟩
abbrev S128x128 : Shape := ⟨2, ![128, 128]⟩
abbrev S1x1024 : Shape := ⟨2, ![1, 1024]⟩
abbrev S1024x1 : Shape := ⟨2, ![1024, 1]⟩
abbrev S3x1024x1024 : Shape := ⟨3, ![3, 1024, 1024]⟩
abbrev S3x256x1024 : Shape := ⟨3, ![3, 256, 1024]⟩
abbrev S4x128x1024 : Shape := ⟨3, ![4, 128, 1024]⟩
abbrev S384x128 : Shape := ⟨2, ![384, 128]⟩
abbrev S128x1024 : Shape := ⟨2, ![128, 1024]⟩
abbrev S1x128x1024 : Shape := ⟨3, ![1, 128, 1024]⟩
abbrev S1024x1024 : Shape := ⟨2, ![1024, 1024]⟩
abbrev S1024x256 : Shape := ⟨2, ![1024, 256]⟩
abbrev S256 : Shape := ⟨1, ![256]⟩
abbrev S1x256 : Shape := ⟨2, ![1, 256]⟩
abbrev S128x256 : Shape := ⟨2, ![128, 256]⟩
abbrev S256x1024 : Shape := ⟨2, ![256, 1024]⟩
abbrev S1x256x1024 : Shape := ⟨3, ![1, 256, 1024]⟩
abbrev S1024x1024x3 : Shape := ⟨3, ![1024, 1024, 3]⟩
abbrev S1x1024x1024x3 : Shape := ⟨4, ![1, 1024, 1024, 3]⟩

abbrev nBuf : Space → Nat
  | .hbm => 12
  | .vmem => 10
  | .smem => 0
  | _ => 0

abbrev bufTy : (tb : Table) → Fin (tcTables nBuf tb) → BufTy
  | .hbm, ⟨0, _⟩ => ⟨S1x128x128x3, .f32⟩
  | .hbm, ⟨1, _⟩ => ⟨S1x128x128x1, .f32⟩
  | .hbm, ⟨2, _⟩ => ⟨S1024, .f32⟩
  | .hbm, ⟨3, _⟩ => ⟨S1024, .f32⟩
  | .hbm, ⟨4, _⟩ => ⟨S128x384, .f32⟩
  | .hbm, ⟨5, _⟩ => ⟨S128x128, .f32⟩
  | .hbm, ⟨6, _⟩ => ⟨S1x1024, .f32⟩
  | .hbm, ⟨7, _⟩ => ⟨S1024x1, .f32⟩
  | .hbm, ⟨8, _⟩ => ⟨S1x1024, .f32⟩
  | .hbm, ⟨9, _⟩ => ⟨S3x1024x1024, .f32⟩
  | .hbm, ⟨10, _⟩ => ⟨S1024x1024x3, .f32⟩
  | .hbm, ⟨11, _⟩ => ⟨S1x1024x1024x3, .f32⟩
  | .local _ .vmem, ⟨0, _⟩ => ⟨S128x384, .f32⟩
  | .local _ .vmem, ⟨1, _⟩ => ⟨S128x128, .f32⟩
  | .local _ .vmem, ⟨2, _⟩ => ⟨S1x1024, .f32⟩
  | .local _ .vmem, ⟨3, _⟩ => ⟨S1024x1, .f32⟩
  | .local _ .vmem, ⟨4, _⟩ => ⟨S1x1024, .f32⟩
  | .local _ .vmem, ⟨5, _⟩ => ⟨S3x256x1024, .f32⟩
  | .local _ .vmem, ⟨6, _⟩ => ⟨S3x256x1024, .f32⟩
  | .local _ .vmem, ⟨7, _⟩ => ⟨S1024x1, .i32⟩
  | .local _ .vmem, ⟨8, _⟩ => ⟨S4x128x1024, .bf16⟩
  | .local _ .vmem, ⟨9, _⟩ => ⟨S4x128x1024, .bf16⟩
  | _, _ => ⟨S1x128x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x128x128x3 : Shape := ⟨4, ![1, 128, 128, 3]⟩
abbrev S1x128x128x1 : Shape := ⟨4, ![1, 128, 128, 1]⟩
abbrev S1024 : Shape := ⟨1, ![1024]⟩
abbrev S1x128x128x4 : Shape := ⟨4, ![1, 128, 128, 4]⟩
abbrev S128x128x4 : Shape := ⟨3, ![128, 128, 4]⟩
abbrev S_ : Shape := ⟨0, ![]⟩
abbrev S4 : Shape := ⟨1, ![4]⟩
abbrev S125 : Shape := ⟨1, ![125]⟩
abbrev S3 : Shape := ⟨1, ![3]⟩
abbrev S132 : Shape := ⟨1, ![132]⟩
abbrev S1 : Shape := ⟨1, ![1]⟩
abbrev S1x1024 : Shape := ⟨2, ![1, 1024]⟩
abbrev S126 : Shape := ⟨1, ![126]⟩
abbrev S126x1 : Shape := ⟨2, ![126, 1]⟩
abbrev S126x1024 : Shape := ⟨2, ![126, 1024]⟩
abbrev S6 : Shape := ⟨1, ![6]⟩
abbrev S6x1 : Shape := ⟨2, ![6, 1]⟩
abbrev S6x1024 : Shape := ⟨2, ![6, 1024]⟩
abbrev S6x1024x1 : Shape := ⟨3, ![6, 1024, 1]⟩
abbrev S4x1024 : Shape := ⟨2, ![4, 1024]⟩
abbrev S4x1 : Shape := ⟨2, ![4, 1]⟩
abbrev S4x1024x1 : Shape := ⟨3, ![4, 1024, 1]⟩
abbrev S4x1024x128x4 : Shape := ⟨4, ![4, 1024, 128, 4]⟩
abbrev S4x1024x4x1024x4 : Shape := ⟨5, ![4, 1024, 4, 1024, 4]⟩
abbrev S4x1024x1x1x1 : Shape := ⟨5, ![4, 1024, 1, 1, 1]⟩
abbrev S1x1x4x1024x1 : Shape := ⟨5, ![1, 1, 4, 1024, 1]⟩
abbrev S1024x1024x4 : Shape := ⟨3, ![1024, 1024, 4]⟩
abbrev S1x1024x1024x4 : Shape := ⟨4, ![1, 1024, 1024, 4]⟩
abbrev S1x1024x1024x3 : Shape := ⟨4, ![1, 1024, 1024, 3]⟩
abbrev S1x1024x1024x1 : Shape := ⟨4, ![1, 1024, 1024, 1]⟩

abbrev nBuf : Space → Nat
  | .hbm => 465
  | .vmem => 0
  | .smem => 0
  | _ => 0

abbrev hbmTy0_0 (i : Nat) : BufTy := match i % 128 with
  | 0 => ⟨S1x128x128x3, .f32⟩
  | 1 => ⟨S1x128x128x1, .f32⟩
  | 2 => ⟨S1024, .f32⟩
  | 3 => ⟨S1024, .f32⟩
  | 4 => ⟨S1x128x128x3, .f32⟩
  | 5 => ⟨S1x128x128x3, .f32⟩
  | 6 => ⟨S1x128x128x4, .f32⟩
  | 7 => ⟨S128x128x4, .f32⟩
  | 8 => ⟨S_, .f32⟩
  | 9 => ⟨S4, .f32⟩
  | 10 => ⟨S_, .f32⟩
  | 11 => ⟨S125, .f32⟩
  | 12 => ⟨S_, .f32⟩
  | 13 => ⟨S3, .f32⟩
  | 14 => ⟨S132, .f32⟩
  | 15 => ⟨S_, .f32⟩
  | 16 => ⟨S132, .f32⟩
  | 17 => ⟨S132, .i1⟩
  | 18 => ⟨S_, .f32⟩
  | 19 => ⟨S132, .f32⟩
  | 20 => ⟨S132, .f32⟩
  | 21 => ⟨S_, .f32⟩
  | 22 => ⟨S_, .f32⟩
  | 23 => ⟨S132, .f32⟩
  | 24 => ⟨S1, .f32⟩
  | 25 => ⟨S_, .f32⟩
  | 26 => ⟨S132, .f32⟩
  | 27 => ⟨S132, .f32⟩
  | 28 => ⟨S1, .f32⟩
  | 29 => ⟨S_, .f32⟩
  | 30 => ⟨S1, .f32⟩
  | 31 => ⟨S_, .f32⟩
  | 32 => ⟨S_, .f32⟩
  | 33 => ⟨S132, .f32⟩
  | 34 => ⟨S132, .f32⟩
  | 35 => ⟨S_, .f32⟩
  | 36 => ⟨S4, .f32⟩
  | 37 => ⟨S_, .f32⟩
  | 38 => ⟨S125, .f32⟩
  | 39 => ⟨S_, .f32⟩
  | 40 => ⟨S3, .f32⟩
  | 41 => ⟨S132, .f32⟩
  | 42 => ⟨S_, .f32⟩
  | 43 => ⟨S132, .f32⟩
  | 44 => ⟨S132, .i1⟩
  | 45 => ⟨S_, .f32⟩
  | 46 => ⟨S132, .f32⟩
  | 47 => ⟨S132, .f32⟩
  | 48 => ⟨S_, .f32⟩
  | 49 => ⟨S_, .f32⟩
  | 50 => ⟨S132, .f32⟩
  | 51 => ⟨S1, .f32⟩
  | 52 => ⟨S_, .f32⟩
  | 53 => ⟨S132, .f32⟩
  | 54 => ⟨S132, .f32⟩
  | 55 => ⟨S1, .f32⟩
  | 56 => ⟨S_, .f32⟩
  | 57 => ⟨S1, .f32⟩
  | 58 => ⟨S_, .f32⟩
  | 59 => ⟨S_, .f32⟩
  | 60 => ⟨S132, .f32⟩
  | 61 => ⟨S132, .f32⟩
  | 62 => ⟨S1024, .f32⟩
  | 63 => ⟨S1x1024, .f32⟩
  | 64 => ⟨S126, .f32⟩
  | 65 => ⟨S126x1, .f32⟩
  | 66 => ⟨S126x1024, .f32⟩
  | 67 => ⟨S126x1024, .f32⟩
  | 68 => ⟨S126x1024, .f32⟩
  | 69 => ⟨S_, .f32⟩
  | 70 => ⟨S126x1024, .f32⟩
  | 71 => ⟨S126x1024, .i1⟩
  | 72 => ⟨S_, .f32⟩
  | 73 => ⟨S126x1024, .f32⟩
  | 74 => ⟨S126x1024, .f32⟩
  | 75 => ⟨S126x1024, .i32⟩
  | 76 => ⟨S_, .f32⟩
  | 77 => ⟨S_, .i32⟩
  | 78 => ⟨S1024, .f32⟩
  | 79 => ⟨S1024, .i32⟩
  | 80 => ⟨S_, .i32⟩
  | 81 => ⟨S1024, .i32⟩
  | 82 => ⟨S1024, .i32⟩
  | 83 => ⟨S_, .i32⟩
  | 84 => ⟨S1024, .i32⟩
  | 85 => ⟨S1024, .i1⟩
  | 86 => ⟨S_, .i32⟩
  | 87 => ⟨S_, .i32⟩
  | 88 => ⟨S1024, .i32⟩
  | 89 => ⟨S1024, .i32⟩
  | 90 => ⟨S1x1024, .i32⟩
  | 91 => ⟨S6, .i32⟩
  | 92 => ⟨S_, .i32⟩
  | 93 => ⟨S6, .i32⟩
  | 94 => ⟨S6, .i32⟩
  | 95 => ⟨S6x1, .i32⟩
  | 96 => ⟨S6x1024, .i32⟩
  | 97 => ⟨S6x1024, .i32⟩
  | 98 => ⟨S6x1024, .i32⟩
  | 99 => ⟨S_, .i32⟩
  | 100 => ⟨S6x1024, .i32⟩
  | 101 => ⟨S6x1024, .i1⟩
  | 102 => ⟨S_, .i32⟩
  | 103 => ⟨S6x1024, .i32⟩
  | 104 => ⟨S6x1024, .i32⟩
  | 105 => ⟨S6x1024, .i32⟩
  | 106 => ⟨S6x1024x1, .i32⟩
  | 107 => ⟨S6x1024, .f32⟩
  | 108 => ⟨S_, .f32⟩
  | 109 => ⟨S1024, .f32⟩
  | 110 => ⟨S_, .f32⟩
  | 111 => ⟨S1024, .f32⟩
  | 112 => ⟨S_, .f32⟩
  | 113 => ⟨S1024, .f32⟩
  | 114 => ⟨S_, .f32⟩
  | 115 => ⟨S1024, .f32⟩
  | 116 => ⟨S_, .f32⟩
  | 117 => ⟨S1024, .f32⟩
  | 118 => ⟨S_, .f32⟩
  | 119 => ⟨S1024, .f32⟩
  | 120 => ⟨S1x1024, .f32⟩
  | 121 => ⟨S1024, .f32⟩
  | 122 => ⟨S1x1024, .f32⟩
  | 123 => ⟨S1024, .f32⟩
  | 124 => ⟨S1024, .f32⟩
  | 125 => ⟨S1024, .f32⟩
  | 126 => ⟨S1024, .f32⟩
  | 127 => ⟨S_, .f32⟩
  | _ => ⟨S1x128x128x3, .f32⟩

abbrev hbmTy0_1 (i : Nat) : BufTy := match i % 128 with
  | 0 => ⟨S1024, .f32⟩
  | 1 => ⟨S1024, .i1⟩
  | 2 => ⟨S_, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S_, .f32⟩
  | 12 => ⟨S1024, .f32⟩
  | 13 => ⟨S1x1024, .f32⟩
  | 14 => ⟨S1024, .f32⟩
  | 15 => ⟨S1x1024, .f32⟩
  | 16 => ⟨S1024, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .i1⟩
  | 23 => ⟨S_, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S1024, .f32⟩
  | 31 => ⟨S1024, .f32⟩
  | 32 => ⟨S1x1024, .f32⟩
  | 33 => ⟨S1024, .f32⟩
  | 34 => ⟨S1x1024, .f32⟩
  | 35 => ⟨S1024, .f32⟩
  | 36 => ⟨S1024, .f32⟩
  | 37 => ⟨S1024, .f32⟩
  | 38 => ⟨S1024, .f32⟩
  | 39 => ⟨S_, .f32⟩
  | 40 => ⟨S1024, .f32⟩
  | 41 => ⟨S1024, .i1⟩
  | 42 => ⟨S_, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S_, .f32⟩
  | 52 => ⟨S1024, .f32⟩
  | 53 => ⟨S1x1024, .f32⟩
  | 54 => ⟨S1024, .f32⟩
  | 55 => ⟨S1x1024, .f32⟩
  | 56 => ⟨S1024, .f32⟩
  | 57 => ⟨S1024, .f32⟩
  | 58 => ⟨S1024, .f32⟩
  | 59 => ⟨S1024, .f32⟩
  | 60 => ⟨S_, .f32⟩
  | 61 => ⟨S1024, .f32⟩
  | 62 => ⟨S1024, .i1⟩
  | 63 => ⟨S_, .f32⟩
  | 64 => ⟨S1024, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S1024, .f32⟩
  | 72 => ⟨S1x1024, .f32⟩
  | 73 => ⟨S1024, .f32⟩
  | 74 => ⟨S1x1024, .f32⟩
  | 75 => ⟨S1024, .f32⟩
  | 76 => ⟨S1024, .f32⟩
  | 77 => ⟨S1024, .f32⟩
  | 78 => ⟨S1024, .f32⟩
  | 79 => ⟨S_, .f32⟩
  | 80 => ⟨S1024, .f32⟩
  | 81 => ⟨S1024, .i1⟩
  | 82 => ⟨S_, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1x1024, .f32⟩
  | 92 => ⟨S1024, .f32⟩
  | 93 => ⟨S1x1024, .f32⟩
  | 94 => ⟨S1024, .f32⟩
  | 95 => ⟨S1024, .f32⟩
  | 96 => ⟨S1024, .f32⟩
  | 97 => ⟨S1024, .f32⟩
  | 98 => ⟨S_, .f32⟩
  | 99 => ⟨S1024, .f32⟩
  | 100 => ⟨S1024, .i1⟩
  | 101 => ⟨S_, .f32⟩
  | 102 => ⟨S1024, .f32⟩
  | 103 => ⟨S1024, .f32⟩
  | 104 => ⟨S1024, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1x1024, .f32⟩
  | 111 => ⟨S1x1024, .f32⟩
  | 112 => ⟨S1x1024, .f32⟩
  | 113 => ⟨S1x1024, .f32⟩
  | 114 => ⟨S4x1024, .f32⟩
  | 115 => ⟨S1x1024, .f32⟩
  | 116 => ⟨S126, .f32⟩
  | 117 => ⟨S126x1, .f32⟩
  | 118 => ⟨S126x1024, .f32⟩
  | 119 => ⟨S126x1024, .f32⟩
  | 120 => ⟨S126x1024, .f32⟩
  | 121 => ⟨S_, .f32⟩
  | 122 => ⟨S126x1024, .f32⟩
  | 123 => ⟨S126x1024, .i1⟩
  | 124 => ⟨S_, .f32⟩
  | 125 => ⟨S126x1024, .f32⟩
  | 126 => ⟨S126x1024, .f32⟩
  | 127 => ⟨S126x1024, .i32⟩
  | _ => ⟨S1x128x128x3, .f32⟩

abbrev hbmTy0_2 (i : Nat) : BufTy := match i % 128 with
  | 0 => ⟨S_, .f32⟩
  | 1 => ⟨S_, .i32⟩
  | 2 => ⟨S1024, .f32⟩
  | 3 => ⟨S1024, .i32⟩
  | 4 => ⟨S_, .i32⟩
  | 5 => ⟨S1024, .i32⟩
  | 6 => ⟨S1024, .i32⟩
  | 7 => ⟨S1x1024, .i32⟩
  | 8 => ⟨S6, .i32⟩
  | 9 => ⟨S_, .i32⟩
  | 10 => ⟨S6, .i32⟩
  | 11 => ⟨S6, .i32⟩
  | 12 => ⟨S6x1, .i32⟩
  | 13 => ⟨S6x1024, .i32⟩
  | 14 => ⟨S6x1024, .i32⟩
  | 15 => ⟨S6x1024, .i32⟩
  | 16 => ⟨S_, .i32⟩
  | 17 => ⟨S6x1024, .i32⟩
  | 18 => ⟨S6x1024, .i1⟩
  | 19 => ⟨S_, .i32⟩
  | 20 => ⟨S6x1024, .i32⟩
  | 21 => ⟨S6x1024, .i32⟩
  | 22 => ⟨S6x1024, .i32⟩
  | 23 => ⟨S6x1024x1, .i32⟩
  | 24 => ⟨S6x1024, .f32⟩
  | 25 => ⟨S_, .f32⟩
  | 26 => ⟨S1024, .f32⟩
  | 27 => ⟨S_, .f32⟩
  | 28 => ⟨S1024, .f32⟩
  | 29 => ⟨S_, .f32⟩
  | 30 => ⟨S1024, .f32⟩
  | 31 => ⟨S_, .f32⟩
  | 32 => ⟨S1024, .f32⟩
  | 33 => ⟨S_, .f32⟩
  | 34 => ⟨S1024, .f32⟩
  | 35 => ⟨S_, .f32⟩
  | 36 => ⟨S1024, .f32⟩
  | 37 => ⟨S1x1024, .f32⟩
  | 38 => ⟨S1024, .f32⟩
  | 39 => ⟨S1x1024, .f32⟩
  | 40 => ⟨S1024, .f32⟩
  | 41 => ⟨S1024, .f32⟩
  | 42 => ⟨S1024, .f32⟩
  | 43 => ⟨S1024, .f32⟩
  | 44 => ⟨S_, .f32⟩
  | 45 => ⟨S1024, .f32⟩
  | 46 => ⟨S1024, .i1⟩
  | 47 => ⟨S_, .f32⟩
  | 48 => ⟨S1024, .f32⟩
  | 49 => ⟨S1024, .f32⟩
  | 50 => ⟨S1024, .f32⟩
  | 51 => ⟨S1024, .f32⟩
  | 52 => ⟨S1024, .f32⟩
  | 53 => ⟨S1024, .f32⟩
  | 54 => ⟨S1024, .f32⟩
  | 55 => ⟨S1024, .f32⟩
  | 56 => ⟨S_, .f32⟩
  | 57 => ⟨S1024, .f32⟩
  | 58 => ⟨S1x1024, .f32⟩
  | 59 => ⟨S1024, .f32⟩
  | 60 => ⟨S1x1024, .f32⟩
  | 61 => ⟨S1024, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .i1⟩
  | 68 => ⟨S_, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1024, .f32⟩
  | 75 => ⟨S1024, .f32⟩
  | 76 => ⟨S1024, .f32⟩
  | 77 => ⟨S1x1024, .f32⟩
  | 78 => ⟨S1024, .f32⟩
  | 79 => ⟨S1x1024, .f32⟩
  | 80 => ⟨S1024, .f32⟩
  | 81 => ⟨S1024, .f32⟩
  | 82 => ⟨S1024, .f32⟩
  | 83 => ⟨S1024, .f32⟩
  | 84 => ⟨S_, .f32⟩
  | 85 => ⟨S1024, .f32⟩
  | 86 => ⟨S1024, .i1⟩
  | 87 => ⟨S_, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S_, .f32⟩
  | 97 => ⟨S1024, .f32⟩
  | 98 => ⟨S1x1024, .f32⟩
  | 99 => ⟨S1024, .f32⟩
  | 100 => ⟨S1x1024, .f32⟩
  | 101 => ⟨S1024, .f32⟩
  | 102 => ⟨S1024, .f32⟩
  | 103 => ⟨S1024, .f32⟩
  | 104 => ⟨S1024, .f32⟩
  | 105 => ⟨S_, .f32⟩
  | 106 => ⟨S1024, .f32⟩
  | 107 => ⟨S1024, .i1⟩
  | 108 => ⟨S_, .f32⟩
  | 109 => ⟨S1024, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S1x1024, .f32⟩
  | 118 => ⟨S1024, .f32⟩
  | 119 => ⟨S1x1024, .f32⟩
  | 120 => ⟨S1024, .f32⟩
  | 121 => ⟨S1024, .f32⟩
  | 122 => ⟨S1024, .f32⟩
  | 123 => ⟨S1024, .f32⟩
  | 124 => ⟨S_, .f32⟩
  | 125 => ⟨S1024, .f32⟩
  | 126 => ⟨S1024, .i1⟩
  | 127 => ⟨S_, .f32⟩
  | _ => ⟨S1x128x128x3, .f32⟩

abbrev hbmTy0_3 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1x1024, .f32⟩
  | 9 => ⟨S1024, .f32⟩
  | 10 => ⟨S1x1024, .f32⟩
  | 11 => ⟨S1024, .f32⟩
  | 12 => ⟨S1024, .f32⟩
  | 13 => ⟨S1024, .f32⟩
  | 14 => ⟨S1024, .f32⟩
  | 15 => ⟨S_, .f32⟩
  | 16 => ⟨S1024, .f32⟩
  | 17 => ⟨S1024, .i1⟩
  | 18 => ⟨S_, .f32⟩
  | 19 => ⟨S1024, .f32⟩
  | 20 => ⟨S1024, .f32⟩
  | 21 => ⟨S1024, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1x1024, .f32⟩
  | 28 => ⟨S1x1024, .f32⟩
  | 29 => ⟨S1x1024, .f32⟩
  | 30 => ⟨S1x1024, .f32⟩
  | 31 => ⟨S4x1024, .f32⟩
  | 32 => ⟨S_, .i32⟩
  | 33 => ⟨S1024, .i32⟩
  | 34 => ⟨S1024, .i32⟩
  | 35 => ⟨S1x1024, .i32⟩
  | 36 => ⟨S4, .i32⟩
  | 37 => ⟨S4x1, .i32⟩
  | 38 => ⟨S4x1024, .i32⟩
  | 39 => ⟨S4x1024, .i32⟩
  | 40 => ⟨S4x1024, .i32⟩
  | 41 => ⟨S_, .i32⟩
  | 42 => ⟨S1024, .i32⟩
  | 43 => ⟨S1024, .i32⟩
  | 44 => ⟨S1x1024, .i32⟩
  | 45 => ⟨S4, .i32⟩
  | 46 => ⟨S4x1, .i32⟩
  | 47 => ⟨S4x1024, .i32⟩
  | 48 => ⟨S4x1024, .i32⟩
  | 49 => ⟨S4x1024, .i32⟩
  | 50 => ⟨S_, .i32⟩
  | 51 => ⟨S4x1024, .i32⟩
  | 52 => ⟨S4x1024, .i1⟩
  | 53 => ⟨S_, .i32⟩
  | 54 => ⟨S4x1024, .i32⟩
  | 55 => ⟨S4x1024, .i32⟩
  | 56 => ⟨S4x1024, .i32⟩
  | 57 => ⟨S4x1024x1, .i32⟩
  | 58 => ⟨S4x1024x128x4, .f32⟩
  | 59 => ⟨S_, .i32⟩
  | 60 => ⟨S4x1024, .i32⟩
  | 61 => ⟨S4x1024, .i1⟩
  | 62 => ⟨S_, .i32⟩
  | 63 => ⟨S4x1024, .i32⟩
  | 64 => ⟨S4x1024, .i32⟩
  | 65 => ⟨S4x1024, .i32⟩
  | 66 => ⟨S4x1024x1, .i32⟩
  | 67 => ⟨S4x1024x4x1024x4, .f32⟩
  | 68 => ⟨S4x1024x1x1x1, .f32⟩
  | 69 => ⟨S4x1024x4x1024x4, .f32⟩
  | 70 => ⟨S4x1024x4x1024x4, .f32⟩
  | 71 => ⟨S1x1x4x1024x1, .f32⟩
  | 72 => ⟨S4x1024x4x1024x4, .f32⟩
  | 73 => ⟨S4x1024x4x1024x4, .f32⟩
  | 74 => ⟨S_, .f32⟩
  | 75 => ⟨S1024x1024x4, .f32⟩
  | 76 => ⟨S1x1024x1024x4, .f32⟩
  | 77 => ⟨S1x1024x1024x3, .f32⟩
  | 78 => ⟨S1x1024x1024x1, .f32⟩
  | 79 => ⟨S1x1024x1024x3, .f32⟩
  | 80 => ⟨S1x1024x1024x3, .f32⟩
  | _ => ⟨S1x128x128x3, .f32⟩

abbrev hbmTy (i : Nat) : BufTy := match i / 128 with
  | 0 => hbmTy0_0 i
  | 1 => hbmTy0_1 i
  | 2 => hbmTy0_2 i
  | 3 => hbmTy0_3 i
  | _ => ⟨S1x128x128x3, .f32⟩

abbrev bufTy : (tb : Table) → Fin (tcTables nBuf tb) → BufTy
  | .hbm, ⟨i, _⟩ => hbmTy i
  | _, _ => ⟨S1x128x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_call0_v0 : Ref sig .tc := ⟨.hbm, 19, rfl⟩
abbrev main_v10 : Ref sig .tc := ⟨.hbm, 20, rfl⟩
abbrev main_call1_call0_cst : Ref sig .tc := ⟨.hbm, 21, rfl⟩
abbrev main_call1_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_call2_v0 : Ref sig .tc := ⟨.hbm, 46, rfl⟩
abbrev main_v29 : Ref sig .tc := ⟨.hbm, 47, rfl⟩
abbrev main_call3_call0_cst : Ref sig .tc := ⟨.hbm, 48, rfl⟩
abbrev main_call3_call0_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_call6_v0 : Ref sig .tc := ⟨.hbm, 75, rfl⟩
abbrev main_call6_cst : Ref sig .tc := ⟨.hbm, 76, rfl⟩
abbrev main_call6_c : Ref sig .tc := ⟨.hbm, 77, rfl⟩
abbrev main_call6_v1_0 : Ref sig .tc := ⟨.hbm, 78, rfl⟩
abbrev main_v53 : Ref sig .tc := ⟨.hbm, 79, rfl⟩
abbrev main_c : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_call7_v0 : Ref sig .tc := ⟨.hbm, 87, rfl⟩
abbrev main_call7_v1 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_16 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_cst_19 : Ref sig .tc := ⟨.hbm, 114, rfl⟩
abbrev main_v77 : Ref sig .tc := ⟨.hbm, 115, rfl⟩
abbrev main_cst_20 : Ref sig .tc := ⟨.hbm, 116, rfl⟩
abbrev main_v78 : Ref sig .tc := ⟨.hbm, 117, rfl⟩
abbrev main_cst_21 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_22 : Ref sig .tc := ⟨.hbm, 127, rfl⟩
abbrev main_v87 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_24 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_25 : Ref sig .tc := ⟨.hbm, 148, rfl⟩
abbrev main_v105 : Ref sig .tc := ⟨.hbm, 149, rfl⟩
abbrev main_v106 : Ref sig .tc := ⟨.hbm, 150, rfl⟩
abbrev main_cst_26 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_27 : Ref sig .tc := ⟨.hbm, 167, rfl⟩
abbrev main_v122 : Ref sig .tc := ⟨.hbm, 168, rfl⟩
abbrev main_v123 : Ref sig .tc := ⟨.hbm, 169, rfl⟩
abbrev main_cst_28 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_29 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_30 : Ref sig .tc := ⟨.hbm, 188, rfl⟩
abbrev main_v140 : Ref sig .tc := ⟨.hbm, 189, rfl⟩
abbrev main_v141 : Ref sig .tc := ⟨.hbm, 190, rfl⟩
abbrev main_cst_31 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_32 : Ref sig .tc := ⟨.hbm, 207, rfl⟩
abbrev main_v157 : Ref sig .tc := ⟨.hbm, 208, rfl⟩
abbrev main_v158 : Ref sig .tc := ⟨.hbm, 209, rfl⟩
abbrev main_cst_33 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_cst_34 : Ref sig .tc := ⟨.hbm, 226, rfl⟩
abbrev main_v174 : Ref sig .tc := ⟨.hbm, 227, rfl⟩
abbrev main_v175 : Ref sig .tc := ⟨.hbm, 228, rfl⟩
abbrev main_cst_35 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_36 : Ref sig .tc := ⟨.hbm, 249, rfl⟩
abbrev main_v195 : Ref sig .tc := ⟨.hbm, 250, rfl⟩
abbrev main_v196 : Ref sig .tc := ⟨.hbm, 251, rfl⟩
abbrev main_cst_37 : Ref sig .tc := ⟨.hbm, 252, rfl⟩
abbrev main_v197 : Ref sig .tc := ⟨.hbm, 253, rfl⟩
abbrev main_v198 : Ref sig .tc := ⟨.hbm, 254, rfl⟩
abbrev main_call15_v0 : Ref sig .tc := ⟨.hbm, 255, rfl⟩
abbrev main_call15_cst : Ref sig .tc := ⟨.hbm, 256, rfl⟩
abbrev main_call15_c : Ref sig .tc := ⟨.hbm, 257, rfl⟩
abbrev main_call15_v1_0 : Ref sig .tc := ⟨.hbm, 258, rfl⟩
abbrev main_v199 : Ref sig .tc := ⟨.hbm, 259, rfl⟩
abbrev main_c_38 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_c_39 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_c_40 : Ref sig .tc := ⟨.hbm, 272, rfl⟩
abbrev main_v210 : Ref sig .tc := ⟨.hbm, 273, rfl⟩
abbrev main_v211 : Ref sig .tc := ⟨.hbm, 274, rfl⟩
abbrev main_c_41 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_cst_42 : Ref sig .tc := ⟨.hbm, 281, rfl⟩
abbrev main_v217 : Ref sig .tc := ⟨.hbm, 282, rfl⟩
abbrev main_cst_43 : Ref sig .tc := ⟨.hbm, 283, rfl⟩
abbrev main_v218 : Ref sig .tc := ⟨.hbm, 284, rfl⟩
abbrev main_cst_44 : Ref sig .tc := ⟨.hbm, 285, rfl⟩
abbrev main_v219 : Ref sig .tc := ⟨.hbm, 286, rfl⟩
abbrev main_cst_45 : Ref sig .tc := ⟨.hbm, 287, rfl⟩
abbrev main_v220 : Ref sig .tc := ⟨.hbm, 288, rfl⟩
abbrev main_cst_46 : Ref sig .tc := ⟨.hbm, 289, rfl⟩
abbrev main_v221 : Ref sig .tc := ⟨.hbm, 290, rfl⟩
abbrev main_cst_47 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_cst_48 : Ref sig .tc := ⟨.hbm, 300, rfl⟩
abbrev main_v230 : Ref sig .tc := ⟨.hbm, 301, rfl⟩
abbrev main_v231 : Ref sig .tc := ⟨.hbm, 302, rfl⟩
abbrev main_cst_49 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_cst_50 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_cst_51 : Ref sig .tc := ⟨.hbm, 321, rfl⟩
abbrev main_v248 : Ref sig .tc := ⟨.hbm, 322, rfl⟩
abbrev main_v249 : Ref sig .tc := ⟨.hbm, 323, rfl⟩
abbrev main_cst_52 : Ref sig .tc := ⟨.hbm, 324, rfl⟩
abbrev main_v250 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_v264 : Ref sig .tc := ⟨.hbm, 339, rfl⟩
abbrev main_cst_53 : Ref sig .tc := ⟨.hbm, 340, rfl⟩
abbrev main_v265 : Ref sig .tc := ⟨.hbm, 341, rfl⟩
abbrev main_v266 : Ref sig .tc := ⟨.hbm, 342, rfl⟩
abbrev main_cst_54 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_cst_55 : Ref sig .tc := ⟨.hbm, 352, rfl⟩
abbrev main_v275 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_cst_56 : Ref sig .tc := ⟨.hbm, 361, rfl⟩
abbrev main_v283 : Ref sig .tc := ⟨.hbm, 362, rfl⟩
abbrev main_v284 : Ref sig .tc := ⟨.hbm, 363, rfl⟩
abbrev main_cst_57 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_cst_58 : Ref sig .tc := ⟨.hbm, 380, rfl⟩
abbrev main_v300 : Ref sig .tc := ⟨.hbm, 381, rfl⟩
abbrev main_v301 : Ref sig .tc := ⟨.hbm, 382, rfl⟩
abbrev main_cst_59 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_cst_60 : Ref sig .tc := ⟨.hbm, 399, rfl⟩
abbrev main_v317 : Ref sig .tc := ⟨.hbm, 400, rfl⟩
abbrev main_v318 : Ref sig .tc := ⟨.hbm, 401, rfl⟩
abbrev main_cst_61 : Ref sig .tc := ⟨.hbm, 402, rfl⟩
abbrev main_v319 : Ref sig .tc := ⟨.hbm, 403, rfl⟩
abbrev main_v320 : Ref sig .tc := ⟨.hbm, 404, rfl⟩
abbrev main_v321 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_c_62 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_c_63 : Ref sig .tc := ⟨.hbm, 425, rfl⟩
abbrev main_v340 : Ref sig .tc := ⟨.hbm, 426, rfl⟩
abbrev main_v341 : Ref sig .tc := ⟨.hbm, 427, rfl⟩
abbrev main_v342 : Ref sig .tc := ⟨.hbm, 428, rfl⟩
abbrev main_v343 : Ref sig .tc := ⟨.hbm, 429, rfl⟩
abbrev main_v344 : Ref sig .tc := ⟨.hbm, 430, rfl⟩
abbrev main_v345 : Ref sig .tc := ⟨.hbm, 431, rfl⟩
abbrev main_v346 : Ref sig .tc := ⟨.hbm, 432, rfl⟩
abbrev main_v347 : Ref sig .tc := ⟨.hbm, 433, rfl⟩
abbrev main_c_64 : Ref sig .tc := ⟨.hbm, 434, rfl⟩
abbrev main_v348 : Ref sig .tc := ⟨.hbm, 435, rfl⟩
abbrev main_v349 : Ref sig .tc := ⟨.hbm, 436, rfl⟩
abbrev main_c_65 : Ref sig .tc := ⟨.hbm, 437, rfl⟩
abbrev main_v350 : Ref sig .tc := ⟨.hbm, 438, rfl⟩
abbrev main_v351 : Ref sig .tc := ⟨.hbm, 439, rfl⟩
abbrev main_v352 : Ref sig .tc := ⟨.hbm, 440, rfl⟩
abbrev main_v353 : Ref sig .tc := ⟨.hbm, 441, rfl⟩
abbrev main_v354 : Ref sig .tc := ⟨.hbm, 442, rfl⟩
abbrev main_c_66 : Ref sig .tc := ⟨.hbm, 443, rfl⟩
abbrev main_v355 : Ref sig .tc := ⟨.hbm, 444, rfl⟩
abbrev main_v356 : Ref sig .tc := ⟨.hbm, 445, rfl⟩
abbrev main_c_67 : Ref sig .tc := ⟨.hbm, 446, rfl⟩
abbrev main_v357 : Ref sig .tc := ⟨.hbm, 447, rfl⟩
abbrev main_v358 : Ref sig .tc := ⟨.hbm, 448, rfl⟩
abbrev main_v359 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_v367 : Ref sig .tc := ⟨.hbm, 457, rfl⟩
abbrev main_cst_68 : Ref sig .tc := ⟨.hbm, 458, rfl⟩
abbrev main_v368 : Ref sig .tc := ⟨.hbm, 459, rfl⟩
abbrev main_v369 : Ref sig .tc := ⟨.hbm, 460, rfl⟩
abbrev main_v370 : Ref sig .tc := ⟨.hbm, 461, rfl⟩
abbrev main_v371 : Ref sig .tc := ⟨.hbm, 462, rfl⟩
abbrev main_v372 : Ref sig .tc := ⟨.hbm, 463, rfl⟩
abbrev main_v373 : Ref sig .tc := ⟨.hbm, 464, rfl⟩

abbrev nD : Nat := 1
abbrev τ : Topo := Topo.v7x

variable {F : FTy → Type} [FloatOps F]
-- ==== Proof.RefFrame.lean ====
module
public import proofs.«01_k».proof.Defs
public import proofs.«01_k».proof.Proof.Gen.ReferenceIdeal
public import Idealize.ShloMosaic.Lib.Claim
public import Idealize.ShloMosaic.Lib.Quiescent

@[expose] public section
set_option maxRecDepth 65536

/-! # The reference's frame -/

noncomputable section
namespace Cert.Proof
open Idealize.ShloMosaic Idealize.SL.Sem

set_option maxHeartbeats 8000000 in
/-- The reference leaves its arguments as they were and has no semaphore. -/
theorem frame_ref : Cert.quiescent_ReferenceIdeal := by
  intro m g _
  hlo_run
  all_goals first
    | exact sem_eq_zero_of_no_sems (sig := Cert.ReferenceIdeal.sig) (by decide) _
    | exact fun _ => ⟨trivial, trivial, trivial, trivial⟩
    | exact ⟨sem_eq_zero_of_no_sems (sig := Cert.ReferenceIdeal.sig) (by decide) _, fun _ => ⟨trivial, trivial, trivial, trivial⟩⟩
    | exact ⟨fun _ => ⟨trivial, trivial, trivial, trivial⟩, sem_eq_zero_of_no_sems (sig := Cert.ReferenceIdeal.sig) (by decide) _⟩
end Cert.Proof
end
-- ==== Proof.RefOps.lean ====
module

public import Idealize.ShloMosaic.Lib.Claim
public import Idealize.ShloMosaic.Lib.Pipeline.ValueKit
public import proofs.«01_k».proof.Proof.Gen.ReferenceIdeal

@[expose] public section

set_option maxRecDepth 65536

/-! # The reference's host operations, cut where an array is complete -/

noncomputable section

namespace Cert.Own

open Idealize.ShloMosaic Cert.ReferenceIdeal Cert.ReferenceIdeal.Facts₀

variable {F : FTy → Type} [FloatOps F]

set_option maxHeartbeats 4000000 in
/-- The control points and the first knot vector. -/
def seg0 : List (HloOp τ sig (Elt F)) :=
  [StableHlo.unary main_arg1 main_v0 (broadcastInDim S1x128x128x3 ![0, 1, 2, 3] bcast_S1x128x128x1_S1x128x128x3_0_1_2_3 : (⟨S1x128x128x1, .f32⟩ : BufTy).Contents (Elt F) → (⟨S1x128x128x3, .f32⟩ : BufTy).Contents (Elt F)),
   StableHlo.binary main_arg0 main_v0 main_v1 (mulf : (⟨S1x128x128x3, .f32⟩ : BufTy).Contents (Elt F) → (⟨S1x128x128x3, .f32⟩ : BufTy).Contents (Elt F) → (⟨S1x128x128x3, .f32⟩ : BufTy).Contents (Elt F)),
   StableHlo.binary main_v1 main_arg1 main_v2 ((fun a b => concatenate S1x128x128x4 3 [⟨S1x128x128x3, a⟩, ⟨S1x128x128x1, b⟩] concatenates_S1x128x128x3_S1x128x128x1_S1x128x128x4_d3) : (⟨S1x128x128x3, .f32⟩ : BufTy).Contents (Elt F) → (⟨S1x128x128x1, .f32⟩ : BufTy).Contents (Elt F) → (⟨S1x128x128x4, .f32⟩ : BufTy).Contents (Elt F)),
   StableHlo.reshape main_v2 main_v3 (rfl : (.f32 : EltTy) = .f32) shapeCasts_S1x128x128x4_S128x128x4,
   StableHlo.nullary main_cst (constant S_ .f32 0x00000000#32),
   StableHlo.unary main_cst main_v4 (broadcastInDim S4 ![] bcast_S_S4 : (⟨S_, .f32⟩ : BufTy).Contents (Elt F) → (⟨S4, .f32⟩ : BufTy).Contents (Elt F)),
   StableHlo.nullary main_cst_0 (constant S_ .f32 0x3F800000#32),
   StableHlo.unary main_cst_0 main_v5 (broadcastInDim S125 ![] bcast_S_S125 : (⟨S_, .f32⟩ : BufTy).Contents (Elt F) → (⟨S125, .f32⟩ : BufTy).Contents (Elt F)),
   StableHlo.nullary main_cst_1 (constant S_ .f32 0x00000000#32),
   StableHlo.unary main_cst_1 main_v6 (broadcastInDim S3 ![] bcast_S_S3 : (⟨S_, .f32⟩ : BufTy).Contents (Elt F) → (⟨S3, .f32⟩ : BufTy).Contents (Elt F)),
   StableHlo.nary ![main_v4, main_v5, main_v6] main_v7 (fun u => (concatenate S132 0 [⟨S4, (u 0 : (⟨S4, .f32⟩ : BufTy).Contents (Elt F))⟩, ⟨S125, (u 1 : (⟨S125, .f32⟩ : BufTy).Contents (Elt F))⟩, ⟨S3, (u 2 : (⟨S3, .f32⟩ : BufTy).Contents (Elt F))⟩] concatenates_S4_S125_S3_S132_d0 : (⟨S132, .f32⟩ : BufTy).Contents (Elt F))),
   StableHlo.nullary main_cst_2 (constant S_ .f32 0x00000000#32),
   StableHlo.unary main_cst_2 main_v8 (broadcastInDim S132 ![] bcast_S_S132 : (⟨S_, .f32⟩ : BufTy).Contents (Elt F) → (⟨S132, .f32⟩ : BufTy).Contents (Elt F)),
   StableHlo.binary main_v7 main_v8 main_v9 (cmpf .olt : (⟨S132, .f32⟩ : BufTy).Contents (Elt F) → (⟨S132, .f32⟩ : BufTy).Contents (Elt F) → (⟨S132, .i1⟩ : BufTy).Contents (Elt F)),
   StableHlo.nullary main_cst_3 (constant S_ .f32 0x38D1B717#32),
   StableHlo.TRef.unary (.of main_cst_3) (.of main_call0_v0) (broadcastInDim S132 ![] bcast_S_S132),
   StableHlo.TRef.ternary (.of main_v9) (.of main_call0_v0) (.of main_v7) (.of main_v10) select,
   StableHlo.TRef.nullary (.of main_call1_call0_cst) (constant S_ .f32 0x00000000#32),
   StableHlo.TRef.unary (.of main_call1_call0_cst) (.of main_call1_call0_v0) (broadcastInDim S_ ![] bcast_S_S_),
   StableHlo.TRef.binary (.of main_v10) (.of main_call1_call0_v0) (.of main_v11) (fun x v => Host.reduceWindowAdd ![132] ![1] ![131] ![0] x v reduceWindows_S132_S132_w132s1p131_0 h_S_),
   StableHlo.unary main_v11 main_v12 ((extractStridedSlice S1 ![0] · slices_S132_S1_0) : (⟨S132, .f32⟩ : BufTy).Contents (Elt F) → (⟨S1, .f32⟩ : BufTy).Contents (Elt F)),
   StableHlo.reshape main_v12 main_v13 (rfl : (.f32 : EltTy) = .f32) shapeCasts_S1_S_,
   StableHlo.unary main_v13 main_v14 (broadcastInDim S132 ![] bcast_S_S132 : (⟨S_, .f32⟩ : BufTy).Contents (Elt F) → (⟨S132, .f32⟩ : BufTy).Contents (Elt F)),
   StableHlo.binary main_v11 main_v14 main_v15 (subf : (⟨S132, .f32⟩ : BufTy).Contents (Elt F) → (⟨S132, .f32⟩ : BufTy).Contents (Elt F) → (⟨S132, .f32⟩ : BufTy).Contents (Elt F)),
   StableHlo.unary main_v11 main_v16 ((extractStridedSlice S1 ![131] · slices_S132_S1_131) : (⟨S132, .f32⟩ : BufTy).Contents (Elt F) → (⟨S1, .f32⟩ : BufTy).Contents (Elt F)),
   StableHlo.reshape main_v16 main_v17 (rfl : (.f32 : EltTy) = .f32) shapeCasts_S1_S_,
   StableHlo.unary main_v11 main_v18 ((extractStridedSlice S1 ![0] · slices_S132_S1_0) : (⟨S132, .f32⟩ : BufTy).Contents (Elt F) → (⟨S1, .f32⟩ : BufTy).Contents (Elt F)),
   StableHlo.reshape main_v18 main_v19 (rfl : (.f32 : EltTy) = .f32) shapeCasts_S1_S_,
   StableHlo.binary main_v17 main_v19 main_v20 (subf : (⟨S_, .f32⟩ : BufTy).Contents (Elt F) → (⟨S_, .f32⟩ : BufTy).Contents (Elt F) → (⟨S_, .f32⟩ : BufTy).Contents (Elt F)),
   StableHlo.unary main_v20 main_v21 (broadcastInDim S132 ![] bcast_S_S132 : (⟨S_, .f32⟩ : BufTy).Contents (Elt F) → (⟨S132, .f32⟩ : BufTy).Contents (Elt F)),
   StableHlo.binary main_v15 main_v21 main_v22 (Host.divf : (⟨S132, .f32⟩ : BufTy).Contents (Elt F) → (⟨S132, .f32⟩ : BufTy).Contents (Elt F) → (⟨S132, .f32⟩ : BufTy).Contents (Elt F))]

set_option maxHeartbeats 4000000 in
/-- The second knot vector. -/
def seg1 : List (HloOp τ sig (Elt F)) :=
  [StableHlo.nullary main_cst_4 (constant S_ .f32 0x00000000#32),
   StableHlo.unary main_cst_4 main_v23 (broadcastInDim S4 ![] bcast_S_S4 : (⟨S_, .f32⟩ : BufTy).Contents (Elt F) → (⟨S4, .f32⟩ : BufTy).Contents (Elt F)),
   StableHlo.nullary main_cst_5 (constant S_ .f32 0x3F800000#32),
   StableHlo.unary main_cst_5 main_v24 (broadcastInDim S125 ![] bcast_S_S125 : (⟨S_, .f32⟩ : BufTy).Contents (Elt F) → (⟨S125, .f32⟩ : BufTy).Contents (Elt F)),
   StableHlo.nullary main_cst_6 (constant S_ .f32 0x00000000#32),
   StableHlo.unary main_cst_6 main_v25 (broadcastInDim S3 ![] bcast_S_S3 : (⟨S_, .f32⟩ : BufTy).Contents (Elt F) → (⟨S3, .f32⟩ : BufTy).Contents (Elt F)),
   StableHlo.nary ![main_v23, main_v24, main_v25] main_v26 (fun u => (concatenate S132 0 [⟨S4, (u 0 : (⟨S4, .f32⟩ : BufTy).Contents (Elt F))⟩, ⟨S125, (u 1 : (⟨S125, .f32⟩ : BufTy).Contents (Elt F))⟩, ⟨S3, (u 2 : (⟨S3, .f32⟩ : BufTy).Contents (Elt F))⟩] concatenates_S4_S125_S3_S132_d0 : (⟨S132, .f32⟩ : BufTy).Contents (Elt F))),
   StableHlo.nullary main_cst_7 (constant S_ .f32 0x00000000#32),
   StableHlo.unary main_cst_7 main_v27 (broadcastInDim S132 ![] bcast_S_S132 : (⟨S_, .f32⟩ : BufTy).Contents (Elt F) → (⟨S132, .f32⟩ : BufTy).Contents (Elt F)),
   StableHlo.binary main_v26 main_v27 main_v28 (cmpf .olt : (⟨S132, .f32⟩ : BufTy).Contents (Elt F) → (⟨S132, .f32⟩ : BufTy).Contents (Elt F) → (⟨S132, .i1⟩ : BufTy).Contents (Elt F)),
   StableHlo.nullary main_cst_8 (constant S_ .f32 0x38D1B717#32),
   StableHlo.TRef.unary (.of main_cst_8) (.of main_call2_v0) (broadcastInDim S132 ![] bcast_S_S132),
   StableHlo.TRef.ternary (.of main_v28) (.of main_call2_v0) (.of main_v26) (.of main_v29) select,
   StableHlo.TRef.nullary (.of main_call3_call0_cst) (constant S_ .f32 0x00000000#32),
   StableHlo.TRef.unary (.of main_call3_call0_cst) (.of main_call3_call0_v0) (broadcastInDim S_ ![] bcast_S_S_),
   StableHlo.TRef.binary (.of main_v29) (.of main_call3_call0_v0) (.of main_v30) (fun x v => Host.reduceWindowAdd ![132] ![1] ![131] ![0] x v reduceWindows_S132_S132_w132s1p131_0 h_S_),
   StableHlo.unary main_v30 main_v31 ((extractStridedSlice S1 ![0] · slices_S132_S1_0) : (⟨S132, .f32⟩ : BufTy).Contents (Elt F) → (⟨S1, .f32⟩ : BufTy).Contents (Elt F)),
   StableHlo.reshape main_v31 main_v32 (rfl : (.f32 : EltTy) = .f32) shapeCasts_S1_S_,
   StableHlo.unary main_v32 main_v33 (broadcastInDim S132 ![] bcast_S_S132 : (⟨S_, .f32⟩ : BufTy).Contents (Elt F) → (⟨S132, .f32⟩ : BufTy).Contents (Elt F)),
   StableHlo.binary main_v30 main_v33 main_v34 (subf : (⟨S132, .f32⟩ : BufTy).Contents (Elt F) → (⟨S132, .f32⟩ : BufTy).Contents (Elt F) → (⟨S132, .f32⟩ : BufTy).Contents (Elt F)),
   StableHlo.unary main_v30 main_v35 ((extractStridedSlice S1 ![131] · slices_S132_S1_131) : (⟨S132, .f32⟩ : BufTy).Contents (Elt F) → (⟨S1, .f32⟩ : BufTy).Contents (Elt F)),
   StableHlo.reshape main_v35 main_v36 (rfl : (.f32 : EltTy) = .f32) shapeCasts_S1_S_,
   StableHlo.unary main_v30 main_v37 ((extractStridedSlice S1 ![0] · slices_S132_S1_0) : (⟨S132, .f32⟩ : BufTy).Contents (Elt F) → (⟨S1, .f32⟩ : BufTy).Contents (Elt F)),
   StableHlo.reshape main_v37 main_v38 (rfl : (.f32 : EltTy) = .f32) shapeCasts_S1_S_,
   StableHlo.binary main_v36 main_v38 main_v39 (subf : (⟨S_, .f32⟩ : BufTy).Contents (Elt F) → (⟨S_, .f32⟩ : BufTy).Contents (Elt F) → (⟨S_, .f32⟩ : BufTy).Contents (Elt F)),
   StableHlo.unary main_v39 main_v40 (broadcastInDim S132 ![] bcast_S_S132 : (⟨S_, .f32⟩ : BufTy).Contents (Elt F) → (⟨S132, .f32⟩ : BufTy).Contents (Elt F)),
   StableHlo.binary main_v34 main_v40 main_v41 (Host.divf : (⟨S132, .f32⟩ : BufTy).Contents (Elt F) → (⟨S132, .f32⟩ : BufTy).Contents (Elt F) → (⟨S132, .f32⟩ : BufTy).Contents (Elt F))]

set_option maxHeartbeats 4000000 in
/-- The sorted parameters. -/
def seg2 : List (HloOp τ sig (Elt F)) :=
  [StableHlo.TRef.unary (.of main_arg2) (.of main_v42) (fun x => Host.sort S1024 0 comparator_f32_d0 x)]

set_option maxHeartbeats 4000000 in
/-- The spans of the sorted parameters. -/
def seg3 : List (HloOp τ sig (Elt F)) :=
  [StableHlo.unary main_v42 main_v43 (broadcastInDim S1x1024 ![1] bcast_S1024_S1x1024_1 : (⟨S1024, .f32⟩ : BufTy).Contents (Elt F) → (⟨S1x1024, .f32⟩ : BufTy).Contents (Elt F)),
   StableHlo.unary main_v22 main_v44 ((extractStridedSlice S126 ![3] · slices_S132_S126_3) : (⟨S132, .f32⟩ : BufTy).Contents (Elt F) → (⟨S126, .f32⟩ : BufTy).Contents (Elt F)),
   StableHlo.unary main_v44 main_v45 (broadcastInDim S126x1 ![0] bcast_S126_S126x1_0 : (⟨S126, .f32⟩ : BufTy).Contents (Elt F) → (⟨S126x1, .f32⟩ : BufTy).Contents (Elt F)),
   StableHlo.unary main_v43 main_v46 (broadcastInDim S126x1024 ![0, 1] bcast_S1x1024_S126x1024_0_1 : (⟨S1x1024, .f32⟩ : BufTy).Contents (Elt F) → (⟨S126x1024, .f32⟩ : BufTy).Contents (Elt F)),
   StableHlo.unary main_v45 main_v47 (broadcastInDim S126x1024 ![0, 1] bcast_S126x1_S126x1024_0_1 : (⟨S126x1, .f32⟩ : BufTy).Contents (Elt F) → (⟨S126x1024, .f32⟩ : BufTy).Contents (Elt F)),
   StableHlo.binary main_v46 main_v47 main_v48 (subf : (⟨S126x1024, .f32⟩ : BufTy).Contents (Elt F) → (⟨S126x1024, .f32⟩ : BufTy).Contents (Elt F) → (⟨S126x1024, .f32⟩ : BufTy).Contents (Elt F)),
   StableHlo.nullary main_cst_9 (constant S_ .f32 0x322BCC77#32),
   StableHlo.unary main_cst_9 main_v49 (broadcastInDim S126x1024 ![] bcast_S_S126x1024 : (⟨S_, .f32⟩ : BufTy).Contents (Elt F) → (⟨S126x1024, .f32⟩ : BufTy).Contents (Elt F)),
   StableHlo.binary main_v48 main_v49 main_v50 (cmpf .ogt : (⟨S126x1024, .f32⟩ : BufTy).Contents (Elt F) → (⟨S126x1024, .f32⟩ : BufTy).Contents (Elt F) → (⟨S126x1024, .i1⟩ : BufTy).Contents (Elt F)),
   StableHlo.nullary main_cst_10 (constant S_ .f32 0x3F800000#32),
   StableHlo.unary main_cst_10 main_v51 (broadcastInDim S126x1024 ![] bcast_S_S126x1024 : (⟨S_, .f32⟩ : BufTy).Contents (Elt F) → (⟨S126x1024, .f32⟩ : BufTy).Contents (Elt F)),
   StableHlo.TRef.ternary (.of main_v50) (.of main_v48) (.of main_v51) (.of main_v52) select,
   StableHlo.TRef.nullary (.of main_call6_v0) (iotaInDim S126x1024 32 0),
   StableHlo.TRef.nullary (.of main_call6_cst) (constant S_ .f32 0x7F800000#32),
   StableHlo.TRef.nullary (.of main_call6_c) (constantI S_ 32 0#32),
   StableHlo.TRef.quaternary (.of main_v52) (.of main_call6_v0) (.of main_call6_cst) (.of main_call6_c) (.of main_call6_v1_0) (fun x y u v j => (Host.argReduce reducer_argmin_f32_i32 x y u v reducesTo_S126x1024_S1024_d0 h_S_ j).1),
   StableHlo.TRef.quaternary (.of main_v52) (.of main_call6_v0) (.of main_call6_cst) (.of main_call6_c) (.of main_v53) (fun x y u v j => (Host.argReduce reducer_argmin_f32_i32 x y u v reducesTo_S126x1024_S1024_d0 h_S_ j).2),
   StableHlo.nullary main_c (constantI S_ 32 3#32),
   StableHlo.unary main_c main_v54 (broadcastInDim S1024 ![] bcast_S_S1024 : (⟨S_, .i32⟩ : BufTy).Contents (Elt F) → (⟨S1024, .i32⟩ : BufTy).Contents (Elt F)),
   StableHlo.binary main_v53 main_v54 main_v55 (addi : (⟨S1024, .i32⟩ : BufTy).Contents (Elt F) → (⟨S1024, .i32⟩ : BufTy).Contents (Elt F) → (⟨S1024, .i32⟩ : BufTy).Contents (Elt F))]

set_option maxHeartbeats 4000000 in
/-- The correction of those spans. -/
def seg4 : List (HloOp τ sig (Elt F)) :=
  [StableHlo.nullary main_c_11 (constantI S_ 32 1024#32),
   StableHlo.unary main_c_11 main_v56 (broadcastInDim S1024 ![] bcast_S_S1024 : (⟨S_, .i32⟩ : BufTy).Contents (Elt F) → (⟨S1024, .i32⟩ : BufTy).Contents (Elt F)),
   StableHlo.binary main_v55 main_v56 main_v57 (cmpi .eq : (⟨S1024, .i32⟩ : BufTy).Contents (Elt F) → (⟨S1024, .i32⟩ : BufTy).Contents (Elt F) → (⟨S1024, .i1⟩ : BufTy).Contents (Elt F)),
   StableHlo.nullary main_c_12 (constantI S_ 32 1023#32),
   StableHlo.TRef.unary (.of main_c_12) (.of main_call7_v0) id,
   StableHlo.TRef.unary (.of main_call7_v0) (.of main_call7_v1) (broadcastInDim S1024 ![] bcast_S_S1024),
   StableHlo.TRef.ternary (.of main_v57) (.of main_call7_v1) (.of main_v55) (.of main_v58) select]

set_option maxHeartbeats 4000000 in
/-- The six knots around each span of the first direction. -/
def seg5 : List (HloOp τ sig (Elt F)) :=
  [StableHlo.unary main_v58 main_v59 (broadcastInDim S1x1024 ![1] bcast_S1024_S1x1024_1 : (⟨S1024, .i32⟩ : BufTy).Contents (Elt F) → (⟨S1x1024, .i32⟩ : BufTy).Contents (Elt F)),
   StableHlo.nullary main_v60 (iotaInDim S6 32 0),
   StableHlo.nullary main_c_13 (constantI S_ 32 4294967294#32),
   StableHlo.unary main_c_13 main_v61 (broadcastInDim S6 ![] bcast_S_S6 : (⟨S_, .i32⟩ : BufTy).Contents (Elt F) → (⟨S6, .i32⟩ : BufTy).Contents (Elt F)),
   StableHlo.binary main_v60 main_v61 main_v62 (addi : (⟨S6, .i32⟩ : BufTy).Contents (Elt F) → (⟨S6, .i32⟩ : BufTy).Contents (Elt F) → (⟨S6, .i32⟩ : BufTy).Contents (Elt F)),
   StableHlo.unary main_v62 main_v63 (broadcastInDim S6x1 ![0] bcast_S6_S6x1_0 : (⟨S6, .i32⟩ : BufTy).Contents (Elt F) → (⟨S6x1, .i32⟩ : BufTy).Contents (Elt F)),
   StableHlo.unary main_v59 main_v64 (broadcastInDim S6x1024 ![0, 1] bcast_S1x1024_S6x1024_0_1 : (⟨S1x1024, .i32⟩ : BufTy).Contents (Elt F) → (⟨S6x1024, .i32⟩ : BufTy).Contents (Elt F)),
   StableHlo.unary main_v63 main_v65 (broadcastInDim S6x1024 ![0, 1] bcast_S6x1_S6x1024_0_1 : (⟨S6x1, .i32⟩ : BufTy).Contents (Elt F) → (⟨S6x1024, .i32⟩ : BufTy).Contents (Elt F)),
   StableHlo.binary main_v64 main_v65 main_v66 (addi : (⟨S6x1024, .i32⟩ : BufTy).Contents (Elt F) → (⟨S6x1024, .i32⟩ : BufTy).Contents (Elt F) → (⟨S6x1024, .i32⟩ : BufTy).Contents (Elt F)),
   StableHlo.nullary main_c_14 (constantI S_ 32 0#32),
   StableHlo.unary main_c_14 main_v67 (broadcastInDim S6x1024 ![] bcast_S_S6x1024 : (⟨S_, .i32⟩ : BufTy).Contents (Elt F) → (⟨S6x1024, .i32⟩ : BufTy).Contents (Elt F)),
   StableHlo.binary main_v66 main_v67 main_v68 (cmpi .slt : (⟨S6x1024, .i32⟩ : BufTy).Contents (Elt F) → (⟨S6x1024, .i32⟩ : BufTy).Contents (Elt F) → (⟨S6x1024, .i1⟩ : BufTy).Contents (Elt F)),
   StableHlo.nullary main_c_15 (constantI S_ 32 132#32),
   StableHlo.unary main_c_15 main_v69 (broadcastInDim S6x1024 ![] bcast_S_S6x1024 : (⟨S_, .i32⟩ : BufTy).Contents (Elt F) → (⟨S6x1024, .i32⟩ : BufTy).Contents (Elt F)),
   StableHlo.binary main_v66 main_v69 main_v70 (addi : (⟨S6x1024, .i32⟩ : BufTy).Contents (Elt F) → (⟨S6x1024, .i32⟩ : BufTy).Contents (Elt F) → (⟨S6x1024, .i32⟩ : BufTy).Contents (Elt F)),
   StableHlo.ternary main_v68 main_v70 main_v66 main_v71 (select : (⟨S6x1024, .i1⟩ : BufTy).Contents (Elt F) → (⟨S6x1024, .i32⟩ : BufTy).Contents (Elt F) → (⟨S6x1024, .i32⟩ : BufTy).Contents (Elt F) → (⟨S6x1024, .i32⟩ : BufTy).Contents (Elt F)),
   StableHlo.unary main_v71 main_v72 (broadcastInDim S6x1024x1 ![0, 1] bcast_S6x1024_S6x1024x1_0_1 : (⟨S6x1024, .i32⟩ : BufTy).Contents (Elt F) → (⟨S6x1024x1, .i32⟩ : BufTy).Contents (Elt F)),
   StableHlo.binary main_v22 main_v72 main_v73 ((fun x i => Host.gather gather_S132_S6x1024x1_S6x1024_n_0_n_n_0_2_1 x i) : (⟨S132, .f32⟩ : BufTy).Contents (Elt F) → (⟨S6x1024x1, .i32⟩ : BufTy).Contents (Elt F) → (⟨S6x1024, .f32⟩ : BufTy).Contents (Elt F))]

set_option maxHeartbeats 4000000 in
/-- The basis values of the first direction. -/
def seg6 : List (HloOp τ sig (Elt F)) :=
  [StableHlo.nullary main_cst_16 (constant S_ .f32 0x00000000#32),
   StableHlo.unary main_cst_16 main_v74 (broadcastInDim S1024 ![] bcast_S_S1024 : (⟨S_, .f32⟩ : BufTy).Contents (Elt F) → (⟨S1024, .f32⟩ : BufTy).Contents (Elt F)),
   StableHlo.nullary main_cst_17 (constant S_ .f32 0x00000000#32),
   StableHlo.unary main_cst_17 main_v75 (broadcastInDim S1024 ![] bcast_S_S1024 : (⟨S_, .f32⟩ : BufTy).Contents (Elt F) → (⟨S1024, .f32⟩ : BufTy).Contents (Elt F)),
   StableHlo.nullary main_cst_18 (constant S_ .f32 0x00000000#32),
   StableHlo.unary main_cst_18 main_v76 (broadcastInDim S1024 ![] bcast_S_S1024 : (⟨S_, .f32⟩ : BufTy).Contents (Elt F) → (⟨S1024, .f32⟩ : BufTy).Contents (Elt F)),
   StableHlo.nullary main_cst_19 (constant S_ .f32 0x00000000#32),
   StableHlo.unary main_cst_19 main_v77 (broadcastInDim S1024 ![] bcast_S_S1024 : (⟨S_, .f32⟩ : BufTy).Contents (Elt F) → (⟨S1024, .f32⟩ : BufTy).Contents (Elt F)),
   StableHlo.nullary main_cst_20 (constant S_ .f32 0x3F800000#32),
   StableHlo.unary main_cst_20 main_v78 (broadcastInDim S1024 ![] bcast_S_S1024 : (⟨S_, .f32⟩ : BufTy).Contents (Elt F) → (⟨S1024, .f32⟩ : BufTy).Contents (Elt F)),
   StableHlo.nullary main_cst_21 (constant S_ .f32 0x00000000#32),
   StableHlo.unary main_cst_21 main_v79 (broadcastInDim S1024 ![] bcast_S_S1024 : (⟨S_, .f32⟩ : BufTy).Contents (Elt F) → (⟨S1024, .f32⟩ : BufTy).Contents (Elt F)),
   StableHlo.unary main_v73 main_v80 ((extractStridedSlice S1x1024 ![3, 0] · slices_S6x1024_S1x1024_3_0) : (⟨S6x1024, .f32⟩ : BufTy).Contents (Elt F) → (⟨S1x1024, .f32⟩ : BufTy).Contents (Elt F)),
   StableHlo.reshape main_v80 main_v81 (rfl : (.f32 : EltTy) = .f32) shapeCasts_S1x1024_S1024,
   StableHlo.unary main_v73 main_v82 ((extractStridedSlice S1x1024 ![2, 0] · slices_S6x1024_S1x1024_2_0) : (⟨S6x1024, .f32⟩ : BufTy).Contents (Elt F) → (⟨S1x1024, .f32⟩ : BufTy).Contents (Elt F)),
   StableHlo.reshape main_v82 main_v83 (rfl : (.f32 : EltTy) = .f32) shapeCasts_S1x1024_S1024,
   StableHlo.binary main_v81 main_v42 main_v84 (subf : (⟨S1024, .f32⟩ : BufTy).Contents (Elt F) → (⟨S1024, .f32⟩ : BufTy).Contents (Elt F) → (⟨S1024, .f32⟩ : BufTy).Contents (Elt F)),
   StableHlo.binary main_v42 main_v83 main_v85 (subf : (⟨S1024, .f32⟩ : BufTy).Contents (Elt F) → (⟨S1024, .f32⟩ : BufTy).Contents (Elt F) → (⟨S1024, .f32⟩ : BufTy).Contents (Elt F)),
   StableHlo.binary main_v84 main_v85 main_v86 (addf : (⟨S1024, .f32⟩ : BufTy).Contents (Elt F) → (⟨S1024, .f32⟩ : BufTy).Contents (Elt F) → (⟨S1024, .f32⟩ : BufTy).Contents (Elt F)),
   StableHlo.nullary main_cst_22 (constant S_ .f32 0x00000000#32),
   StableHlo.unary main_cst_22 main_v87 (broadcastInDim S1024 ![] bcast_S_S1024 : (⟨S_, .f32⟩ : BufTy).Contents (Elt F) → (⟨S1024, .f32⟩ : BufTy).Contents (Elt F)),
   StableHlo.binary main_v86 main_v87 main_v88 (cmpf .oeq : (⟨S1024, .f32⟩ : BufTy).Contents (Elt F) → (⟨S1024, .f32⟩ : BufTy).Contents (Elt F) → (⟨S1024, .i1⟩ : BufTy).Contents (Elt F)),
   StableHlo.nullary main_cst_23 (constant S_ .f32 0x38D1B717#32),
   StableHlo.unary main_cst_23 main_v89 (broadcastInDim S1024 ![] bcast_S_S1024 : (⟨S_, .f32⟩ : BufTy).Contents (Elt F) → (⟨S1024, .f32⟩ : BufTy).Contents (Elt F)),
   StableHlo.binary main_v78 main_v86 main_v90 (Host.divf : (⟨S1024, .f32⟩ : BufTy).Contents (Elt F) → (⟨S1024, .f32⟩ : BufTy).Contents (Elt F) → (⟨S1024, .f32⟩ : BufTy).Contents (Elt F)),
   StableHlo.TRef.ternary (.of main_v88) (.of main_v89) (.of main_v90) (.of main_v91) select,
   StableHlo.binary main_v81 main_v42 main_v92 (subf : (⟨S1024, .f32⟩ : BufTy).Contents (Elt F) → (⟨S1024, .f32⟩ : BufTy).Contents (Elt F) → (⟨S1024, .f32⟩ : BufTy).Contents (Elt F)),
   StableHlo.binary main_v92 main_v91 main_v93 (mulf : (⟨S1024, .f32⟩ : BufTy).Contents (Elt F) → (⟨S1024, .f32⟩ : BufTy).Contents (Elt F) → (⟨S1024, .f32⟩ : BufTy).Contents (Elt F)),
   StableHlo.binary main_v79 main_v93 main_v94 (addf : (⟨S1024, .f32⟩ : BufTy).Contents (Elt F) → (⟨S1024, .f32⟩ : BufTy).Contents (Elt F) → (⟨S1024, .f32⟩ : BufTy).Contents (Elt F)),
   StableHlo.binary main_v42 main_v83 main_v95 (subf : (⟨S1024, .f32⟩ : BufTy).Contents (Elt F) → (⟨S1024, .f32⟩ : BufTy).Contents (Elt F) → (⟨S1024, .f32⟩ : BufTy).Contents (Elt F)),
   StableHlo.binary main_v95 main_v91 main_v96 (mulf : (⟨S1024, .f32⟩ : BufTy).Contents (Elt F) → (⟨S1024, .f32⟩ : BufTy).Contents (Elt F) → (⟨S1024, .f32⟩ : BufTy).Contents (Elt F)),
   StableHlo.nullary main_cst_24 (constant S_ .f32 0x00000000#32),
   StableHlo.unary main_cst_24 main_v97 (broadcastInDim S1024 ![] bcast_S_S1024 : (⟨S_, .f32⟩ : BufTy).Contents (Elt F) → (⟨S1024, .f32⟩ : BufTy).Contents (Elt F)),
   StableHlo.unary main_v73 main_v98 ((extractStridedSlice S1x1024 ![3, 0] · slices_S6x1024_S1x1024_3_0) : (⟨S6x1024, .f32⟩ : BufTy).Contents (Elt F) → (⟨S1x1024, .f32⟩ : BufTy).Contents (Elt F)),
   StableHlo.reshape main_v98 main_v99 (rfl : (.f32 : EltTy) = .f32) shapeCasts_S1x1024_S1024,
   StableHlo.unary main_v73 main_v100 ((extractStridedSlice S1x1024 ![1, 0] · slices_S6x1024_S1x1024_1_0) : (⟨S6x1024, .f32⟩ : BufTy).Contents (Elt F) → (⟨S1x1024, .f32⟩ : BufTy).Contents (Elt F)),
   StableHlo.reshape main_v100 main_v101 (rfl : (.f32 : EltTy) = .f32) shapeCasts_S1x1024_S1024,
   StableHlo.binary main_v99 main_v42 main_v102 (subf : (⟨S1024, .f32⟩ : BufTy).Contents (Elt F) → (⟨S1024, .f32⟩ : BufTy).Contents (Elt F) → (⟨S1024, .f32⟩ : BufTy).Contents (Elt F)),
   StableHlo.binary main_v42 main_v101 main_v103 (subf : (⟨S1024, .f32⟩ : BufTy).Contents (Elt F) → (⟨S1024, .f32⟩ : BufTy).Contents (Elt F) → (⟨S1024, .f32⟩ : BufTy).Contents (Elt F)),
   StableHlo.binary main_v102 main_v103 main_v104 (addf : (⟨S1024, .f32⟩ : BufTy).Contents (Elt F) → (⟨S1024, .f32⟩ : BufTy).Contents (Elt F) → (⟨S1024, .f32⟩ : BufTy).Contents (Elt F)),
   StableHlo.nullary main_cst_25 (constant S_ .f32 0x00000000#32),
   StableHlo.unary main_cst_25 main_v105 (broadcastInDim S1024 ![] bcast_S_S1024 : (⟨S_, .f32⟩ : BufTy).Contents (Elt F) → (⟨S1024, .f32⟩ : BufTy).Contents (Elt F)),
   StableHlo.binary main_v104 main_v105 main_v106 (cmpf .oeq : (⟨S1024, .f32⟩ : BufTy).Contents (Elt F) → (⟨S1024, .f32⟩ : BufTy).Contents (Elt F) → (⟨S1024, .i1⟩ : BufTy).Contents (Elt F)),
   StableHlo.nullary main_cst_26 (constant S_ .f32 0x38D1B717#32),
   StableHlo.unary main_cst_26 main_v107 (broadcastInDim S1024 ![] bcast_S_S1024 : (⟨S_, .f32⟩ : BufTy).Contents (Elt F) → (⟨S1024, .f32⟩ : BufTy).Contents (Elt F)),
   StableHlo.binary main_v94 main_v104 main_v108 (Host.divf : (⟨S1024, .f32⟩ : BufTy).Contents (Elt F) → (⟨S1024, .f32⟩ : BufTy).Contents (Elt F) → (⟨S1024, .f32⟩ : BufTy).Contents (Elt F)),
   StableHlo.TRef.ternary (.of main_v106) (.of main_v107) (.of main_v108) (.of main_v109) select,
   StableHlo.binary main_v99 main_v42 main_v110 (subf : (⟨S1024, .f32⟩ : BufTy).Contents (Elt F) → (⟨S1024, .f32⟩ : BufTy).Contents (Elt F) → (⟨S1024, .f32⟩ : BufTy).Contents (Elt F)),
   StableHlo.binary main_v110 main_v109 main_v111 (mulf : (⟨S1024, .f32⟩ : BufTy).Contents (Elt F) → (⟨S1024, .f32⟩ : BufTy).Contents (Elt F) → (⟨S1024, .f32⟩ : BufTy).Contents (Elt F)),
   StableHlo.binary main_v97 main_v111 main_v112 (addf : (⟨S1024, .f32⟩ : BufTy).Contents (Elt F) → (⟨S1024, .f32⟩ : BufTy).Contents (Elt F) → (⟨S1024, .f32⟩ : BufTy).Contents (Elt F)),
   StableHlo.binary main_v42 main_v101 main_v113 (subf : (⟨S1024, .f32⟩ : BufTy).Contents (Elt F) → (⟨S1024, .f32⟩ : BufTy).Contents (Elt F) → (⟨S1024, .f32⟩ : BufTy).Contents (Elt F)),
   StableHlo.binary main_v113 main_v109 main_v114 (mulf : (⟨S1024, .f32⟩ : BufTy).Contents (Elt F) → (⟨S1024, .f32⟩ : BufTy).Contents (Elt F) → (⟨S1024, .f32⟩ : BufTy).Contents (Elt F)),
   StableHlo.unary main_v73 main_v115 ((extractStridedSlice S1x1024 ![4, 0] · slices_S6x1024_S1x1024_4_0) : (⟨S6x1024, .f32⟩ : BufTy).Contents (Elt F) → (⟨S1x1024, .f32⟩ : BufTy).Contents (Elt F)),
   StableHlo.reshape main_v115 main_v116 (rfl : (.f32 : EltTy) = .f32) shapeCasts_S1x1024_S1024,
   StableHlo.unary main_v73 main_v117 ((extractStridedSlice S1x1024 ![2, 0] · slices_S6x1024_S1x1024_2_0) : (⟨S6x1024, .f32⟩ : BufTy).Contents (Elt F) → (⟨S1x1024, .f32⟩ : BufTy).Contents (Elt F)),
   StableHlo.reshape main_v117 main_v118 (rfl : (.f32 : EltTy) = .f32) shapeCasts_S1x1024_S1024,
   StableHlo.binary main_v116 main_v42 main_v119 (subf : (⟨S1024, .f32⟩ : BufTy).Contents (Elt F) → (⟨S1024, .f32⟩ : BufTy).Contents (Elt F) → (⟨S1024, .f32⟩ : BufTy).Contents (Elt F)),
   StableHlo.binary main_v42 main_v118 main_v120 (subf : (⟨S1024, .f32⟩ : BufTy).Contents (Elt F) → (⟨S1024, .f32⟩ : BufTy).Contents (Elt F) → (⟨S1024, .f32⟩ : BufTy).Contents (Elt F)),
   StableHlo.binary main_v119 main_v120 main_v121 (addf : (⟨S1024, .f32⟩ : BufTy).Contents (Elt F) → (⟨S1024, .f32⟩ : BufTy).Contents (Elt F) → (⟨S1024, .f32⟩ : BufTy).Contents (Elt F)),
   StableHlo.nullary main_cst_27 (constant S_ .f32 0x00000000#32),
   StableHlo.unary main_cst_27 main_v122 (broadcastInDim S1024 ![] bcast_S_S1024 : (⟨S_, .f32⟩ : BufTy).Contents (Elt F) → (⟨S1024, .f32⟩ : BufTy).Contents (Elt F)),
   StableHlo.binary main_v121 main_v122 main_v123 (cmpf .oeq : (⟨S1024, .f32⟩ : BufTy).Contents (Elt F) → (⟨S1024, .f32⟩ : BufTy).Contents (Elt F) → (⟨S1024, .i1⟩ : BufTy).Contents (Elt F)),
   StableHlo.nullary main_cst_28 (constant S_ .f32 0x38D1B717#32),
   StableHlo.unary main_cst_28 main_v124 (broadcastInDim S1024 ![] bcast_S_S1024 : (⟨S_, .f32⟩ : BufTy).Contents (Elt F) → (⟨S1024, .f32⟩ : BufTy).Contents (Elt F)),
   StableHlo.binary main_v96 main_v121 main_v125 (Host.divf : (⟨S1024, .f32⟩ : BufTy).Contents (Elt F) → (⟨S1024, .f32⟩ : BufTy).Contents (Elt F) → (⟨S1024, .f32⟩ : BufTy).Contents (Elt F)),
   StableHlo.TRef.ternary (.of main_v123) (.of main_v124) (.of main_v125) (.of main_v126) select,
   StableHlo.binary main_v116 main_v42 main_v127 (subf : (⟨S1024, .f32⟩ : BufTy).Contents (Elt F) → (⟨S1024, .f32⟩ : BufTy).Contents (Elt F) → (⟨S1024, .f32⟩ : BufTy).Contents (Elt F)),
   StableHlo.binary main_v127 main_v126 main_v128 (mulf : (⟨S1024, .f32⟩ : BufTy).Contents (Elt F) → (⟨S1024, .f32⟩ : BufTy).Contents (Elt F) → (⟨S1024, .f32⟩ : BufTy).Contents (Elt F)),
   StableHlo.binary main_v114 main_v128 main_v129 (addf : (⟨S1024, .f32⟩ : BufTy).Contents (Elt F) → (⟨S1024, .f32⟩ : BufTy).Contents (Elt F) → (⟨S1024, .f32⟩ : BufTy).Contents (Elt F)),
   StableHlo.binary main_v42 main_v118 main_v130 (subf : (⟨S1024, .f32⟩ : BufTy).Contents (Elt F) → (⟨S1024, .f32⟩ : BufTy).Contents (Elt F) → (⟨S1024, .f32⟩ : BufTy).Contents (Elt F)),
   StableHlo.binary main_v130 main_v126 main_v131 (mulf : (⟨S1024, .f32⟩ : BufTy).Contents (Elt F) → (⟨S1024, .f32⟩ : BufTy).Contents (Elt F) → (⟨S1024, .f32⟩ : BufTy).Contents (Elt F)),
   StableHlo.nullary main_cst_29 (constant S_ .f32 0x00000000#32),
   StableHlo.unary main_cst_29 main_v132 (broadcastInDim S1024 ![] bcast_S_S1024 : (⟨S_, .f32⟩ : BufTy).Contents (Elt F) → (⟨S1024, .f32⟩ : BufTy).Contents (Elt F)),
   StableHlo.unary main_v73 main_v133 ((extractStridedSlice S1x1024 ![3, 0] · slices_S6x1024_S1x1024_3_0) : (⟨S6x1024, .f32⟩ : BufTy).Contents (Elt F) → (⟨S1x1024, .f32⟩ : BufTy).Contents (Elt F)),
   StableHlo.reshape main_v133 main_v134 (rfl : (.f32 : EltTy) = .f32) shapeCasts_S1x1024_S1024,
   StableHlo.unary main_v73 main_v135 ((extractStridedSlice S1x1024 ![0, 0] · slices_S6x1024_S1x1024_0_0) : (⟨S6x1024, .f32⟩ : BufTy).Contents (Elt F) → (⟨S1x1024, .f32⟩ : BufTy).Contents (Elt F)),
   StableHlo.reshape main_v135 main_v136 (rfl : (.f32 : EltTy) = .f32) shapeCasts_S1x1024_S1024,
   StableHlo.binary main_v134 main_v42 main_v137 (subf : (⟨S1024, .f32⟩ : BufTy).Contents (Elt F) → (⟨S1024, .f32⟩ : BufTy).Contents (Elt F) → (⟨S1024, .f32⟩ : BufTy).Contents (Elt F)),
   StableHlo.binary main_v42 main_v136 main_v138 (subf : (⟨S1024, .f32⟩ : BufTy).Contents (Elt F) → (⟨S1024, .f32⟩ : BufTy).Contents (Elt F) → (⟨S1024, .f32⟩ : BufTy).Contents (Elt F)),
   StableHlo.binary main_v137 main_v138 main_v139 (addf : (⟨S1024, .f32⟩ : BufTy).Contents (Elt F) → (⟨S1024, .f32⟩ : BufTy).Contents (Elt F) → (⟨S1024, .f32⟩ : BufTy).Contents (Elt F)),
   StableHlo.nullary main_cst_30 (constant S_ .f32 0x00000000#32),
   StableHlo.unary main_cst_30 main_v140 (broadcastInDim S1024 ![] bcast_S_S1024 : (⟨S_, .f32⟩ : BufTy).Contents (Elt F) → (⟨S1024, .f32⟩ : BufTy).Contents (Elt F)),
   StableHlo.binary main_v139 main_v140 main_v141 (cmpf .oeq : (⟨S1024, .f32⟩ : BufTy).Contents (Elt F) → (⟨S1024, .f32⟩ : BufTy).Contents (Elt F) → (⟨S1024, .i1⟩ : BufTy).Contents (Elt F)),
   StableHlo.nullary main_cst_31 (constant S_ .f32 0x38D1B717#32),
   StableHlo.unary main_cst_31 main_v142 (broadcastInDim S1024 ![] bcast_S_S1024 : (⟨S_, .f32⟩ : BufTy).Contents (Elt F) → (⟨S1024, .f32⟩ : BufTy).Contents (Elt F)),
   StableHlo.binary main_v112 main_v139 main_v143 (Host.divf : (⟨S1024, .f32⟩ : BufTy).Contents (Elt F) → (⟨S1024, .f32⟩ : BufTy).Contents (Elt F) → (⟨S1024, .f32⟩ : BufTy).Contents (Elt F)),
   StableHlo.TRef.ternary (.of main_v141) (.of main_v142) (.of main_v143) (.of main_v144) select,
   StableHlo.binary main_v134 main_v42 main_v145 (subf : (⟨S1024, .f32⟩ : BufTy).Contents (Elt F) → (⟨S1024, .f32⟩ : BufTy).Contents (Elt F) → (⟨S1024, .f32⟩ : BufTy).Contents (Elt F)),
   StableHlo.binary main_v145 main_v144 main_v146 (mulf : (⟨S1024, .f32⟩ : BufTy).Contents (Elt F) → (⟨S1024, .f32⟩ : BufTy).Contents (Elt F) → (⟨S1024, .f32⟩ : BufTy).Contents (Elt F)),
   StableHlo.binary main_v132 main_v146 main_v147 (addf : (⟨S1024, .f32⟩ : BufTy).Contents (Elt F) → (⟨S1024, .f32⟩ : BufTy).Contents (Elt F) → (⟨S1024, .f32⟩ : BufTy).Contents (Elt F)),
   StableHlo.binary main_v42 main_v136 main_v148 (subf : (⟨S1024, .f32⟩ : BufTy).Contents (Elt F) → (⟨S1024, .f32⟩ : BufTy).Contents (Elt F) → (⟨S1024, .f32⟩ : BufTy).Contents (Elt F)),
   StableHlo.binary main_v148 main_v144 main_v149 (mulf : (⟨S1024, .f32⟩ : BufTy).Contents (Elt F) → (⟨S1024, .f32⟩ : BufTy).Contents (Elt F) → (⟨S1024, .f32⟩ : BufTy).Contents (Elt F)),
   StableHlo.unary main_v73 main_v150 ((extractStridedSlice S1x1024 ![4, 0] · slices_S6x1024_S1x1024_4_0) : (⟨S6x1024, .f32⟩ : BufTy).Contents (Elt F) → (⟨S1x1024, .f32⟩ : BufTy).Contents (Elt F)),
   StableHlo.reshape main_v150 main_v151 (rfl : (.f32 : EltTy) = .f32) shapeCasts_S1x1024_S1024,
   StableHlo.unary main_v73 main_v152 ((extractStridedSlice S1x1024 ![1, 0] · slices_S6x1024_S1x1024_1_0) : (⟨S6x1024, .f32⟩ : BufTy).Contents (Elt F) → (⟨S1x1024, .f32⟩ : BufTy).Contents (Elt F)),
   StableHlo.reshape main_v152 main_v153 (rfl : (.f32 : EltTy) = .f32) shapeCasts_S1x1024_S1024,
   StableHlo.binary main_v151 main_v42 main_v154 (subf : (⟨S1024, .f32⟩ : BufTy).Contents (Elt F) → (⟨S1024, .f32⟩ : BufTy).Contents (Elt F) → (⟨S1024, .f32⟩ : BufTy).Contents (Elt F)),
   StableHlo.binary main_v42 main_v153 main_v155 (subf : (⟨S1024, .f32⟩ : BufTy).Contents (Elt F) → (⟨S1024, .f32⟩ : BufTy).Contents (Elt F) → (⟨S1024, .f32⟩ : BufTy).Contents (Elt F)),
   StableHlo.binary main_v154 main_v155 main_v156 (addf : (⟨S1024, .f32⟩ : BufTy).Contents (Elt F) → (⟨S1024, .f32⟩ : BufTy).Contents (Elt F) → (⟨S1024, .f32⟩ : BufTy).Contents (Elt F)),
   StableHlo.nullary main_cst_32 (constant S_ .f32 0x00000000#32),
   StableHlo.unary main_cst_32 main_v157 (broadcastInDim S1024 ![] bcast_S_S1024 : (⟨S_, .f32⟩ : BufTy).Contents (Elt F) → (⟨S1024, .f32⟩ : BufTy).Contents (Elt F)),
   StableHlo.binary main_v156 main_v157 main_v158 (cmpf .oeq : (⟨S1024, .f32⟩ : BufTy).Contents (Elt F) → (⟨S1024, .f32⟩ : BufTy).Contents (Elt F) → (⟨S1024, .i1⟩ : BufTy).Contents (Elt F)),
   StableHlo.nullary main_cst_33 (constant S_ .f32 0x38D1B717#32),
   StableHlo.unary main_cst_33 main_v159 (broadcastInDim S1024 ![] bcast_S_S1024 : (⟨S_, .f32⟩ : BufTy).Contents (Elt F) → (⟨S1024, .f32⟩ : BufTy).Contents (Elt F)),
   StableHlo.binary main_v129 main_v156 main_v160 (Host.divf : (⟨S1024, .f32⟩ : BufTy).Contents (Elt F) → (⟨S1024, .f32⟩ : BufTy).Contents (Elt F) → (⟨S1024, .f32⟩ : BufTy).Contents (Elt F)),
   StableHlo.TRef.ternary (.of main_v158) (.of main_v159) (.of main_v160) (.of main_v161) select,
   StableHlo.binary main_v151 main_v42 main_v162 (subf : (⟨S1024, .f32⟩ : BufTy).Contents (Elt F) → (⟨S1024, .f32⟩ : BufTy).Contents (Elt F) → (⟨S1024, .f32⟩ : BufTy).Contents (Elt F)),
   StableHlo.binary main_v162 main_v161 main_v163 (mulf : (⟨S1024, .f32⟩ : BufTy).Contents (Elt F) → (⟨S1024, .f32⟩ : BufTy).Contents (Elt F) → (⟨S1024, .f32⟩ : BufTy).Contents (Elt F)),
   StableHlo.binary main_v149 main_v163 main_v164 (addf : (⟨S1024, .f32⟩ : BufTy).Contents (Elt F) → (⟨S1024, .f32⟩ : BufTy).Contents (Elt F) → (⟨S1024, .f32⟩ : BufTy).Contents (Elt F)),
   StableHlo.binary main_v42 main_v153 main_v165 (subf : (⟨S1024, .f32⟩ : BufTy).Contents (Elt F) → (⟨S1024, .f32⟩ : BufTy).Contents (Elt F) → (⟨S1024, .f32⟩ : BufTy).Contents (Elt F)),
   StableHlo.binary main_v165 main_v161 main_v166 (mulf : (⟨S1024, .f32⟩ : BufTy).Contents (Elt F) → (⟨S1024, .f32⟩ : BufTy).Contents (Elt F) → (⟨S1024, .f32⟩ : BufTy).Contents (Elt F)),
   StableHlo.unary main_v73 main_v167 ((extractStridedSlice S1x1024 ![5, 0] · slices_S6x1024_S1x1024_5_0) : (⟨S6x1024, .f32⟩ : BufTy).Contents (Elt F) → (⟨S1x1024, .f32⟩ : BufTy).Contents (Elt F)),
   StableHlo.reshape main_v167 main_v168 (rfl : (.f32 : EltTy) = .f32) shapeCasts_S1x1024_S1024,
   StableHlo.unary main_v73 main_v169 ((extractStridedSlice S1x1024 ![2, 0] · slices_S6x1024_S1x1024_2_0) : (⟨S6x1024, .f32⟩ : BufTy).Contents (Elt F) → (⟨S1x1024, .f32⟩ : BufTy).Contents (Elt F)),
   StableHlo.reshape main_v169 main_v170 (rfl : (.f32 : EltTy) = .f32) shapeCasts_S1x1024_S1024,
   StableHlo.binary main_v168 main_v42 main_v171 (subf : (⟨S1024, .f32⟩ : BufTy).Contents (Elt F) → (⟨S1024, .f32⟩ : BufTy).Contents (Elt F) → (⟨S1024, .f32⟩ : BufTy).Contents (Elt F)),
   StableHlo.binary main_v42 main_v170 main_v172 (subf : (⟨S1024, .f32⟩ : BufTy).Contents (Elt F) → (⟨S1024, .f32⟩ : BufTy).Contents (Elt F) → (⟨S1024, .f32⟩ : BufTy).Contents (Elt F)),
   StableHlo.binary main_v171 main_v172 main_v173 (addf : (⟨S1024, .f32⟩ : BufTy).Contents (Elt F) → (⟨S1024, .f32⟩ : BufTy).Contents (Elt F) → (⟨S1024, .f32⟩ : BufTy).Contents (Elt F)),
   StableHlo.nullary main_cst_34 (constant S_ .f32 0x00000000#32),
   StableHlo.unary main_cst_34 main_v174 (broadcastInDim S1024 ![] bcast_S_S1024 : (⟨S_, .f32⟩ : BufTy).Contents (Elt F) → (⟨S1024, .f32⟩ : BufTy).Contents (Elt F)),
   StableHlo.binary main_v173 main_v174 main_v175 (cmpf .oeq : (⟨S1024, .f32⟩ : BufTy).Contents (Elt F) → (⟨S1024, .f32⟩ : BufTy).Contents (Elt F) → (⟨S1024, .i1⟩ : BufTy).Contents (Elt F)),
   StableHlo.nullary main_cst_35 (constant S_ .f32 0x38D1B717#32),
   StableHlo.unary main_cst_35 main_v176 (broadcastInDim S1024 ![] bcast_S_S1024 : (⟨S_, .f32⟩ : BufTy).Contents (Elt F) → (⟨S1024, .f32⟩ : BufTy).Contents (Elt F)),
   StableHlo.binary main_v131 main_v173 main_v177 (Host.divf : (⟨S1024, .f32⟩ : BufTy).Contents (Elt F) → (⟨S1024, .f32⟩ : BufTy).Contents (Elt F) → (⟨S1024, .f32⟩ : BufTy).Contents (Elt F)),
   StableHlo.TRef.ternary (.of main_v175) (.of main_v176) (.of main_v177) (.of main_v178) select,
   StableHlo.binary main_v168 main_v42 main_v179 (subf : (⟨S1024, .f32⟩ : BufTy).Contents (Elt F) → (⟨S1024, .f32⟩ : BufTy).Contents (Elt F) → (⟨S1024, .f32⟩ : BufTy).Contents (Elt F)),
   StableHlo.binary main_v179 main_v178 main_v180 (mulf : (⟨S1024, .f32⟩ : BufTy).Contents (Elt F) → (⟨S1024, .f32⟩ : BufTy).Contents (Elt F) → (⟨S1024, .f32⟩ : BufTy).Contents (Elt F)),
   StableHlo.binary main_v166 main_v180 main_v181 (addf : (⟨S1024, .f32⟩ : BufTy).Contents (Elt F) → (⟨S1024, .f32⟩ : BufTy).Contents (Elt F) → (⟨S1024, .f32⟩ : BufTy).Contents (Elt F)),
   StableHlo.binary main_v42 main_v170 main_v182 (subf : (⟨S1024, .f32⟩ : BufTy).Contents (Elt F) → (⟨S1024, .f32⟩ : BufTy).Contents (Elt F) → (⟨S1024, .f32⟩ : BufTy).Contents (Elt F)),
   StableHlo.binary main_v182 main_v178 main_v183 (mulf : (⟨S1024, .f32⟩ : BufTy).Contents (Elt F) → (⟨S1024, .f32⟩ : BufTy).Contents (Elt F) → (⟨S1024, .f32⟩ : BufTy).Contents (Elt F)),
   StableHlo.unary main_v147 main_v184 (broadcastInDim S1x1024 ![1] bcast_S1024_S1x1024_1 : (⟨S1024, .f32⟩ : BufTy).Contents (Elt F) → (⟨S1x1024, .f32⟩ : BufTy).Contents (Elt F)),
   StableHlo.unary main_v164 main_v185 (broadcastInDim S1x1024 ![1] bcast_S1024_S1x1024_1 : (⟨S1024, .f32⟩ : BufTy).Contents (Elt F) → (⟨S1x1024, .f32⟩ : BufTy).Contents (Elt F)),
   StableHlo.unary main_v181 main_v186 (broadcastInDim S1x1024 ![1] bcast_S1024_S1x1024_1 : (⟨S1024, .f32⟩ : BufTy).Contents (Elt F) → (⟨S1x1024, .f32⟩ : BufTy).Contents (Elt F)),
   StableHlo.unary main_v183 main_v187 (broadcastInDim S1x1024 ![1] bcast_S1024_S1x1024_1 : (⟨S1024, .f32⟩ : BufTy).Contents (Elt F) → (⟨S1x1024, .f32⟩ : BufTy).Contents (Elt F)),
   StableHlo.nary ![main_v184, main_v185, main_v186, main_v187] main_v188 (fun u => (concatenate S4x1024 0 [⟨S1x1024, (u 0 : (⟨S1x1024, .f32⟩ : BufTy).Contents (Elt F))⟩, ⟨S1x1024, (u 1 : (⟨S1x1024, .f32⟩ : BufTy).Contents (Elt F))⟩, ⟨S1x1024, (u 2 : (⟨S1x1024, .f32⟩ : BufTy).Contents (Elt F))⟩, ⟨S1x1024, (u 3 : (⟨S1x1024, .f32⟩ : BufTy).Contents (Elt F))⟩] concatenates_S1x1024_S1x1024_S1x1024_S1x1024_S4x1024_d0 : (⟨S4x1024, .f32⟩ : BufTy).Contents (Elt F)))]

set_option maxHeartbeats 4000000 in
/-- The spans of the second direction. -/
def seg7 : List (HloOp τ sig (Elt F)) :=
  [StableHlo.unary main_arg3 main_v189 (broadcastInDim S1x1024 ![1] bcast_S1024_S1x1024_1 : (⟨S1024, .f32⟩ : BufTy).Contents (Elt F) → (⟨S1x1024, .f32⟩ : BufTy).Contents (Elt F)),
   StableHlo.unary main_v41 main_v190 ((extractStridedSlice S126 ![3] · slices_S132_S126_3) : (⟨S132, .f32⟩ : BufTy).Contents (Elt F) → (⟨S126, .f32⟩ : BufTy).Contents (Elt F)),
   StableHlo.unary main_v190 main_v191 (broadcastInDim S126x1 ![0] bcast_S126_S126x1_0 : (⟨S126, .f32⟩ : BufTy).Contents (Elt F) → (⟨S126x1, .f32⟩ : BufTy).Contents (Elt F)),
   StableHlo.unary main_v189 main_v192 (broadcastInDim S126x1024 ![0, 1] bcast_S1x1024_S126x1024_0_1 : (⟨S1x1024, .f32⟩ : BufTy).Contents (Elt F) → (⟨S126x1024, .f32⟩ : BufTy).Contents (Elt F)),
   StableHlo.unary main_v191 main_v193 (broadcastInDim S126x1024 ![0, 1] bcast_S126x1_S126x1024_0_1 : (⟨S126x1, .f32⟩ : BufTy).Contents (Elt F) → (⟨S126x1024, .f32⟩ : BufTy).Contents (Elt F)),
   StableHlo.binary main_v192 main_v193 main_v194 (subf : (⟨S126x1024, .f32⟩ : BufTy).Contents (Elt F) → (⟨S126x1024, .f32⟩ : BufTy).Contents (Elt F) → (⟨S126x1024, .f32⟩ : BufTy).Contents (Elt F)),
   StableHlo.nullary main_cst_36 (constant S_ .f32 0x322BCC77#32),
   StableHlo.unary main_cst_36 main_v195 (broadcastInDim S126x1024 ![] bcast_S_S126x1024 : (⟨S_, .f32⟩ : BufTy).Contents (Elt F) → (⟨S126x1024, .f32⟩ : BufTy).Contents (Elt F)),
   StableHlo.binary main_v194 main_v195 main_v196 (cmpf .ogt : (⟨S126x1024, .f32⟩ : BufTy).Contents (Elt F) → (⟨S126x1024, .f32⟩ : BufTy).Contents (Elt F) → (⟨S126x1024, .i1⟩ : BufTy).Contents (Elt F)),
   StableHlo.nullary main_cst_37 (constant S_ .f32 0x3F800000#32),
   StableHlo.unary main_cst_37 main_v197 (broadcastInDim S126x1024 ![] bcast_S_S126x1024 : (⟨S_, .f32⟩ : BufTy).Contents (Elt F) → (⟨S126x1024, .f32⟩ : BufTy).Contents (Elt F)),
   StableHlo.TRef.ternary (.of main_v196) (.of main_v194) (.of main_v197) (.of main_v198) select,
   StableHlo.TRef.nullary (.of main_call15_v0) (iotaInDim S126x1024 32 0),
   StableHlo.TRef.nullary (.of main_call15_cst) (constant S_ .f32 0x7F800000#32),
   StableHlo.TRef.nullary (.of main_call15_c) (constantI S_ 32 0#32),
   StableHlo.TRef.quaternary (.of main_v198) (.of main_call15_v0) (.of main_call15_cst) (.of main_call15_c) (.of main_call15_v1_0) (fun x y u v j => (Host.argReduce reducer_argmin_f32_i32 x y u v reducesTo_S126x1024_S1024_d0 h_S_ j).1),
   StableHlo.TRef.quaternary (.of main_v198) (.of main_call15_v0) (.of main_call15_cst) (.of main_call15_c) (.of main_v199) (fun x y u v j => (Host.argReduce reducer_argmin_f32_i32 x y u v reducesTo_S126x1024_S1024_d0 h_S_ j).2),
   StableHlo.nullary main_c_38 (constantI S_ 32 3#32),
   StableHlo.unary main_c_38 main_v200 (broadcastInDim S1024 ![] bcast_S_S1024 : (⟨S_, .i32⟩ : BufTy).Contents (Elt F) → (⟨S1024, .i32⟩ : BufTy).Contents (Elt F)),
   StableHlo.binary main_v199 main_v200 main_v201 (addi : (⟨S1024, .i32⟩ : BufTy).Contents (Elt F) → (⟨S1024, .i32⟩ : BufTy).Contents (Elt F) → (⟨S1024, .i32⟩ : BufTy).Contents (Elt F))]

set_option maxHeartbeats 4000000 in
/-- The six knots around each span of the second direction. -/
def seg8 : List (HloOp τ sig (Elt F)) :=
  [StableHlo.unary main_v201 main_v202 (broadcastInDim S1x1024 ![1] bcast_S1024_S1x1024_1 : (⟨S1024, .i32⟩ : BufTy).Contents (Elt F) → (⟨S1x1024, .i32⟩ : BufTy).Contents (Elt F)),
   StableHlo.nullary main_v203 (iotaInDim S6 32 0),
   StableHlo.nullary main_c_39 (constantI S_ 32 4294967294#32),
   StableHlo.unary main_c_39 main_v204 (broadcastInDim S6 ![] bcast_S_S6 : (⟨S_, .i32⟩ : BufTy).Contents (Elt F) → (⟨S6, .i32⟩ : BufTy).Contents (Elt F)),
   StableHlo.binary main_v203 main_v204 main_v205 (addi : (⟨S6, .i32⟩ : BufTy).Contents (Elt F) → (⟨S6, .i32⟩ : BufTy).Contents (Elt F) → (⟨S6, .i32⟩ : BufTy).Contents (Elt F)),
   StableHlo.unary main_v205 main_v206 (broadcastInDim S6x1 ![0] bcast_S6_S6x1_0 : (⟨S6, .i32⟩ : BufTy).Contents (Elt F) → (⟨S6x1, .i32⟩ : BufTy).Contents (Elt F)),
   StableHlo.unary main_v202 main_v207 (broadcastInDim S6x1024 ![0, 1] bcast_S1x1024_S6x1024_0_1 : (⟨S1x1024, .i32⟩ : BufTy).Contents (Elt F) → (⟨S6x1024, .i32⟩ : BufTy).Contents (Elt F)),
   StableHlo.unary main_v206 main_v208 (broadcastInDim S6x1024 ![0, 1] bcast_S6x1_S6x1024_0_1 : (⟨S6x1, .i32⟩ : BufTy).Contents (Elt F) → (⟨S6x1024, .i32⟩ : BufTy).Contents (Elt F)),
   StableHlo.binary main_v207 main_v208 main_v209 (addi : (⟨S6x1024, .i32⟩ : BufTy).Contents (Elt F) → (⟨S6x1024, .i32⟩ : BufTy).Contents (Elt F) → (⟨S6x1024, .i32⟩ : BufTy).Contents (Elt F)),
   StableHlo.nullary main_c_40 (constantI S_ 32 0#32),
   StableHlo.unary main_c_40 main_v210 (broadcastInDim S6x1024 ![] bcast_S_S6x1024 : (⟨S_, .i32⟩ : BufTy).Contents (Elt F) → (⟨S6x1024, .i32⟩ : BufTy).Contents (Elt F)),
   StableHlo.binary main_v209 main_v210 main_v211 (cmpi .slt : (⟨S6x1024, .i32⟩ : BufTy).Contents (Elt F) → (⟨S6x1024, .i32⟩ : BufTy).Contents (Elt F) → (⟨S6x1024, .i1⟩ : BufTy).Contents (Elt F)),
   StableHlo.nullary main_c_41 (constantI S_ 32 132#32),
   StableHlo.unary main_c_41 main_v212 (broadcastInDim S6x1024 ![] bcast_S_S6x1024 : (⟨S_, .i32⟩ : BufTy).Contents (Elt F) → (⟨S6x1024, .i32⟩ : BufTy).Contents (Elt F)),
   StableHlo.binary main_v209 main_v212 main_v213 (addi : (⟨S6x1024, .i32⟩ : BufTy).Contents (Elt F) → (⟨S6x1024, .i32⟩ : BufTy).Contents (Elt F) → (⟨S6x1024, .i32⟩ : BufTy).Contents (Elt F)),
   StableHlo.ternary main_v211 main_v213 main_v209 main_v214 (select : (⟨S6x1024, .i1⟩ : BufTy).Contents (Elt F) → (⟨S6x1024, .i32⟩ : BufTy).Contents (Elt F) → (⟨S6x1024, .i32⟩ : BufTy).Contents (Elt F) → (⟨S6x1024, .i32⟩ : BufTy).Contents (Elt F)),
   StableHlo.unary main_v214 main_v215 (broadcastInDim S6x1024x1 ![0, 1] bcast_S6x1024_S6x1024x1_0_1 : (⟨S6x1024, .i32⟩ : BufTy).Contents (Elt F) → (⟨S6x1024x1, .i32⟩ : BufTy).Contents (Elt F)),
   StableHlo.binary main_v41 main_v215 main_v216 ((fun x i => Host.gather gather_S132_S6x1024x1_S6x1024_n_0_n_n_0_2_1 x i) : (⟨S132, .f32⟩ : BufTy).Contents (Elt F) → (⟨S6x1024x1, .i32⟩ : BufTy).Contents (Elt F) → (⟨S6x1024, .f32⟩ : BufTy).Contents (Elt F))]

set_option maxHeartbeats 4000000 in
/-- The basis values of the second direction. -/
def seg9 : List (HloOp τ sig (Elt F)) :=
  [StableHlo.nullary main_cst_42 (constant S_ .f32 0x00000000#32),
   StableHlo.unary main_cst_42 main_v217 (broadcastInDim S1024 ![] bcast_S_S1024 : (⟨S_, .f32⟩ : BufTy).Contents (Elt F) → (⟨S1024, .f32⟩ : BufTy).Contents (Elt F)),
   StableHlo.nullary main_cst_43 (constant S_ .f32 0x00000000#32),
   StableHlo.unary main_cst_43 main_v218 (broadcastInDim S1024 ![] bcast_S_S1024 : (⟨S_, .f32⟩ : BufTy).Contents (Elt F) → (⟨S1024, .f32⟩ : BufTy).Contents (Elt F)),
   StableHlo.nullary main_cst_44 (constant S_ .f32 0x00000000#32),
   StableHlo.unary main_cst_44 main_v219 (broadcastInDim S1024 ![] bcast_S_S1024 : (⟨S_, .f32⟩ : BufTy).Contents (Elt F) → (⟨S1024, .f32⟩ : BufTy).Contents (Elt F)),
   StableHlo.nullary main_cst_45 (constant S_ .f32 0x00000000#32),
   StableHlo.unary main_cst_45 main_v220 (broadcastInDim S1024 ![] bcast_S_S1024 : (⟨S_, .f32⟩ : BufTy).Contents (Elt F) → (⟨S1024, .f32⟩ : BufTy).Contents (Elt F)),
   StableHlo.nullary main_cst_46 (constant S_ .f32 0x3F800000#32),
   StableHlo.unary main_cst_46 main_v221 (broadcastInDim S1024 ![] bcast_S_S1024 : (⟨S_, .f32⟩ : BufTy).Contents (Elt F) → (⟨S1024, .f32⟩ : BufTy).Contents (Elt F)),
   StableHlo.nullary main_cst_47 (constant S_ .f32 0x00000000#32),
   StableHlo.unary main_cst_47 main_v222 (broadcastInDim S1024 ![] bcast_S_S1024 : (⟨S_, .f32⟩ : BufTy).Contents (Elt F) → (⟨S1024, .f32⟩ : BufTy).Contents (Elt F)),
   StableHlo.unary main_v216 main_v223 ((extractStridedSlice S1x1024 ![3, 0] · slices_S6x1024_S1x1024_3_0) : (⟨S6x1024, .f32⟩ : BufTy).Contents (Elt F) → (⟨S1x1024, .f32⟩ : BufTy).Contents (Elt F)),
   StableHlo.reshape main_v223 main_v224 (rfl : (.f32 : EltTy) = .f32) shapeCasts_S1x1024_S1024,
   StableHlo.unary main_v216 main_v225 ((extractStridedSlice S1x1024 ![2, 0] · slices_S6x1024_S1x1024_2_0) : (⟨S6x1024, .f32⟩ : BufTy).Contents (Elt F) → (⟨S1x1024, .f32⟩ : BufTy).Contents (Elt F)),
   StableHlo.reshape main_v225 main_v226 (rfl : (.f32 : EltTy) = .f32) shapeCasts_S1x1024_S1024,
   StableHlo.binary main_v224 main_arg3 main_v227 (subf : (⟨S1024, .f32⟩ : BufTy).Contents (Elt F) → (⟨S1024, .f32⟩ : BufTy).Contents (Elt F) → (⟨S1024, .f32⟩ : BufTy).Contents (Elt F)),
   StableHlo.binary main_arg3 main_v226 main_v228 (subf : (⟨S1024, .f32⟩ : BufTy).Contents (Elt F) → (⟨S1024, .f32⟩ : BufTy).Contents (Elt F) → (⟨S1024, .f32⟩ : BufTy).Contents (Elt F)),
   StableHlo.binary main_v227 main_v228 main_v229 (addf : (⟨S1024, .f32⟩ : BufTy).Contents (Elt F) → (⟨S1024, .f32⟩ : BufTy).Contents (Elt F) → (⟨S1024, .f32⟩ : BufTy).Contents (Elt F)),
   StableHlo.nullary main_cst_48 (constant S_ .f32 0x00000000#32),
   StableHlo.unary main_cst_48 main_v230 (broadcastInDim S1024 ![] bcast_S_S1024 : (⟨S_, .f32⟩ : BufTy).Contents (Elt F) → (⟨S1024, .f32⟩ : BufTy).Contents (Elt F)),
   StableHlo.binary main_v229 main_v230 main_v231 (cmpf .oeq : (⟨S1024, .f32⟩ : BufTy).Contents (Elt F) → (⟨S1024, .f32⟩ : BufTy).Contents (Elt F) → (⟨S1024, .i1⟩ : BufTy).Contents (Elt F)),
   StableHlo.nullary main_cst_49 (constant S_ .f32 0x38D1B717#32),
   StableHlo.unary main_cst_49 main_v232 (broadcastInDim S1024 ![] bcast_S_S1024 : (⟨S_, .f32⟩ : BufTy).Contents (Elt F) → (⟨S1024, .f32⟩ : BufTy).Contents (Elt F)),
   StableHlo.binary main_v221 main_v229 main_v233 (Host.divf : (⟨S1024, .f32⟩ : BufTy).Contents (Elt F) → (⟨S1024, .f32⟩ : BufTy).Contents (Elt F) → (⟨S1024, .f32⟩ : BufTy).Contents (Elt F)),
   StableHlo.TRef.ternary (.of main_v231) (.of main_v232) (.of main_v233) (.of main_v234) select,
   StableHlo.binary main_v224 main_arg3 main_v235 (subf : (⟨S1024, .f32⟩ : BufTy).Contents (Elt F) → (⟨S1024, .f32⟩ : BufTy).Contents (Elt F) → (⟨S1024, .f32⟩ : BufTy).Contents (Elt F)),
   StableHlo.binary main_v235 main_v234 main_v236 (mulf : (⟨S1024, .f32⟩ : BufTy).Contents (Elt F) → (⟨S1024, .f32⟩ : BufTy).Contents (Elt F) → (⟨S1024, .f32⟩ : BufTy).Contents (Elt F)),
   StableHlo.binary main_v222 main_v236 main_v237 (addf : (⟨S1024, .f32⟩ : BufTy).Contents (Elt F) → (⟨S1024, .f32⟩ : BufTy).Contents (Elt F) → (⟨S1024, .f32⟩ : BufTy).Contents (Elt F)),
   StableHlo.binary main_arg3 main_v226 main_v238 (subf : (⟨S1024, .f32⟩ : BufTy).Contents (Elt F) → (⟨S1024, .f32⟩ : BufTy).Contents (Elt F) → (⟨S1024, .f32⟩ : BufTy).Contents (Elt F)),
   StableHlo.binary main_v238 main_v234 main_v239 (mulf : (⟨S1024, .f32⟩ : BufTy).Contents (Elt F) → (⟨S1024, .f32⟩ : BufTy).Contents (Elt F) → (⟨S1024, .f32⟩ : BufTy).Contents (Elt F)),
   StableHlo.nullary main_cst_50 (constant S_ .f32 0x00000000#32),
   StableHlo.unary main_cst_50 main_v240 (broadcastInDim S1024 ![] bcast_S_S1024 : (⟨S_, .f32⟩ : BufTy).Contents (Elt F) → (⟨S1024, .f32⟩ : BufTy).Contents (Elt F)),
   StableHlo.unary main_v216 main_v241 ((extractStridedSlice S1x1024 ![3, 0] · slices_S6x1024_S1x1024_3_0) : (⟨S6x1024, .f32⟩ : BufTy).Contents (Elt F) → (⟨S1x1024, .f32⟩ : BufTy).Contents (Elt F)),
   StableHlo.reshape main_v241 main_v242 (rfl : (.f32 : EltTy) = .f32) shapeCasts_S1x1024_S1024,
   StableHlo.unary main_v216 main_v243 ((extractStridedSlice S1x1024 ![1, 0] · slices_S6x1024_S1x1024_1_0) : (⟨S6x1024, .f32⟩ : BufTy).Contents (Elt F) → (⟨S1x1024, .f32⟩ : BufTy).Contents (Elt F)),
   StableHlo.reshape main_v243 main_v244 (rfl : (.f32 : EltTy) = .f32) shapeCasts_S1x1024_S1024,
   StableHlo.binary main_v242 main_arg3 main_v245 (subf : (⟨S1024, .f32⟩ : BufTy).Contents (Elt F) → (⟨S1024, .f32⟩ : BufTy).Contents (Elt F) → (⟨S1024, .f32⟩ : BufTy).Contents (Elt F)),
   StableHlo.binary main_arg3 main_v244 main_v246 (subf : (⟨S1024, .f32⟩ : BufTy).Contents (Elt F) → (⟨S1024, .f32⟩ : BufTy).Contents (Elt F) → (⟨S1024, .f32⟩ : BufTy).Contents (Elt F)),
   StableHlo.binary main_v245 main_v246 main_v247 (addf : (⟨S1024, .f32⟩ : BufTy).Contents (Elt F) → (⟨S1024, .f32⟩ : BufTy).Contents (Elt F) → (⟨S1024, .f32⟩ : BufTy).Contents (Elt F)),
   StableHlo.nullary main_cst_51 (constant S_ .f32 0x00000000#32),
   StableHlo.unary main_cst_51 main_v248 (broadcastInDim S1024 ![] bcast_S_S1024 : (⟨S_, .f32⟩ : BufTy).Contents (Elt F) → (⟨S1024, .f32⟩ : BufTy).Contents (Elt F)),
   StableHlo.binary main_v247 main_v248 main_v249 (cmpf .oeq : (⟨S1024, .f32⟩ : BufTy).Contents (Elt F) → (⟨S1024, .f32⟩ : BufTy).Contents (Elt F) → (⟨S1024, .i1⟩ : BufTy).Contents (Elt F)),
   StableHlo.nullary main_cst_52 (constant S_ .f32 0x38D1B717#32),
   StableHlo.unary main_cst_52 main_v250 (broadcastInDim S1024 ![] bcast_S_S1024 : (⟨S_, .f32⟩ : BufTy).Contents (Elt F) → (⟨S1024, .f32⟩ : BufTy).Contents (Elt F)),
   StableHlo.binary main_v237 main_v247 main_v251 (Host.divf : (⟨S1024, .f32⟩ : BufTy).Contents (Elt F) → (⟨S1024, .f32⟩ : BufTy).Contents (Elt F) → (⟨S1024, .f32⟩ : BufTy).Contents (Elt F)),
   StableHlo.TRef.ternary (.of main_v249) (.of main_v250) (.of main_v251) (.of main_v252) select,
   StableHlo.binary main_v242 main_arg3 main_v253 (subf : (⟨S1024, .f32⟩ : BufTy).Contents (Elt F) → (⟨S1024, .f32⟩ : BufTy).Contents (Elt F) → (⟨S1024, .f32⟩ : BufTy).Contents (Elt F)),
   StableHlo.binary main_v253 main_v252 main_v254 (mulf : (⟨S1024, .f32⟩ : BufTy).Contents (Elt F) → (⟨S1024, .f32⟩ : BufTy).Contents (Elt F) → (⟨S1024, .f32⟩ : BufTy).Contents (Elt F)),
   StableHlo.binary main_v240 main_v254 main_v255 (addf : (⟨S1024, .f32⟩ : BufTy).Contents (Elt F) → (⟨S1024, .f32⟩ : BufTy).Contents (Elt F) → (⟨S1024, .f32⟩ : BufTy).Contents (Elt F)),
   StableHlo.binary main_arg3 main_v244 main_v256 (subf : (⟨S1024, .f32⟩ : BufTy).Contents (Elt F) → (⟨S1024, .f32⟩ : BufTy).Contents (Elt F) → (⟨S1024, .f32⟩ : BufTy).Contents (Elt F)),
   StableHlo.binary main_v256 main_v252 main_v257 (mulf : (⟨S1024, .f32⟩ : BufTy).Contents (Elt F) → (⟨S1024, .f32⟩ : BufTy).Contents (Elt F) → (⟨S1024, .f32⟩ : BufTy).Contents (Elt F)),
   StableHlo.unary main_v216 main_v258 ((extractStridedSlice S1x1024 ![4, 0] · slices_S6x1024_S1x1024_4_0) : (⟨S6x1024, .f32⟩ : BufTy).Contents (Elt F) → (⟨S1x1024, .f32⟩ : BufTy).Contents (Elt F)),
   StableHlo.reshape main_v258 main_v259 (rfl : (.f32 : EltTy) = .f32) shapeCasts_S1x1024_S1024,
   StableHlo.unary main_v216 main_v260 ((extractStridedSlice S1x1024 ![2, 0] · slices_S6x1024_S1x1024_2_0) : (⟨S6x1024, .f32⟩ : BufTy).Contents (Elt F) → (⟨S1x1024, .f32⟩ : BufTy).Contents (Elt F)),
   StableHlo.reshape main_v260 main_v261 (rfl : (.f32 : EltTy) = .f32) shapeCasts_S1x1024_S1024,
   StableHlo.binary main_v259 main_arg3 main_v262 (subf : (⟨S1024, .f32⟩ : BufTy).Contents (Elt F) → (⟨S1024, .f32⟩ : BufTy).Contents (Elt F) → (⟨S1024, .f32⟩ : BufTy).Contents (Elt F)),
   StableHlo.binary main_arg3 main_v261 main_v263 (subf : (⟨S1024, .f32⟩ : BufTy).Contents (Elt F) → (⟨S1024, .f32⟩ : BufTy).Contents (Elt F) → (⟨S1024, .f32⟩ : BufTy).Contents (Elt F)),
   StableHlo.binary main_v262 main_v263 main_v264 (addf : (⟨S1024, .f32⟩ : BufTy).Contents (Elt F) → (⟨S1024, .f32⟩ : BufTy).Contents (Elt F) → (⟨S1024, .f32⟩ : BufTy).Contents (Elt F)),
   StableHlo.nullary main_cst_53 (constant S_ .f32 0x00000000#32),
   StableHlo.unary main_cst_53 main_v265 (broadcastInDim S1024 ![] bcast_S_S1024 : (⟨S_, .f32⟩ : BufTy).Contents (Elt F) → (⟨S1024, .f32⟩ : BufTy).Contents (Elt F)),
   StableHlo.binary main_v264 main_v265 main_v266 (cmpf .oeq : (⟨S1024, .f32⟩ : BufTy).Contents (Elt F) → (⟨S1024, .f32⟩ : BufTy).Contents (Elt F) → (⟨S1024, .i1⟩ : BufTy).Contents (Elt F)),
   StableHlo.nullary main_cst_54 (constant S_ .f32 0x38D1B717#32),
   StableHlo.unary main_cst_54 main_v267 (broadcastInDim S1024 ![] bcast_S_S1024 : (⟨S_, .f32⟩ : BufTy).Contents (Elt F) → (⟨S1024, .f32⟩ : BufTy).Contents (Elt F)),
   StableHlo.binary main_v239 main_v264 main_v268 (Host.divf : (⟨S1024, .f32⟩ : BufTy).Contents (Elt F) → (⟨S1024, .f32⟩ : BufTy).Contents (Elt F) → (⟨S1024, .f32⟩ : BufTy).Contents (Elt F)),
   StableHlo.TRef.ternary (.of main_v266) (.of main_v267) (.of main_v268) (.of main_v269) select,
   StableHlo.binary main_v259 main_arg3 main_v270 (subf : (⟨S1024, .f32⟩ : BufTy).Contents (Elt F) → (⟨S1024, .f32⟩ : BufTy).Contents (Elt F) → (⟨S1024, .f32⟩ : BufTy).Contents (Elt F)),
   StableHlo.binary main_v270 main_v269 main_v271 (mulf : (⟨S1024, .f32⟩ : BufTy).Contents (Elt F) → (⟨S1024, .f32⟩ : BufTy).Contents (Elt F) → (⟨S1024, .f32⟩ : BufTy).Contents (Elt F)),
   StableHlo.binary main_v257 main_v271 main_v272 (addf : (⟨S1024, .f32⟩ : BufTy).Contents (Elt F) → (⟨S1024, .f32⟩ : BufTy).Contents (Elt F) → (⟨S1024, .f32⟩ : BufTy).Contents (Elt F)),
   StableHlo.binary main_arg3 main_v261 main_v273 (subf : (⟨S1024, .f32⟩ : BufTy).Contents (Elt F) → (⟨S1024, .f32⟩ : BufTy).Contents (Elt F) → (⟨S1024, .f32⟩ : BufTy).Contents (Elt F)),
   StableHlo.binary main_v273 main_v269 main_v274 (mulf : (⟨S1024, .f32⟩ : BufTy).Contents (Elt F) → (⟨S1024, .f32⟩ : BufTy).Contents (Elt F) → (⟨S1024, .f32⟩ : BufTy).Contents (Elt F)),
   StableHlo.nullary main_cst_55 (constant S_ .f32 0x00000000#32),
   StableHlo.unary main_cst_55 main_v275 (broadcastInDim S1024 ![] bcast_S_S1024 : (⟨S_, .f32⟩ : BufTy).Contents (Elt F) → (⟨S1024, .f32⟩ : BufTy).Contents (Elt F)),
   StableHlo.unary main_v216 main_v276 ((extractStridedSlice S1x1024 ![3, 0] · slices_S6x1024_S1x1024_3_0) : (⟨S6x1024, .f32⟩ : BufTy).Contents (Elt F) → (⟨S1x1024, .f32⟩ : BufTy).Contents (Elt F)),
   StableHlo.reshape main_v276 main_v277 (rfl : (.f32 : EltTy) = .f32) shapeCasts_S1x1024_S1024,
   StableHlo.unary main_v216 main_v278 ((extractStridedSlice S1x1024 ![0, 0] · slices_S6x1024_S1x1024_0_0) : (⟨S6x1024, .f32⟩ : BufTy).Contents (Elt F) → (⟨S1x1024, .f32⟩ : BufTy).Contents (Elt F)),
   StableHlo.reshape main_v278 main_v279 (rfl : (.f32 : EltTy) = .f32) shapeCasts_S1x1024_S1024,
   StableHlo.binary main_v277 main_arg3 main_v280 (subf : (⟨S1024, .f32⟩ : BufTy).Contents (Elt F) → (⟨S1024, .f32⟩ : BufTy).Contents (Elt F) → (⟨S1024, .f32⟩ : BufTy).Contents (Elt F)),
   StableHlo.binary main_arg3 main_v279 main_v281 (subf : (⟨S1024, .f32⟩ : BufTy).Contents (Elt F) → (⟨S1024, .f32⟩ : BufTy).Contents (Elt F) → (⟨S1024, .f32⟩ : BufTy).Contents (Elt F)),
   StableHlo.binary main_v280 main_v281 main_v282 (addf : (⟨S1024, .f32⟩ : BufTy).Contents (Elt F) → (⟨S1024, .f32⟩ : BufTy).Contents (Elt F) → (⟨S1024, .f32⟩ : BufTy).Contents (Elt F)),
   StableHlo.nullary main_cst_56 (constant S_ .f32 0x00000000#32),
   StableHlo.unary main_cst_56 main_v283 (broadcastInDim S1024 ![] bcast_S_S1024 : (⟨S_, .f32⟩ : BufTy).Contents (Elt F) → (⟨S1024, .f32⟩ : BufTy).Contents (Elt F)),
   StableHlo.binary main_v282 main_v283 main_v284 (cmpf .oeq : (⟨S1024, .f32⟩ : BufTy).Contents (Elt F) → (⟨S1024, .f32⟩ : BufTy).Contents (Elt F) → (⟨S1024, .i1⟩ : BufTy).Contents (Elt F)),
   StableHlo.nullary main_cst_57 (constant S_ .f32 0x38D1B717#32),
   StableHlo.unary main_cst_57 main_v285 (broadcastInDim S1024 ![] bcast_S_S1024 : (⟨S_, .f32⟩ : BufTy).Contents (Elt F) → (⟨S1024, .f32⟩ : BufTy).Contents (Elt F)),
   StableHlo.binary main_v255 main_v282 main_v286 (Host.divf : (⟨S1024, .f32⟩ : BufTy).Contents (Elt F) → (⟨S1024, .f32⟩ : BufTy).Contents (Elt F) → (⟨S1024, .f32⟩ : BufTy).Contents (Elt F)),
   StableHlo.TRef.ternary (.of main_v284) (.of main_v285) (.of main_v286) (.of main_v287) select,
   StableHlo.binary main_v277 main_arg3 main_v288 (subf : (⟨S1024, .f32⟩ : BufTy).Contents (Elt F) → (⟨S1024, .f32⟩ : BufTy).Contents (Elt F) → (⟨S1024, .f32⟩ : BufTy).Contents (Elt F)),
   StableHlo.binary main_v288 main_v287 main_v289 (mulf : (⟨S1024, .f32⟩ : BufTy).Contents (Elt F) → (⟨S1024, .f32⟩ : BufTy).Contents (Elt F) → (⟨S1024, .f32⟩ : BufTy).Contents (Elt F)),
   StableHlo.binary main_v275 main_v289 main_v290 (addf : (⟨S1024, .f32⟩ : BufTy).Contents (Elt F) → (⟨S1024, .f32⟩ : BufTy).Contents (Elt F) → (⟨S1024, .f32⟩ : BufTy).Contents (Elt F)),
   StableHlo.binary main_arg3 main_v279 main_v291 (subf : (⟨S1024, .f32⟩ : BufTy).Contents (Elt F) → (⟨S1024, .f32⟩ : BufTy).Contents (Elt F) → (⟨S1024, .f32⟩ : BufTy).Contents (Elt F)),
   StableHlo.binary main_v291 main_v287 main_v292 (mulf : (⟨S1024, .f32⟩ : BufTy).Contents (Elt F) → (⟨S1024, .f32⟩ : BufTy).Contents (Elt F) → (⟨S1024, .f32⟩ : BufTy).Contents (Elt F)),
   StableHlo.unary main_v216 main_v293 ((extractStridedSlice S1x1024 ![4, 0] · slices_S6x1024_S1x1024_4_0) : (⟨S6x1024, .f32⟩ : BufTy).Contents (Elt F) → (⟨S1x1024, .f32⟩ : BufTy).Contents (Elt F)),
   StableHlo.reshape main_v293 main_v294 (rfl : (.f32 : EltTy) = .f32) shapeCasts_S1x1024_S1024,
   StableHlo.unary main_v216 main_v295 ((extractStridedSlice S1x1024 ![1, 0] · slices_S6x1024_S1x1024_1_0) : (⟨S6x1024, .f32⟩ : BufTy).Contents (Elt F) → (⟨S1x1024, .f32⟩ : BufTy).Contents (Elt F)),
   StableHlo.reshape main_v295 main_v296 (rfl : (.f32 : EltTy) = .f32) shapeCasts_S1x1024_S1024,
   StableHlo.binary main_v294 main_arg3 main_v297 (subf : (⟨S1024, .f32⟩ : BufTy).Contents (Elt F) → (⟨S1024, .f32⟩ : BufTy).Contents (Elt F) → (⟨S1024, .f32⟩ : BufTy).Contents (Elt F)),
   StableHlo.binary main_arg3 main_v296 main_v298 (subf : (⟨S1024, .f32⟩ : BufTy).Contents (Elt F) → (⟨S1024, .f32⟩ : BufTy).Contents (Elt F) → (⟨S1024, .f32⟩ : BufTy).Contents (Elt F)),
   StableHlo.binary main_v297 main_v298 main_v299 (addf : (⟨S1024, .f32⟩ : BufTy).Contents (Elt F) → (⟨S1024, .f32⟩ : BufTy).Contents (Elt F) → (⟨S1024, .f32⟩ : BufTy).Contents (Elt F)),
   StableHlo.nullary main_cst_58 (constant S_ .f32 0x00000000#32),
   StableHlo.unary main_cst_58 main_v300 (broadcastInDim S1024 ![] bcast_S_S1024 : (⟨S_, .f32⟩ : BufTy).Contents (Elt F) → (⟨S1024, .f32⟩ : BufTy).Contents (Elt F)),
   StableHlo.binary main_v299 main_v300 main_v301 (cmpf .oeq : (⟨S1024, .f32⟩ : BufTy).Contents (Elt F) → (⟨S1024, .f32⟩ : BufTy).Contents (Elt F) → (⟨S1024, .i1⟩ : BufTy).Contents (Elt F)),
   StableHlo.nullary main_cst_59 (constant S_ .f32 0x38D1B717#32),
   StableHlo.unary main_cst_59 main_v302 (broadcastInDim S1024 ![] bcast_S_S1024 : (⟨S_, .f32⟩ : BufTy).Contents (Elt F) → (⟨S1024, .f32⟩ : BufTy).Contents (Elt F)),
   StableHlo.binary main_v272 main_v299 main_v303 (Host.divf : (⟨S1024, .f32⟩ : BufTy).Contents (Elt F) → (⟨S1024, .f32⟩ : BufTy).Contents (Elt F) → (⟨S1024, .f32⟩ : BufTy).Contents (Elt F)),
   StableHlo.TRef.ternary (.of main_v301) (.of main_v302) (.of main_v303) (.of main_v304) select,
   StableHlo.binary main_v294 main_arg3 main_v305 (subf : (⟨S1024, .f32⟩ : BufTy).Contents (Elt F) → (⟨S1024, .f32⟩ : BufTy).Contents (Elt F) → (⟨S1024, .f32⟩ : BufTy).Contents (Elt F)),
   StableHlo.binary main_v305 main_v304 main_v306 (mulf : (⟨S1024, .f32⟩ : BufTy).Contents (Elt F) → (⟨S1024, .f32⟩ : BufTy).Contents (Elt F) → (⟨S1024, .f32⟩ : BufTy).Contents (Elt F)),
   StableHlo.binary main_v292 main_v306 main_v307 (addf : (⟨S1024, .f32⟩ : BufTy).Contents (Elt F) → (⟨S1024, .f32⟩ : BufTy).Contents (Elt F) → (⟨S1024, .f32⟩ : BufTy).Contents (Elt F)),
   StableHlo.binary main_arg3 main_v296 main_v308 (subf : (⟨S1024, .f32⟩ : BufTy).Contents (Elt F) → (⟨S1024, .f32⟩ : BufTy).Contents (Elt F) → (⟨S1024, .f32⟩ : BufTy).Contents (Elt F)),
   StableHlo.binary main_v308 main_v304 main_v309 (mulf : (⟨S1024, .f32⟩ : BufTy).Contents (Elt F) → (⟨S1024, .f32⟩ : BufTy).Contents (Elt F) → (⟨S1024, .f32⟩ : BufTy).Contents (Elt F)),
   StableHlo.unary main_v216 main_v310 ((extractStridedSlice S1x1024 ![5, 0] · slices_S6x1024_S1x1024_5_0) : (⟨S6x1024, .f32⟩ : BufTy).Contents (Elt F) → (⟨S1x1024, .f32⟩ : BufTy).Contents (Elt F)),
   StableHlo.reshape main_v310 main_v311 (rfl : (.f32 : EltTy) = .f32) shapeCasts_S1x1024_S1024,
   StableHlo.unary main_v216 main_v312 ((extractStridedSlice S1x1024 ![2, 0] · slices_S6x1024_S1x1024_2_0) : (⟨S6x1024, .f32⟩ : BufTy).Contents (Elt F) → (⟨S1x1024, .f32⟩ : BufTy).Contents (Elt F)),
   StableHlo.reshape main_v312 main_v313 (rfl : (.f32 : EltTy) = .f32) shapeCasts_S1x1024_S1024,
   StableHlo.binary main_v311 main_arg3 main_v314 (subf : (⟨S1024, .f32⟩ : BufTy).Contents (Elt F) → (⟨S1024, .f32⟩ : BufTy).Contents (Elt F) → (⟨S1024, .f32⟩ : BufTy).Contents (Elt F)),
   StableHlo.binary main_arg3 main_v313 main_v315 (subf : (⟨S1024, .f32⟩ : BufTy).Contents (Elt F) → (⟨S1024, .f32⟩ : BufTy).Contents (Elt F) → (⟨S1024, .f32⟩ : BufTy).Contents (Elt F)),
   StableHlo.binary main_v314 main_v315 main_v316 (addf : (⟨S1024, .f32⟩ : BufTy).Contents (Elt F) → (⟨S1024, .f32⟩ : BufTy).Contents (Elt F) → (⟨S1024, .f32⟩ : BufTy).Contents (Elt F)),
   StableHlo.nullary main_cst_60 (constant S_ .f32 0x00000000#32),
   StableHlo.unary main_cst_60 main_v317 (broadcastInDim S1024 ![] bcast_S_S1024 : (⟨S_, .f32⟩ : BufTy).Contents (Elt F) → (⟨S1024, .f32⟩ : BufTy).Contents (Elt F)),
   StableHlo.binary main_v316 main_v317 main_v318 (cmpf .oeq : (⟨S1024, .f32⟩ : BufTy).Contents (Elt F) → (⟨S1024, .f32⟩ : BufTy).Contents (Elt F) → (⟨S1024, .i1⟩ : BufTy).Contents (Elt F)),
   StableHlo.nullary main_cst_61 (constant S_ .f32 0x38D1B717#32),
   StableHlo.unary main_cst_61 main_v319 (broadcastInDim S1024 ![] bcast_S_S1024 : (⟨S_, .f32⟩ : BufTy).Contents (Elt F) → (⟨S1024, .f32⟩ : BufTy).Contents (Elt F)),
   StableHlo.binary main_v274 main_v316 main_v320 (Host.divf : (⟨S1024, .f32⟩ : BufTy).Contents (Elt F) → (⟨S1024, .f32⟩ : BufTy).Contents (Elt F) → (⟨S1024, .f32⟩ : BufTy).Contents (Elt F)),
   StableHlo.TRef.ternary (.of main_v318) (.of main_v319) (.of main_v320) (.of main_v321) select,
   StableHlo.binary main_v311 main_arg3 main_v322 (subf : (⟨S1024, .f32⟩ : BufTy).Contents (Elt F) → (⟨S1024, .f32⟩ : BufTy).Contents (Elt F) → (⟨S1024, .f32⟩ : BufTy).Contents (Elt F)),
   StableHlo.binary main_v322 main_v321 main_v323 (mulf : (⟨S1024, .f32⟩ : BufTy).Contents (Elt F) → (⟨S1024, .f32⟩ : BufTy).Contents (Elt F) → (⟨S1024, .f32⟩ : BufTy).Contents (Elt F)),
   StableHlo.binary main_v309 main_v323 main_v324 (addf : (⟨S1024, .f32⟩ : BufTy).Contents (Elt F) → (⟨S1024, .f32⟩ : BufTy).Contents (Elt F) → (⟨S1024, .f32⟩ : BufTy).Contents (Elt F)),
   StableHlo.binary main_arg3 main_v313 main_v325 (subf : (⟨S1024, .f32⟩ : BufTy).Contents (Elt F) → (⟨S1024, .f32⟩ : BufTy).Contents (Elt F) → (⟨S1024, .f32⟩ : BufTy).Contents (Elt F)),
   StableHlo.binary main_v325 main_v321 main_v326 (mulf : (⟨S1024, .f32⟩ : BufTy).Contents (Elt F) → (⟨S1024, .f32⟩ : BufTy).Contents (Elt F) → (⟨S1024, .f32⟩ : BufTy).Contents (Elt F)),
   StableHlo.unary main_v290 main_v327 (broadcastInDim S1x1024 ![1] bcast_S1024_S1x1024_1 : (⟨S1024, .f32⟩ : BufTy).Contents (Elt F) → (⟨S1x1024, .f32⟩ : BufTy).Contents (Elt F)),
   StableHlo.unary main_v307 main_v328 (broadcastInDim S1x1024 ![1] bcast_S1024_S1x1024_1 : (⟨S1024, .f32⟩ : BufTy).Contents (Elt F) → (⟨S1x1024, .f32⟩ : BufTy).Contents (Elt F)),
   StableHlo.unary main_v324 main_v329 (broadcastInDim S1x1024 ![1] bcast_S1024_S1x1024_1 : (⟨S1024, .f32⟩ : BufTy).Contents (Elt F) → (⟨S1x1024, .f32⟩ : BufTy).Contents (Elt F)),
   StableHlo.unary main_v326 main_v330 (broadcastInDim S1x1024 ![1] bcast_S1024_S1x1024_1 : (⟨S1024, .f32⟩ : BufTy).Contents (Elt F) → (⟨S1x1024, .f32⟩ : BufTy).Contents (Elt F)),
   StableHlo.nary ![main_v327, main_v328, main_v329, main_v330] main_v331 (fun u => (concatenate S4x1024 0 [⟨S1x1024, (u 0 : (⟨S1x1024, .f32⟩ : BufTy).Contents (Elt F))⟩, ⟨S1x1024, (u 1 : (⟨S1x1024, .f32⟩ : BufTy).Contents (Elt F))⟩, ⟨S1x1024, (u 2 : (⟨S1x1024, .f32⟩ : BufTy).Contents (Elt F))⟩, ⟨S1x1024, (u 3 : (⟨S1x1024, .f32⟩ : BufTy).Contents (Elt F))⟩] concatenates_S1x1024_S1x1024_S1x1024_S1x1024_S4x1024_d0 : (⟨S4x1024, .f32⟩ : BufTy).Contents (Elt F)))]

set_option maxHeartbeats 4000000 in
/-- The sum over the control points and the projection. -/
def seg10 : List (HloOp τ sig (Elt F)) :=
  [StableHlo.nullary main_c_62 (constantI S_ 32 3#32),
   StableHlo.unary main_c_62 main_v332 (broadcastInDim S1024 ![] bcast_S_S1024 : (⟨S_, .i32⟩ : BufTy).Contents (Elt F) → (⟨S1024, .i32⟩ : BufTy).Contents (Elt F)),
   StableHlo.binary main_v58 main_v332 main_v333 (subi : (⟨S1024, .i32⟩ : BufTy).Contents (Elt F) → (⟨S1024, .i32⟩ : BufTy).Contents (Elt F) → (⟨S1024, .i32⟩ : BufTy).Contents (Elt F)),
   StableHlo.unary main_v333 main_v334 (broadcastInDim S1x1024 ![1] bcast_S1024_S1x1024_1 : (⟨S1024, .i32⟩ : BufTy).Contents (Elt F) → (⟨S1x1024, .i32⟩ : BufTy).Contents (Elt F)),
   StableHlo.nullary main_v335 (iotaInDim S4 32 0),
   StableHlo.unary main_v335 main_v336 (broadcastInDim S4x1 ![0] bcast_S4_S4x1_0 : (⟨S4, .i32⟩ : BufTy).Contents (Elt F) → (⟨S4x1, .i32⟩ : BufTy).Contents (Elt F)),
   StableHlo.unary main_v334 main_v337 (broadcastInDim S4x1024 ![0, 1] bcast_S1x1024_S4x1024_0_1 : (⟨S1x1024, .i32⟩ : BufTy).Contents (Elt F) → (⟨S4x1024, .i32⟩ : BufTy).Contents (Elt F)),
   StableHlo.unary main_v336 main_v338 (broadcastInDim S4x1024 ![0, 1] bcast_S4x1_S4x1024_0_1 : (⟨S4x1, .i32⟩ : BufTy).Contents (Elt F) → (⟨S4x1024, .i32⟩ : BufTy).Contents (Elt F)),
   StableHlo.binary main_v337 main_v338 main_v339 (addi : (⟨S4x1024, .i32⟩ : BufTy).Contents (Elt F) → (⟨S4x1024, .i32⟩ : BufTy).Contents (Elt F) → (⟨S4x1024, .i32⟩ : BufTy).Contents (Elt F)),
   StableHlo.nullary main_c_63 (constantI S_ 32 3#32),
   StableHlo.unary main_c_63 main_v340 (broadcastInDim S1024 ![] bcast_S_S1024 : (⟨S_, .i32⟩ : BufTy).Contents (Elt F) → (⟨S1024, .i32⟩ : BufTy).Contents (Elt F)),
   StableHlo.binary main_v201 main_v340 main_v341 (subi : (⟨S1024, .i32⟩ : BufTy).Contents (Elt F) → (⟨S1024, .i32⟩ : BufTy).Contents (Elt F) → (⟨S1024, .i32⟩ : BufTy).Contents (Elt F)),
   StableHlo.unary main_v341 main_v342 (broadcastInDim S1x1024 ![1] bcast_S1024_S1x1024_1 : (⟨S1024, .i32⟩ : BufTy).Contents (Elt F) → (⟨S1x1024, .i32⟩ : BufTy).Contents (Elt F)),
   StableHlo.nullary main_v343 (iotaInDim S4 32 0),
   StableHlo.unary main_v343 main_v344 (broadcastInDim S4x1 ![0] bcast_S4_S4x1_0 : (⟨S4, .i32⟩ : BufTy).Contents (Elt F) → (⟨S4x1, .i32⟩ : BufTy).Contents (Elt F)),
   StableHlo.unary main_v342 main_v345 (broadcastInDim S4x1024 ![0, 1] bcast_S1x1024_S4x1024_0_1 : (⟨S1x1024, .i32⟩ : BufTy).Contents (Elt F) → (⟨S4x1024, .i32⟩ : BufTy).Contents (Elt F)),
   StableHlo.unary main_v344 main_v346 (broadcastInDim S4x1024 ![0, 1] bcast_S4x1_S4x1024_0_1 : (⟨S4x1, .i32⟩ : BufTy).Contents (Elt F) → (⟨S4x1024, .i32⟩ : BufTy).Contents (Elt F)),
   StableHlo.binary main_v345 main_v346 main_v347 (addi : (⟨S4x1024, .i32⟩ : BufTy).Contents (Elt F) → (⟨S4x1024, .i32⟩ : BufTy).Contents (Elt F) → (⟨S4x1024, .i32⟩ : BufTy).Contents (Elt F)),
   StableHlo.nullary main_c_64 (constantI S_ 32 0#32),
   StableHlo.unary main_c_64 main_v348 (broadcastInDim S4x1024 ![] bcast_S_S4x1024 : (⟨S_, .i32⟩ : BufTy).Contents (Elt F) → (⟨S4x1024, .i32⟩ : BufTy).Contents (Elt F)),
   StableHlo.binary main_v339 main_v348 main_v349 (cmpi .slt : (⟨S4x1024, .i32⟩ : BufTy).Contents (Elt F) → (⟨S4x1024, .i32⟩ : BufTy).Contents (Elt F) → (⟨S4x1024, .i1⟩ : BufTy).Contents (Elt F)),
   StableHlo.nullary main_c_65 (constantI S_ 32 128#32),
   StableHlo.unary main_c_65 main_v350 (broadcastInDim S4x1024 ![] bcast_S_S4x1024 : (⟨S_, .i32⟩ : BufTy).Contents (Elt F) → (⟨S4x1024, .i32⟩ : BufTy).Contents (Elt F)),
   StableHlo.binary main_v339 main_v350 main_v351 (addi : (⟨S4x1024, .i32⟩ : BufTy).Contents (Elt F) → (⟨S4x1024, .i32⟩ : BufTy).Contents (Elt F) → (⟨S4x1024, .i32⟩ : BufTy).Contents (Elt F)),
   StableHlo.ternary main_v349 main_v351 main_v339 main_v352 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
   StableHlo.unary main_v352 main_v353 (broadcastInDim S4x1024x1 ![0, 1] bcast_S4x1024_S4x1024x1_0_1 : (⟨S4x1024, .i32⟩ : BufTy).Contents (Elt F) → (⟨S4x1024x1, .i32⟩ : BufTy).Contents (Elt F)),
   StableHlo.binary main_v3 main_v353 main_v354 ((fun x i => Host.gather gather_S128x128x4_S4x1024x1_S4x1024x128x4_23_0_n_n_0_2_11284 x i) : (⟨S128x128x4, .f32⟩ : BufTy).Contents (Elt F) → (⟨S4x1024x1, .i32⟩ : BufTy).Contents (Elt F) → (⟨S4x1024x128x4, .f32⟩ : BufTy).Contents (Elt F)),
   StableHlo.nullary main_c_66 (constantI S_ 32 0#32),
   StableHlo.unary main_c_66 main_v355 (broadcastInDim S4x1024 ![] bcast_S_S4x1024 : (⟨S_, .i32⟩ : BufTy).Contents (Elt F) → (⟨S4x1024, .i32⟩ : BufTy).Contents (Elt F)),
   StableHlo.binary main_v347 main_v355 main_v356 (cmpi .slt : (⟨S4x1024, .i32⟩ : BufTy).Contents (Elt F) → (⟨S4x1024, .i32⟩ : BufTy).Contents (Elt F) → (⟨S4x1024, .i1⟩ : BufTy).Contents (Elt F)),
   StableHlo.nullary main_c_67 (constantI S_ 32 128#32),
   StableHlo.unary main_c_67 main_v357 (broadcastInDim S4x1024 ![] bcast_S_S4x1024 : (⟨S_, .i32⟩ : BufTy).Contents (Elt F) → (⟨S4x1024, .i32⟩ : BufTy).Contents (Elt F)),
   StableHlo.binary main_v347 main_v357 main_v358 (addi : (⟨S4x1024, .i32⟩ : BufTy).Contents (Elt F) → (⟨S4x1024, .i32⟩ : BufTy).Contents (Elt F) → (⟨S4x1024, .i32⟩ : BufTy).Contents (Elt F)),
   StableHlo.ternary main_v356 main_v358 main_v347 main_v359 (select : (⟨S4x1024, .i1⟩ : BufTy).Contents (Elt F) → (⟨S4x1024, .i32⟩ : BufTy).Contents (Elt F) → (⟨S4x1024, .i32⟩ : BufTy).Contents (Elt F) → (⟨S4x1024, .i32⟩ : BufTy).Contents (Elt F)),
   StableHlo.unary main_v359 main_v360 (broadcastInDim S4x1024x1 ![0, 1] bcast_S4x1024_S4x1024x1_0_1 : (⟨S4x1024, .i32⟩ : BufTy).Contents (Elt F) → (⟨S4x1024x1, .i32⟩ : BufTy).Contents (Elt F)),
   StableHlo.binary main_v354 main_v360 main_v361 ((fun x i => Host.gather gather_S4x1024x128x4_S4x1024x1_S4x1024x4x1024x4_014_2_n_n_2_2_4102414 x i) : (⟨S4x1024x128x4, .f32⟩ : BufTy).Contents (Elt F) → (⟨S4x1024x1, .i32⟩ : BufTy).Contents (Elt F) → (⟨S4x1024x4x1024x4, .f32⟩ : BufTy).Contents (Elt F)),
   StableHlo.unary main_v188 main_v362 (broadcastInDim S4x1024x1x1x1 ![0, 1] bcast_S4x1024_S4x1024x1x1x1_0_1 : (⟨S4x1024, .f32⟩ : BufTy).Contents (Elt F) → (⟨S4x1024x1x1x1, .f32⟩ : BufTy).Contents (Elt F)),
   StableHlo.unary main_v362 main_v363 (broadcastInDim S4x1024x4x1024x4 ![0, 1, 2, 3, 4] bcast_S4x1024x1x1x1_S4x1024x4x1024x4_0_1_2_3_4 : (⟨S4x1024x1x1x1, .f32⟩ : BufTy).Contents (Elt F) → (⟨S4x1024x4x1024x4, .f32⟩ : BufTy).Contents (Elt F)),
   StableHlo.binary main_v363 main_v361 main_v364 (mulf : (⟨S4x1024x4x1024x4, .f32⟩ : BufTy).Contents (Elt F) → (⟨S4x1024x4x1024x4, .f32⟩ : BufTy).Contents (Elt F) → (⟨S4x1024x4x1024x4, .f32⟩ : BufTy).Contents (Elt F)),
   StableHlo.unary main_v331 main_v365 (broadcastInDim S1x1x4x1024x1 ![2, 3] bcast_S4x1024_S1x1x4x1024x1_2_3 : (⟨S4x1024, .f32⟩ : BufTy).Contents (Elt F) → (⟨S1x1x4x1024x1, .f32⟩ : BufTy).Contents (Elt F)),
   StableHlo.unary main_v365 main_v366 (broadcastInDim S4x1024x4x1024x4 ![0, 1, 2, 3, 4] bcast_S1x1x4x1024x1_S4x1024x4x1024x4_0_1_2_3_4 : (⟨S1x1x4x1024x1, .f32⟩ : BufTy).Contents (Elt F) → (⟨S4x1024x4x1024x4, .f32⟩ : BufTy).Contents (Elt F)),
   StableHlo.binary main_v364 main_v366 main_v367 (mulf : (⟨S4x1024x4x1024x4, .f32⟩ : BufTy).Contents (Elt F) → (⟨S4x1024x4x1024x4, .f32⟩ : BufTy).Contents (Elt F) → (⟨S4x1024x4x1024x4, .f32⟩ : BufTy).Contents (Elt F)),
   StableHlo.nullary main_cst_68 (constant S_ .f32 0x00000000#32),
   StableHlo.binary main_v367 main_cst_68 main_v368 ((fun x v => Host.reduceAdd x v reducesTo_S4x1024x4x1024x4_S1024x1024x4_d0_2 h_S_) : (⟨S4x1024x4x1024x4, .f32⟩ : BufTy).Contents (Elt F) → (⟨S_, .f32⟩ : BufTy).Contents (Elt F) → (⟨S1024x1024x4, .f32⟩ : BufTy).Contents (Elt F)),
   StableHlo.unary main_v368 main_v369 (broadcastInDim S1x1024x1024x4 ![1, 2, 3] bcast_S1024x1024x4_S1x1024x1024x4_1_2_3 : (⟨S1024x1024x4, .f32⟩ : BufTy).Contents (Elt F) → (⟨S1x1024x1024x4, .f32⟩ : BufTy).Contents (Elt F)),
   StableHlo.unary main_v369 main_v370 ((extractStridedSlice S1x1024x1024x3 ![0, 0, 0, 0] · slices_S1x1024x1024x4_S1x1024x1024x3_0_0_0_0) : (⟨S1x1024x1024x4, .f32⟩ : BufTy).Contents (Elt F) → (⟨S1x1024x1024x3, .f32⟩ : BufTy).Contents (Elt F)),
   StableHlo.unary main_v369 main_v371 ((extractStridedSlice S1x1024x1024x1 ![0, 0, 0, 3] · slices_S1x1024x1024x4_S1x1024x1024x1_0_0_0_3) : (⟨S1x1024x1024x4, .f32⟩ : BufTy).Contents (Elt F) → (⟨S1x1024x1024x1, .f32⟩ : BufTy).Contents (Elt F)),
   StableHlo.unary main_v371 main_v372 (broadcastInDim S1x1024x1024x3 ![0, 1, 2, 3] bcast_S1x1024x1024x1_S1x1024x1024x3_0_1_2_3 : (⟨S1x1024x1024x1, .f32⟩ : BufTy).Contents (Elt F) → (⟨S1x1024x1024x3, .f32⟩ : BufTy).Contents (Elt F)),
   StableHlo.binary main_v370 main_v372 main_v373 (Host.divf : (⟨S1x1024x1024x3, .f32⟩ : BufTy).Contents (Elt F) → (⟨S1x1024x1024x3, .f32⟩ : BufTy).Contents (Elt F) → (⟨S1x1024x1024x3, .f32⟩ : BufTy).Contents (Elt F))]

end Cert.Own

end
-- ==== Proof.RefDefs.lean ====
module

public import Idealize.ShloMosaic.Lib.Claim
public import Idealize.ShloMosaic.Lib.Pipeline.ValueKit
public import Idealize.ShloMosaic.Lib.Pointwise
public import proofs.«01_k».proof.Proof.Gen.ReferenceIdeal
public import proofs.«01_k».proof.Proof.Gen.Pre_finite_nonvanishing

@[expose] public section

set_option maxRecDepth 16384

/-! # The reference's arrays, step by step

The arrays the reference builds — the two knot vectors, the knot span of each parameter, the six knots around it,
the four basis values there, the sixteen control points of each pair of parameters and their weighted sum — each
named once, over whatever it is computed from, so that the reference's two directions and the precondition's own
weight surface are the same definitions at different arguments. -/

noncomputable section

namespace Cert.Own

open Idealize.ShloMosaic Cert.ReferenceIdeal Cert.ReferenceIdeal.Facts₀

/-- The clamped knot increments: four zeros, 125 ones, three zeros. -/
def incr0 : FVec Ideal S132 .f32 :=
  concatenate S132 0 [⟨S4, broadcastInDim S4 ![] bcast_S_S4 (constant (F := Ideal) S_ .f32 0x00000000#32)⟩,
    ⟨S125, broadcastInDim S125 ![] bcast_S_S125 (constant (F := Ideal) S_ .f32 0x3F800000#32)⟩,
    ⟨S3, broadcastInDim S3 ![] bcast_S_S3 (constant (F := Ideal) S_ .f32 0x00000000#32)⟩] concatenates_S4_S125_S3_S132_d0

/-- The increments with the negative ones replaced (there are none). -/
def incr : FVec Ideal S132 .f32 :=
  select (cmpf .olt incr0 (broadcastInDim S132 ![] bcast_S_S132 (constant (F := Ideal) S_ .f32 0x00000000#32)))
    (broadcastInDim S132 ![] bcast_S_S132 (constant (F := Ideal) S_ .f32 0x38D1B717#32)) incr0

/-- The running sum of the increments. -/
def csum : FVec Ideal S132 .f32 :=
  Host.reduceWindowAdd ![132] ![1] ![131] ![0] incr
    (broadcastInDim S_ ![] bcast_S_S_ (constant (F := Ideal) S_ .f32 0x00000000#32)) reduceWindows_S132_S132_w132s1p131_0 h_S_

/-- The first entry of the running sum. -/
def csumFirst : FVec Ideal S_ .f32 := shapeCast S_ (extractStridedSlice S1 ![0] csum slices_S132_S1_0) shapeCasts_S1_S_

/-- The last entry of the running sum. -/
def csumLast : FVec Ideal S_ .f32 := shapeCast S_ (extractStridedSlice S1 ![131] csum slices_S132_S1_131) shapeCasts_S1_S_

/-- The knots: the running sum carried affinely onto `[0, 1]`. -/
def knots : FVec Ideal S132 .f32 :=
  Host.divf (subf csum (broadcastInDim S132 ![] bcast_S_S132 csumFirst))
    (broadcastInDim S132 ![] bcast_S_S132 (subf csumLast csumFirst))

/-- The distances of each parameter from the 126 inner knots. -/
def diffs (V : FVec Ideal S132 .f32) (t : FVec Ideal S1024 .f32) : FVec Ideal S126x1024 .f32 :=
  subf (broadcastInDim S126x1024 ![0, 1] bcast_S1x1024_S126x1024_0_1 (broadcastInDim S1x1024 ![1] bcast_S1024_S1x1024_1 t))
    (broadcastInDim S126x1024 ![0, 1] bcast_S126x1_S126x1024_0_1
      (broadcastInDim S126x1 ![0] bcast_S126_S126x1_0 (extractStridedSlice S126 ![3] V slices_S132_S126_3)))

/-- The distances with those not above the tolerance replaced by one. -/
def masked (V : FVec Ideal S132 .f32) (t : FVec Ideal S1024 .f32) : FVec Ideal S126x1024 .f32 :=
  select (cmpf .ogt (diffs V t) (broadcastInDim S126x1024 ![] bcast_S_S126x1024 (constant (F := Ideal) S_ .f32 0x322BCC77#32)))
    (diffs V t) (broadcastInDim S126x1024 ![] bcast_S_S126x1024 (constant (F := Ideal) S_ .f32 0x3F800000#32))

/-- The span of each parameter: the row of the smallest masked distance, plus the degree. -/
def spanV (V : FVec Ideal S132 .f32) (t : FVec Ideal S1024 .f32) : IVec S1024 32 :=
  addi (fun j => (Host.argReduce (reducer_argmin_f32_i32 (F := Ideal)) (masked V t) (iotaInDim S126x1024 32 0)
      (constant (F := Ideal) S_ .f32 0x7F800000#32) (constantI S_ 32 0#32) reducesTo_S126x1024_S1024_d0 h_S_ j).2)
    (broadcastInDim S1024 ![] bcast_S_S1024 (constantI S_ 32 3#32))

/-- The first direction's correction of the span. -/
def clampV (s : IVec S1024 32) : IVec S1024 32 :=
  select (cmpi .eq s (broadcastInDim S1024 ![] bcast_S_S1024 (constantI S_ 32 1024#32)))
    (broadcastInDim S1024 ![] bcast_S_S1024 (constantI S_ 32 1023#32)) s

/-- The positions of the six knots around a span, before negative ones are wrapped. -/
def locRaw (s : IVec S1024 32) : IVec S6x1024 32 :=
  addi (broadcastInDim S6x1024 ![0, 1] bcast_S1x1024_S6x1024_0_1 (broadcastInDim S1x1024 ![1] bcast_S1024_S1x1024_1 s))
    (broadcastInDim S6x1024 ![0, 1] bcast_S6x1_S6x1024_0_1 (broadcastInDim S6x1 ![0] bcast_S6_S6x1_0
      (addi (iotaInDim S6 32 0) (broadcastInDim S6 ![] bcast_S_S6 (constantI S_ 32 4294967294#32)))))

/-- The positions of the six knots around a span. -/
def locIdx (s : IVec S1024 32) : IVec S6x1024x1 32 :=
  broadcastInDim S6x1024x1 ![0, 1] bcast_S6x1024_S6x1024x1_0_1
    (select (cmpi .slt (locRaw s) (broadcastInDim S6x1024 ![] bcast_S_S6x1024 (constantI S_ 32 0#32)))
      (addi (locRaw s) (broadcastInDim S6x1024 ![] bcast_S_S6x1024 (constantI S_ 32 132#32))) (locRaw s))

/-- The six knots around a span. -/
def locV (V : FVec Ideal S132 .f32) (s : IVec S1024 32) : FVec Ideal S6x1024 .f32 :=
  Host.gather gather_S132_S6x1024x1_S6x1024_n_0_n_n_0_2_1 V (locIdx s)

/-- The zero vector of the parameters' length. -/
def zeroV : FVec Ideal S1024 .f32 := broadcastInDim S1024 ![] bcast_S_S1024 (constant (F := Ideal) S_ .f32 0x00000000#32)

/-- The one vector of the parameters' length. -/
def oneV : FVec Ideal S1024 .f32 := broadcastInDim S1024 ![] bcast_S_S1024 (constant (F := Ideal) S_ .f32 0x3F800000#32)

/-- The recursion's quotient: a basis value over the length of its knot interval, a fixed value where that is zero. -/
def tmpV (N V1 V2 t : FVec Ideal S1024 .f32) : FVec Ideal S1024 .f32 :=
  select (cmpf .oeq (addf (subf V1 t) (subf t V2)) zeroV)
    (broadcastInDim S1024 ![] bcast_S_S1024 (constant (F := Ideal) S_ .f32 0x38D1B717#32))
    (Host.divf N (addf (subf V1 t) (subf t V2)))

/-- The left share of a quotient. -/
def lV (V1 t q : FVec Ideal S1024 .f32) : FVec Ideal S1024 .f32 := mulf (subf V1 t) q

/-- The right share of a quotient. -/
def rV (V2 t q : FVec Ideal S1024 .f32) : FVec Ideal S1024 .f32 := mulf (subf t V2) q

/-- Knot 0 of the six around a span. -/
def row0 (K : FVec Ideal S6x1024 .f32) : FVec Ideal S1024 .f32 :=
  shapeCast S1024 (extractStridedSlice S1x1024 ![0, 0] K slices_S6x1024_S1x1024_0_0) shapeCasts_S1x1024_S1024

/-- Knot 1 of the six around a span. -/
def row1 (K : FVec Ideal S6x1024 .f32) : FVec Ideal S1024 .f32 :=
  shapeCast S1024 (extractStridedSlice S1x1024 ![1, 0] K slices_S6x1024_S1x1024_1_0) shapeCasts_S1x1024_S1024

/-- Knot 2 of the six around a span. -/
def row2 (K : FVec Ideal S6x1024 .f32) : FVec Ideal S1024 .f32 :=
  shapeCast S1024 (extractStridedSlice S1x1024 ![2, 0] K slices_S6x1024_S1x1024_2_0) shapeCasts_S1x1024_S1024

/-- Knot 3 of the six around a span. -/
def row3 (K : FVec Ideal S6x1024 .f32) : FVec Ideal S1024 .f32 :=
  shapeCast S1024 (extractStridedSlice S1x1024 ![3, 0] K slices_S6x1024_S1x1024_3_0) shapeCasts_S1x1024_S1024

/-- Knot 4 of the six around a span. -/
def row4 (K : FVec Ideal S6x1024 .f32) : FVec Ideal S1024 .f32 :=
  shapeCast S1024 (extractStridedSlice S1x1024 ![4, 0] K slices_S6x1024_S1x1024_4_0) shapeCasts_S1x1024_S1024

/-- Knot 5 of the six around a span. -/
def row5 (K : FVec Ideal S6x1024 .f32) : FVec Ideal S1024 .f32 :=
  shapeCast S1024 (extractStridedSlice S1x1024 ![5, 0] K slices_S6x1024_S1x1024_5_0) shapeCasts_S1x1024_S1024

/-- The four basis values from the six knots and the parameter: the Cox–de Boor recursion of degree three. -/
def basV (K : FVec Ideal S6x1024 .f32) (t : FVec Ideal S1024 .f32) : FVec Ideal S4x1024 .f32 :=
  let q10 := tmpV oneV (row3 K) (row2 K) t
  let a0 := addf zeroV (lV (row3 K) t q10)
  let a1 := rV (row2 K) t q10
  let q20 := tmpV a0 (row3 K) (row1 K) t
  let b0 := addf zeroV (lV (row3 K) t q20)
  let q21 := tmpV a1 (row4 K) (row2 K) t
  let b1 := addf (rV (row1 K) t q20) (lV (row4 K) t q21)
  let b2 := rV (row2 K) t q21
  let q30 := tmpV b0 (row3 K) (row0 K) t
  let c0 := addf zeroV (lV (row3 K) t q30)
  let q31 := tmpV b1 (row4 K) (row1 K) t
  let c1 := addf (rV (row0 K) t q30) (lV (row4 K) t q31)
  let q32 := tmpV b2 (row5 K) (row2 K) t
  let c2 := addf (rV (row1 K) t q31) (lV (row5 K) t q32)
  let c3 := rV (row2 K) t q32
  concatenate S4x1024 0 [⟨S1x1024, broadcastInDim S1x1024 ![1] bcast_S1024_S1x1024_1 c0⟩,
    ⟨S1x1024, broadcastInDim S1x1024 ![1] bcast_S1024_S1x1024_1 c1⟩,
    ⟨S1x1024, broadcastInDim S1x1024 ![1] bcast_S1024_S1x1024_1 c2⟩,
    ⟨S1x1024, broadcastInDim S1x1024 ![1] bcast_S1024_S1x1024_1 c3⟩] concatenates_S1x1024_S1x1024_S1x1024_S1x1024_S4x1024_d0

/-- The four control-point positions of a span, before negative ones are wrapped. -/
def winRaw (s : IVec S1024 32) : IVec S4x1024 32 :=
  addi (broadcastInDim S4x1024 ![0, 1] bcast_S1x1024_S4x1024_0_1 (broadcastInDim S1x1024 ![1] bcast_S1024_S1x1024_1
      (subi s (broadcastInDim S1024 ![] bcast_S_S1024 (constantI S_ 32 3#32)))))
    (broadcastInDim S4x1024 ![0, 1] bcast_S4x1_S4x1024_0_1 (broadcastInDim S4x1 ![0] bcast_S4_S4x1_0 (iotaInDim S4 32 0)))

/-- The four control-point positions of a span. -/
def winIdx (s : IVec S1024 32) : IVec S4x1024x1 32 :=
  broadcastInDim S4x1024x1 ![0, 1] bcast_S4x1024_S4x1024x1_0_1
    (select (cmpi .slt (winRaw s) (broadcastInDim S4x1024 ![] bcast_S_S4x1024 (constantI S_ 32 0#32)))
      (addi (winRaw s) (broadcastInDim S4x1024 ![] bcast_S_S4x1024 (constantI S_ 32 128#32))) (winRaw s))

/-- The sum of the sixteen weighted control points of each pair of parameters, four coordinates. -/
def surf4 (P : FVec Ideal Cert.ReferenceIdeal.S128x128x4 .f32) (su sv : IVec S1024 32) (Nu Nv : FVec Ideal S4x1024 .f32) :
    FVec Ideal Cert.ReferenceIdeal.S1024x1024x4 .f32 :=
  Host.reduceAdd (mulf (mulf
      (broadcastInDim Cert.ReferenceIdeal.S4x1024x4x1024x4 ![0, 1, 2, 3, 4] Cert.ReferenceIdeal.Facts₀.bcast_S4x1024x1x1x1_S4x1024x4x1024x4_0_1_2_3_4
        (broadcastInDim S4x1024x1x1x1 ![0, 1] bcast_S4x1024_S4x1024x1x1x1_0_1 Nu))
      (Host.gather Cert.ReferenceIdeal.gather_S4x1024x128x4_S4x1024x1_S4x1024x4x1024x4_014_2_n_n_2_2_4102414 (Host.gather Cert.ReferenceIdeal.gather_S128x128x4_S4x1024x1_S4x1024x128x4_23_0_n_n_0_2_11284 P (winIdx su)) (winIdx sv)))
    (broadcastInDim Cert.ReferenceIdeal.S4x1024x4x1024x4 ![0, 1, 2, 3, 4] Cert.ReferenceIdeal.Facts₀.bcast_S1x1x4x1024x1_S4x1024x4x1024x4_0_1_2_3_4
      (broadcastInDim S1x1x4x1024x1 ![2, 3] bcast_S4x1024_S1x1x4x1024x1_2_3 Nv)))
    (constant (F := Ideal) S_ .f32 0x00000000#32) Cert.ReferenceIdeal.Facts₀.reducesTo_S4x1024x4x1024x4_S1024x1024x4_d0_2 Cert.ReferenceIdeal.Facts₀.h_S_

/-- The same sum for a single coordinate. -/
def surf1 (P : FVec Ideal Cert.Pre_finite_nonvanishing.S128x128x1 .f32) (su sv : IVec S1024 32) (Nu Nv : FVec Ideal S4x1024 .f32) :
    FVec Ideal Cert.Pre_finite_nonvanishing.S1024x1024x1 .f32 :=
  Host.reduceAdd (mulf (mulf
      (broadcastInDim Cert.Pre_finite_nonvanishing.S4x1024x4x1024x1 ![0, 1, 2, 3, 4] Cert.Pre_finite_nonvanishing.Facts.bcast_S4x1024x1x1x1_S4x1024x4x1024x1_0_1_2_3_4
        (broadcastInDim S4x1024x1x1x1 ![0, 1] bcast_S4x1024_S4x1024x1x1x1_0_1 Nu))
      (Host.gather Cert.Pre_finite_nonvanishing.gather_S4x1024x128x1_S4x1024x1_S4x1024x4x1024x1_014_2_n_n_2_2_4102411 (Host.gather Cert.Pre_finite_nonvanishing.gather_S128x128x1_S4x1024x1_S4x1024x128x1_23_0_n_n_0_2_11281 P (winIdx su)) (winIdx sv)))
    (broadcastInDim Cert.Pre_finite_nonvanishing.S4x1024x4x1024x1 ![0, 1, 2, 3, 4] Cert.Pre_finite_nonvanishing.Facts.bcast_S1x1x4x1024x1_S4x1024x4x1024x1_0_1_2_3_4
      (broadcastInDim S1x1x4x1024x1 ![2, 3] bcast_S4x1024_S1x1x4x1024x1_2_3 Nv)))
    (constant (F := Ideal) S_ .f32 0x00000000#32) Cert.Pre_finite_nonvanishing.Facts.reducesTo_S4x1024x4x1024x1_S1024x1024x1_d0_2 Cert.Pre_finite_nonvanishing.Facts.h_S_

/-- The parameters in increasing order. -/
def sorted (u : FVec Ideal S1024 .f32) : FVec Ideal S1024 .f32 := Host.sort S1024 0 (comparator_f32_d0 (F := Ideal)) u

/-- The homogeneous control points: the points times their weights, and the weights. -/
def ctrlV (p : FVec Ideal S1x128x128x3 .f32) (w : FVec Ideal S1x128x128x1 .f32) : FVec Ideal S128x128x4 .f32 :=
  shapeCast S128x128x4 (concatenate S1x128x128x4 3
    [⟨S1x128x128x3, mulf p (broadcastInDim S1x128x128x3 ![0, 1, 2, 3] bcast_S1x128x128x1_S1x128x128x3_0_1_2_3 w)⟩,
      ⟨S1x128x128x1, w⟩] concatenates_S1x128x128x3_S1x128x128x1_S1x128x128x4_d3) shapeCasts_S1x128x128x4_S128x128x4

/-- The projection: the first three homogeneous coordinates over the fourth, with a leading one-axis. -/
def projV (S : FVec Ideal S1024x1024x4 .f32) : FVec Ideal S1x1024x1024x3 .f32 :=
  Host.divf (extractStridedSlice S1x1024x1024x3 ![0, 0, 0, 0] (broadcastInDim S1x1024x1024x4 ![1, 2, 3] bcast_S1024x1024x4_S1x1024x1024x4_1_2_3 S)
      slices_S1x1024x1024x4_S1x1024x1024x3_0_0_0_0)
    (broadcastInDim S1x1024x1024x3 ![0, 1, 2, 3] bcast_S1x1024x1024x1_S1x1024x1024x3_0_1_2_3
      (extractStridedSlice S1x1024x1024x1 ![0, 0, 0, 3] (broadcastInDim S1x1024x1024x4 ![1, 2, 3] bcast_S1024x1024x4_S1x1024x1024x4_1_2_3 S)
        slices_S1x1024x1024x4_S1x1024x1024x1_0_0_0_3))

/-- The reference's result. -/
def refV (p : FVec Ideal S1x128x128x3 .f32) (w : FVec Ideal S1x128x128x1 .f32) (u v : FVec Ideal S1024 .f32) :
    FVec Ideal S1x1024x1024x3 .f32 :=
  projV (surf4 (ctrlV p w) (clampV (spanV knots (sorted u))) (spanV knots v)
      (basV (locV knots (clampV (spanV knots (sorted u)))) (sorted u)) (basV (locV knots (spanV knots v)) v))

/-- The weight surface of the precondition: the same sum over the weights alone. -/
def wsurf (w : FVec Ideal S1x128x128x1 .f32) (u v : FVec Ideal S1024 .f32) : FVec Ideal Cert.Pre_finite_nonvanishing.S1024x1024x1 .f32 :=
  surf1 (shapeCast Cert.Pre_finite_nonvanishing.S128x128x1 w Cert.Pre_finite_nonvanishing.Facts.shapeCasts_S1x128x128x1_S128x128x1)
    (clampV (spanV knots (sorted u))) (spanV knots v)
    (basV (locV knots (clampV (spanV knots (sorted u)))) (sorted u)) (basV (locV knots (spanV knots v)) v)

end Cert.Own

end
-- ==== Proof.RefSeg.lean ====
module

public import Idealize.ShloMosaic.Lib.StableHlo.RunRead
public import Idealize.ShloMosaic.Lib.StableHlo.RunClose
public import proofs.«01_k».proof.Proof.RefOps
public import proofs.«01_k».proof.Proof.RefDefs

@[expose] public section

set_option maxRecDepth 65536

/-! # What each stretch of the reference's operations leaves -/

noncomputable section

namespace Cert.Own

open Idealize.ShloMosaic Idealize.ShloMosaic.StableHlo Cert.ReferenceIdeal Cert.ReferenceIdeal.Facts₀

set_option maxHeartbeats 4000000 in
/-- The first stretch leaves the homogeneous control points. -/
theorem seg0_ctrl (σ : Valuation τ sig (Elt Ideal)) :
    after seg0 σ (Proc.devRef .tc main_v3) = ctrlV (σ (Proc.devRef .tc main_arg0)) (σ (Proc.devRef .tc main_arg1)) := by
  unfold seg0
  after_reads_simp
  rfl

set_option maxHeartbeats 4000000 in
/-- The first stretch leaves the knots. -/
theorem seg0_knots (σ : Valuation τ sig (Elt Ideal)) : after seg0 σ (Proc.devRef .tc main_v22) = knots := by
  unfold seg0
  after_reads_simp
  rfl

set_option maxHeartbeats 4000000 in
/-- The second stretch leaves the knots again. -/
theorem seg1_knots (σ : Valuation τ sig (Elt Ideal)) : after seg1 σ (Proc.devRef .tc main_v41) = knots := by
  unfold seg1
  after_reads_simp
  rfl

set_option maxHeartbeats 4000000 in
/-- The third stretch leaves the sorted parameters. -/
theorem seg2_sorted (σ : Valuation τ sig (Elt Ideal)) :
    after seg2 σ (Proc.devRef .tc main_v42) = sorted (σ (Proc.devRef .tc main_arg2)) := by
  unfold seg2
  after_reads_simp
  rfl

set_option maxHeartbeats 4000000 in
/-- The fourth stretch leaves the spans of the sorted parameters. -/
theorem seg3_span (σ : Valuation τ sig (Elt Ideal)) :
    after seg3 σ (Proc.devRef .tc main_v55) = spanV (σ (Proc.devRef .tc main_v22)) (σ (Proc.devRef .tc main_v42)) := by
  unfold seg3
  after_reads_simp
  rfl

set_option maxHeartbeats 4000000 in
/-- The fifth stretch leaves the corrected spans. -/
theorem seg4_clamp (σ : Valuation τ sig (Elt Ideal)) :
    after seg4 σ (Proc.devRef .tc main_v58) = clampV (σ (Proc.devRef .tc main_v55)) := by
  unfold seg4
  after_reads_simp
  rfl

set_option maxHeartbeats 4000000 in
/-- The sixth stretch leaves the six knots around each span. -/
theorem seg5_loc (σ : Valuation τ sig (Elt Ideal)) :
    after seg5 σ (Proc.devRef .tc main_v73) = locV (σ (Proc.devRef .tc main_v22)) (σ (Proc.devRef .tc main_v58)) := by
  unfold seg5
  after_reads_simp
  rfl

set_option maxHeartbeats 4000000 in
/-- The seventh stretch leaves the basis values. -/
theorem seg6_bas (σ : Valuation τ sig (Elt Ideal)) :
    after seg6 σ (Proc.devRef .tc main_v188) = basV (σ (Proc.devRef .tc main_v73)) (σ (Proc.devRef .tc main_v42)) := by
  unfold seg6
  after_reads_simp
  rfl

set_option maxHeartbeats 4000000 in
/-- The eighth stretch leaves the spans of the second direction. -/
theorem seg7_span (σ : Valuation τ sig (Elt Ideal)) :
    after seg7 σ (Proc.devRef .tc main_v201) = spanV (σ (Proc.devRef .tc main_v41)) (σ (Proc.devRef .tc main_arg3)) := by
  unfold seg7
  after_reads_simp
  rfl

set_option maxHeartbeats 4000000 in
/-- The ninth stretch leaves the six knots around each span of the second direction. -/
theorem seg8_loc (σ : Valuation τ sig (Elt Ideal)) :
    after seg8 σ (Proc.devRef .tc main_v216) = locV (σ (Proc.devRef .tc main_v41)) (σ (Proc.devRef .tc main_v201)) := by
  unfold seg8
  after_reads_simp
  rfl

set_option maxHeartbeats 4000000 in
/-- The tenth stretch leaves the basis values of the second direction. -/
theorem seg9_bas (σ : Valuation τ sig (Elt Ideal)) :
    after seg9 σ (Proc.devRef .tc main_v331) = basV (σ (Proc.devRef .tc main_v216)) (σ (Proc.devRef .tc main_arg3)) := by
  unfold seg9
  after_reads_simp
  rfl

set_option maxHeartbeats 4000000 in
/-- The last stretch leaves the first three homogeneous coordinates over the fourth. -/
theorem seg10_out (σ : Valuation τ sig (Elt Ideal)) :
    after seg10 σ (Proc.devRef .tc main_v373) = projV (surf4 (σ (Proc.devRef .tc main_v3)) (σ (Proc.devRef .tc main_v58)) (σ (Proc.devRef .tc main_v201))
      (σ (Proc.devRef .tc main_v188)) (σ (Proc.devRef .tc main_v331))) := by
  unfold seg10
  after_reads_simp
  rfl

set_option maxHeartbeats 4000000 in
/-- Stretch 0 leaves the later stretches' operands alone. -/
theorem seg0_keep (σ : Valuation τ sig (Elt Ideal)) :
    after seg0 σ (Proc.devRef .tc main_arg0) = σ (Proc.devRef .tc main_arg0) ∧ after seg0 σ (Proc.devRef .tc main_arg1) = σ (Proc.devRef .tc main_arg1) ∧ after seg0 σ (Proc.devRef .tc main_arg2) = σ (Proc.devRef .tc main_arg2) ∧ after seg0 σ (Proc.devRef .tc main_arg3) = σ (Proc.devRef .tc main_arg3) := by
  unfold seg0
  refine ⟨?_, ?_, ?_, ?_⟩ <;> after_reads_simp

set_option maxHeartbeats 4000000 in
/-- Stretch 1 leaves the later stretches' operands alone. -/
theorem seg1_keep (σ : Valuation τ sig (Elt Ideal)) :
    after seg1 σ (Proc.devRef .tc main_v3) = σ (Proc.devRef .tc main_v3) ∧ after seg1 σ (Proc.devRef .tc main_v22) = σ (Proc.devRef .tc main_v22) ∧ after seg1 σ (Proc.devRef .tc main_arg0) = σ (Proc.devRef .tc main_arg0) ∧ after seg1 σ (Proc.devRef .tc main_arg1) = σ (Proc.devRef .tc main_arg1) ∧ after seg1 σ (Proc.devRef .tc main_arg2) = σ (Proc.devRef .tc main_arg2) ∧ after seg1 σ (Proc.devRef .tc main_arg3) = σ (Proc.devRef .tc main_arg3) := by
  unfold seg1
  refine ⟨?_, ?_, ?_, ?_, ?_, ?_⟩ <;> after_reads_simp

set_option maxHeartbeats 4000000 in
/-- Stretch 2 leaves the later stretches' operands alone. -/
theorem seg2_keep (σ : Valuation τ sig (Elt Ideal)) :
    after seg2 σ (Proc.devRef .tc main_v3) = σ (Proc.devRef .tc main_v3) ∧ after seg2 σ (Proc.devRef .tc main_v22) = σ (Proc.devRef .tc main_v22) ∧ after seg2 σ (Proc.devRef .tc main_v41) = σ (Proc.devRef .tc main_v41) ∧ after seg2 σ (Proc.devRef .tc main_arg0) = σ (Proc.devRef .tc main_arg0) ∧ after seg2 σ (Proc.devRef .tc main_arg1) = σ (Proc.devRef .tc main_arg1) ∧ after seg2 σ (Proc.devRef .tc main_arg2) = σ (Proc.devRef .tc main_arg2) ∧ after seg2 σ (Proc.devRef .tc main_arg3) = σ (Proc.devRef .tc main_arg3) := by
  unfold seg2
  refine ⟨?_, ?_, ?_, ?_, ?_, ?_, ?_⟩ <;> after_reads_simp

set_option maxHeartbeats 4000000 in
/-- Stretch 3 leaves the later stretches' operands alone. -/
theorem seg3_keep (σ : Valuation τ sig (Elt Ideal)) :
    after seg3 σ (Proc.devRef .tc main_v3) = σ (Proc.devRef .tc main_v3) ∧ after seg3 σ (Proc.devRef .tc main_v22) = σ (Proc.devRef .tc main_v22) ∧ after seg3 σ (Proc.devRef .tc main_v41) = σ (Proc.devRef .tc main_v41) ∧ after seg3 σ (Proc.devRef .tc main_v42) = σ (Proc.devRef .tc main_v42) ∧ after seg3 σ (Proc.devRef .tc main_arg0) = σ (Proc.devRef .tc main_arg0) ∧ after seg3 σ (Proc.devRef .tc main_arg1) = σ (Proc.devRef .tc main_arg1) ∧ after seg3 σ (Proc.devRef .tc main_arg2) = σ (Proc.devRef .tc main_arg2) ∧ after seg3 σ (Proc.devRef .tc main_arg3) = σ (Proc.devRef .tc main_arg3) := by
  unfold seg3
  refine ⟨?_, ?_, ?_, ?_, ?_, ?_, ?_, ?_⟩ <;> after_reads_simp

set_option maxHeartbeats 4000000 in
/-- Stretch 4 leaves the later stretches' operands alone. -/
theorem seg4_keep (σ : Valuation τ sig (Elt Ideal)) :
    after seg4 σ (Proc.devRef .tc main_v3) = σ (Proc.devRef .tc main_v3) ∧ after seg4 σ (Proc.devRef .tc main_v22) = σ (Proc.devRef .tc main_v22) ∧ after seg4 σ (Proc.devRef .tc main_v41) = σ (Proc.devRef .tc main_v41) ∧ after seg4 σ (Proc.devRef .tc main_v42) = σ (Proc.devRef .tc main_v42) ∧ after seg4 σ (Proc.devRef .tc main_arg0) = σ (Proc.devRef .tc main_arg0) ∧ after seg4 σ (Proc.devRef .tc main_arg1) = σ (Proc.devRef .tc main_arg1) ∧ after seg4 σ (Proc.devRef .tc main_arg2) = σ (Proc.devRef .tc main_arg2) ∧ after seg4 σ (Proc.devRef .tc main_arg3) = σ (Proc.devRef .tc main_arg3) := by
  unfold seg4
  refine ⟨?_, ?_, ?_, ?_, ?_, ?_, ?_, ?_⟩ <;> after_reads_simp

set_option maxHeartbeats 4000000 in
/-- Stretch 5 leaves the later stretches' operands alone. -/
theorem seg5_keep (σ : Valuation τ sig (Elt Ideal)) :
    after seg5 σ (Proc.devRef .tc main_v3) = σ (Proc.devRef .tc main_v3) ∧ after seg5 σ (Proc.devRef .tc main_v41) = σ (Proc.devRef .tc main_v41) ∧ after seg5 σ (Proc.devRef .tc main_v42) = σ (Proc.devRef .tc main_v42) ∧ after seg5 σ (Proc.devRef .tc main_v58) = σ (Proc.devRef .tc main_v58) ∧ after seg5 σ (Proc.devRef .tc main_arg0) = σ (Proc.devRef .tc main_arg0) ∧ after seg5 σ (Proc.devRef .tc main_arg1) = σ (Proc.devRef .tc main_arg1) ∧ after seg5 σ (Proc.devRef .tc main_arg2) = σ (Proc.devRef .tc main_arg2) ∧ after seg5 σ (Proc.devRef .tc main_arg3) = σ (Proc.devRef .tc main_arg3) := by
  unfold seg5
  refine ⟨?_, ?_, ?_, ?_, ?_, ?_, ?_, ?_⟩ <;> after_reads_simp

set_option maxHeartbeats 4000000 in
/-- Stretch 6 leaves the later stretches' operands alone. -/
theorem seg6_keep (σ : Valuation τ sig (Elt Ideal)) :
    after seg6 σ (Proc.devRef .tc main_v3) = σ (Proc.devRef .tc main_v3) ∧ after seg6 σ (Proc.devRef .tc main_v41) = σ (Proc.devRef .tc main_v41) ∧ after seg6 σ (Proc.devRef .tc main_v58) = σ (Proc.devRef .tc main_v58) ∧ after seg6 σ (Proc.devRef .tc main_arg0) = σ (Proc.devRef .tc main_arg0) ∧ after seg6 σ (Proc.devRef .tc main_arg1) = σ (Proc.devRef .tc main_arg1) ∧ after seg6 σ (Proc.devRef .tc main_arg2) = σ (Proc.devRef .tc main_arg2) ∧ after seg6 σ (Proc.devRef .tc main_arg3) = σ (Proc.devRef .tc main_arg3) := by
  unfold seg6
  refine ⟨?_, ?_, ?_, ?_, ?_, ?_, ?_⟩ <;> after_reads_simp

set_option maxHeartbeats 4000000 in
/-- Stretch 7 leaves the later stretches' operands alone. -/
theorem seg7_keep (σ : Valuation τ sig (Elt Ideal)) :
    after seg7 σ (Proc.devRef .tc main_v3) = σ (Proc.devRef .tc main_v3) ∧ after seg7 σ (Proc.devRef .tc main_v41) = σ (Proc.devRef .tc main_v41) ∧ after seg7 σ (Proc.devRef .tc main_v58) = σ (Proc.devRef .tc main_v58) ∧ after seg7 σ (Proc.devRef .tc main_v188) = σ (Proc.devRef .tc main_v188) ∧ after seg7 σ (Proc.devRef .tc main_arg0) = σ (Proc.devRef .tc main_arg0) ∧ after seg7 σ (Proc.devRef .tc main_arg1) = σ (Proc.devRef .tc main_arg1) ∧ after seg7 σ (Proc.devRef .tc main_arg2) = σ (Proc.devRef .tc main_arg2) ∧ after seg7 σ (Proc.devRef .tc main_arg3) = σ (Proc.devRef .tc main_arg3) := by
  unfold seg7
  refine ⟨?_, ?_, ?_, ?_, ?_, ?_, ?_, ?_⟩ <;> after_reads_simp

set_option maxHeartbeats 4000000 in
/-- Stretch 8 leaves the later stretches' operands alone. -/
theorem seg8_keep (σ : Valuation τ sig (Elt Ideal)) :
    after seg8 σ (Proc.devRef .tc main_v3) = σ (Proc.devRef .tc main_v3) ∧ after seg8 σ (Proc.devRef .tc main_v58) = σ (Proc.devRef .tc main_v58) ∧ after seg8 σ (Proc.devRef .tc main_v188) = σ (Proc.devRef .tc main_v188) ∧ after seg8 σ (Proc.devRef .tc main_v201) = σ (Proc.devRef .tc main_v201) ∧ after seg8 σ (Proc.devRef .tc main_arg0) = σ (Proc.devRef .tc main_arg0) ∧ after seg8 σ (Proc.devRef .tc main_arg1) = σ (Proc.devRef .tc main_arg1) ∧ after seg8 σ (Proc.devRef .tc main_arg2) = σ (Proc.devRef .tc main_arg2) ∧ after seg8 σ (Proc.devRef .tc main_arg3) = σ (Proc.devRef .tc main_arg3) := by
  unfold seg8
  refine ⟨?_, ?_, ?_, ?_, ?_, ?_, ?_, ?_⟩ <;> after_reads_simp

set_option maxHeartbeats 4000000 in
/-- Stretch 9 leaves the later stretches' operands alone. -/
theorem seg9_keep (σ : Valuation τ sig (Elt Ideal)) :
    after seg9 σ (Proc.devRef .tc main_v3) = σ (Proc.devRef .tc main_v3) ∧ after seg9 σ (Proc.devRef .tc main_v58) = σ (Proc.devRef .tc main_v58) ∧ after seg9 σ (Proc.devRef .tc main_v188) = σ (Proc.devRef .tc main_v188) ∧ after seg9 σ (Proc.devRef .tc main_v201) = σ (Proc.devRef .tc main_v201) ∧ after seg9 σ (Proc.devRef .tc main_arg0) = σ (Proc.devRef .tc main_arg0) ∧ after seg9 σ (Proc.devRef .tc main_arg1) = σ (Proc.devRef .tc main_arg1) ∧ after seg9 σ (Proc.devRef .tc main_arg2) = σ (Proc.devRef .tc main_arg2) ∧ after seg9 σ (Proc.devRef .tc main_arg3) = σ (Proc.devRef .tc main_arg3) := by
  unfold seg9
  refine ⟨?_, ?_, ?_, ?_, ?_, ?_, ?_, ?_⟩ <;> after_reads_simp

set_option maxHeartbeats 4000000 in
/-- Stretch 10 leaves the later stretches' operands alone. -/
theorem seg10_keep (σ : Valuation τ sig (Elt Ideal)) :
    after seg10 σ (Proc.devRef .tc main_arg0) = σ (Proc.devRef .tc main_arg0) ∧ after seg10 σ (Proc.devRef .tc main_arg1) = σ (Proc.devRef .tc main_arg1) ∧ after seg10 σ (Proc.devRef .tc main_arg2) = σ (Proc.devRef .tc main_arg2) ∧ after seg10 σ (Proc.devRef .tc main_arg3) = σ (Proc.devRef .tc main_arg3) := by
  unfold seg10
  refine ⟨?_, ?_, ?_, ?_⟩ <;> after_reads_simp

end Cert.Own

end
-- ==== Proof.RefRun.lean ====
module

public import Idealize.ShloMosaic.Lib.Quiescent
public import proofs.«01_k».proof.Proof.RefSeg

@[expose] public section

set_option maxRecDepth 65536

/-! # The reference's run

The stretches one after the other: the result is `refV` of the arguments, and the arguments are left as they were. -/

noncomputable section

namespace Cert.Own

open Idealize.ShloMosaic Idealize.ShloMosaic.StableHlo Idealize.SL.Sem Cert.ReferenceIdeal

/-- Two lists of operations one after the other. -/
theorem after_two (l k : List (HloOp τ sig (Elt Ideal))) (σ : Valuation τ sig (Elt Ideal)) : after (l ++ k) σ = after k (after l σ) := by
  induction l generalizing σ with
  | nil => rfl
  | cons op l ih => simp only [List.cons_append, after_cons, ih]

/-- All the reference's operations. -/
def allOps : List (HloOp τ sig (Elt Ideal)) :=
  seg0 ++ (seg1 ++ (seg2 ++ (seg3 ++ (seg4 ++ (seg5 ++ (seg6 ++ (seg7 ++ (seg8 ++ (seg9 ++ seg10)))))))))

/-- What the reference's operations leave: the result, and the arguments. -/
theorem after_all (σ : Valuation τ sig (Elt Ideal)) :
    after allOps σ (Proc.devRef .tc main_v373) = refV (σ (Proc.devRef .tc main_arg0)) (σ (Proc.devRef .tc main_arg1)) (σ (Proc.devRef .tc main_arg2)) (σ (Proc.devRef .tc main_arg3))
    ∧ after allOps σ (Proc.devRef .tc main_arg0) = σ (Proc.devRef .tc main_arg0)
    ∧ after allOps σ (Proc.devRef .tc main_arg1) = σ (Proc.devRef .tc main_arg1)
    ∧ after allOps σ (Proc.devRef .tc main_arg2) = σ (Proc.devRef .tc main_arg2)
    ∧ after allOps σ (Proc.devRef .tc main_arg3) = σ (Proc.devRef .tc main_arg3) := by
  unfold allOps
  simp only [after_two]
  have k0_arg0 := fun σ => (seg0_keep σ).1
  have k0_arg1 := fun σ => (seg0_keep σ).2.1
  have k0_arg2 := fun σ => (seg0_keep σ).2.2.1
  have k0_arg3 := fun σ => (seg0_keep σ).2.2.2
  have k1_v3 := fun σ => (seg1_keep σ).1
  have k1_v22 := fun σ => (seg1_keep σ).2.1
  have k1_arg0 := fun σ => (seg1_keep σ).2.2.1
  have k1_arg1 := fun σ => (seg1_keep σ).2.2.2.1
  have k1_arg2 := fun σ => (seg1_keep σ).2.2.2.2.1
  have k1_arg3 := fun σ => (seg1_keep σ).2.2.2.2.2
  have k2_v3 := fun σ => (seg2_keep σ).1
  have k2_v22 := fun σ => (seg2_keep σ).2.1
  have k2_v41 := fun σ => (seg2_keep σ).2.2.1
  have k2_arg0 := fun σ => (seg2_keep σ).2.2.2.1
  have k2_arg1 := fun σ => (seg2_keep σ).2.2.2.2.1
  have k2_arg2 := fun σ => (seg2_keep σ).2.2.2.2.2.1
  have k2_arg3 := fun σ => (seg2_keep σ).2.2.2.2.2.2
  have k3_v3 := fun σ => (seg3_keep σ).1
  have k3_v22 := fun σ => (seg3_keep σ).2.1
  have k3_v41 := fun σ => (seg3_keep σ).2.2.1
  have k3_v42 := fun σ => (seg3_keep σ).2.2.2.1
  have k3_arg0 := fun σ => (seg3_keep σ).2.2.2.2.1
  have k3_arg1 := fun σ => (seg3_keep σ).2.2.2.2.2.1
  have k3_arg2 := fun σ => (seg3_keep σ).2.2.2.2.2.2.1
  have k3_arg3 := fun σ => (seg3_keep σ).2.2.2.2.2.2.2
  have k4_v3 := fun σ => (seg4_keep σ).1
  have k4_v22 := fun σ => (seg4_keep σ).2.1
  have k4_v41 := fun σ => (seg4_keep σ).2.2.1
  have k4_v42 := fun σ => (seg4_keep σ).2.2.2.1
  have k4_arg0 := fun σ => (seg4_keep σ).2.2.2.2.1
  have k4_arg1 := fun σ => (seg4_keep σ).2.2.2.2.2.1
  have k4_arg2 := fun σ => (seg4_keep σ).2.2.2.2.2.2.1
  have k4_arg3 := fun σ => (seg4_keep σ).2.2.2.2.2.2.2
  have k5_v3 := fun σ => (seg5_keep σ).1
  have k5_v41 := fun σ => (seg5_keep σ).2.1
  have k5_v42 := fun σ => (seg5_keep σ).2.2.1
  have k5_v58 := fun σ => (seg5_keep σ).2.2.2.1
  have k5_arg0 := fun σ => (seg5_keep σ).2.2.2.2.1
  have k5_arg1 := fun σ => (seg5_keep σ).2.2.2.2.2.1
  have k5_arg2 := fun σ => (seg5_keep σ).2.2.2.2.2.2.1
  have k5_arg3 := fun σ => (seg5_keep σ).2.2.2.2.2.2.2
  have k6_v3 := fun σ => (seg6_keep σ).1
  have k6_v41 := fun σ => (seg6_keep σ).2.1
  have k6_v58 := fun σ => (seg6_keep σ).2.2.1
  have k6_arg0 := fun σ => (seg6_keep σ).2.2.2.1
  have k6_arg1 := fun σ => (seg6_keep σ).2.2.2.2.1
  have k6_arg2 := fun σ => (seg6_keep σ).2.2.2.2.2.1
  have k6_arg3 := fun σ => (seg6_keep σ).2.2.2.2.2.2
  have k7_v3 := fun σ => (seg7_keep σ).1
  have k7_v41 := fun σ => (seg7_keep σ).2.1
  have k7_v58 := fun σ => (seg7_keep σ).2.2.1
  have k7_v188 := fun σ => (seg7_keep σ).2.2.2.1
  have k7_arg0 := fun σ => (seg7_keep σ).2.2.2.2.1
  have k7_arg1 := fun σ => (seg7_keep σ).2.2.2.2.2.1
  have k7_arg2 := fun σ => (seg7_keep σ).2.2.2.2.2.2.1
  have k7_arg3 := fun σ => (seg7_keep σ).2.2.2.2.2.2.2
  have k8_v3 := fun σ => (seg8_keep σ).1
  have k8_v58 := fun σ => (seg8_keep σ).2.1
  have k8_v188 := fun σ => (seg8_keep σ).2.2.1
  have k8_v201 := fun σ => (seg8_keep σ).2.2.2.1
  have k8_arg0 := fun σ => (seg8_keep σ).2.2.2.2.1
  have k8_arg1 := fun σ => (seg8_keep σ).2.2.2.2.2.1
  have k8_arg2 := fun σ => (seg8_keep σ).2.2.2.2.2.2.1
  have k8_arg3 := fun σ => (seg8_keep σ).2.2.2.2.2.2.2
  have k9_v3 := fun σ => (seg9_keep σ).1
  have k9_v58 := fun σ => (seg9_keep σ).2.1
  have k9_v188 := fun σ => (seg9_keep σ).2.2.1
  have k9_v201 := fun σ => (seg9_keep σ).2.2.2.1
  have k9_arg0 := fun σ => (seg9_keep σ).2.2.2.2.1
  have k9_arg1 := fun σ => (seg9_keep σ).2.2.2.2.2.1
  have k9_arg2 := fun σ => (seg9_keep σ).2.2.2.2.2.2.1
  have k9_arg3 := fun σ => (seg9_keep σ).2.2.2.2.2.2.2
  have k10_arg0 := fun σ => (seg10_keep σ).1
  have k10_arg1 := fun σ => (seg10_keep σ).2.1
  have k10_arg2 := fun σ => (seg10_keep σ).2.2.1
  have k10_arg3 := fun σ => (seg10_keep σ).2.2.2
  refine ⟨?_, ?_, ?_, ?_, ?_⟩
  · rw [seg10_out]
    unfold refV
    repeat first | simp only [k0_arg0, k0_arg1, k0_arg2, k0_arg3, k1_v3, k1_v22, k1_arg0, k1_arg1, k1_arg2, k1_arg3, k2_v3, k2_v22, k2_v41, k2_arg0, k2_arg1, k2_arg2, k2_arg3, k3_v3, k3_v22, k3_v41, k3_v42, k3_arg0, k3_arg1, k3_arg2, k3_arg3, k4_v3, k4_v22, k4_v41, k4_v42, k4_arg0, k4_arg1, k4_arg2, k4_arg3, k5_v3, k5_v41, k5_v42, k5_v58, k5_arg0, k5_arg1, k5_arg2, k5_arg3, k6_v3, k6_v41, k6_v58, k6_arg0, k6_arg1, k6_arg2, k6_arg3, k7_v3, k7_v41, k7_v58, k7_v188, k7_arg0, k7_arg1, k7_arg2, k7_arg3, k8_v3, k8_v58, k8_v188, k8_v201, k8_arg0, k8_arg1, k8_arg2, k8_arg3, k9_v3, k9_v58, k9_v188, k9_v201, k9_arg0, k9_arg1, k9_arg2, k9_arg3, k10_arg0, k10_arg1, k10_arg2, k10_arg3] | rw [seg0_ctrl] | rw [seg0_knots] | rw [seg1_knots] | rw [seg2_sorted] | rw [seg3_span] | rw [seg4_clamp] | rw [seg5_loc] | rw [seg6_bas] | rw [seg7_span] | rw [seg8_loc] | rw [seg9_bas]
  all_goals simp only [k0_arg0, k0_arg1, k0_arg2, k0_arg3, k1_arg0, k1_arg1, k1_arg2, k1_arg3, k2_arg0, k2_arg1, k2_arg2, k2_arg3, k3_arg0, k3_arg1, k3_arg2, k3_arg3, k4_arg0, k4_arg1, k4_arg2, k4_arg3, k5_arg0, k5_arg1, k5_arg2, k5_arg3, k6_arg0, k6_arg1, k6_arg2, k6_arg3, k7_arg0, k7_arg1, k7_arg2, k7_arg3, k8_arg0, k8_arg1, k8_arg2, k8_arg3, k9_arg0, k9_arg1, k9_arg2, k9_arg3, k10_arg0, k10_arg1, k10_arg2, k10_arg3]

set_option maxHeartbeats 16000000 in
/-- The reference runs to `refV` of its arguments and leaves them alone. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem (c.tc.loc main_v373) = refV (m (c.tc.loc main_arg0)) (m (c.tc.loc main_arg1)) (m (c.tc.loc main_arg2)) (m (c.tc.loc main_arg3))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) := by
  have hrun := run_hlo (defs (F := Ideal)) (main (F := Ideal)) (by hlo_seq) (by decide) (by decide) (by simp)
      (by intro _ h; (repeat (cases h with | head => rfl | tail _ h => ?_)); exact nomatch h) m g
  refine θ_run_mono hrun ?_
  intro r hr c
  have hr' : ∀ b : Ref sig .tc, r.2.mem ((c.tc : Thread nD τ).loc b) = after allOps (launchContents m c) (Proc.devRef .tc b) := fun b => hr c b
  have h := after_all (launchContents m c)
  refine ⟨(hr' main_v373).trans h.1, (hr' main_arg0).trans h.2.1, (hr' main_arg1).trans h.2.2.1, (hr' main_arg2).trans h.2.2.2.1, (hr' main_arg3).trans h.2.2.2.2⟩

end Cert.Own

end
-- ==== Proof.KerDefs.lean ====
module

public import Idealize.ShloMosaic.Lib.Claim
public import Idealize.ShloMosaic.Lib.Pipeline.ValueKit
public import Idealize.ShloMosaic.Lib.Pointwise
public import proofs.«01_k».proof.Proof.Gen.KernelIdeal

@[expose] public section

set_option maxRecDepth 16384

/-! # The kernel's arrays, step by step

The arrays the kernel's body builds, each named once over whatever it is computed from: the span and the basis of a
row of parameters (for the whole row of 1024 and for a tile of 256), the banded basis matrix, the control points of
one coordinate, their contraction with the second direction's basis, the rank of every parameter, the tile of sorted
parameters and the tile's homogeneous coordinates. -/

noncomputable section

namespace Cert.Own

open Idealize.ShloMosaic Cert.KernelIdeal Cert.KernelIdeal.Facts₀

/-- The span of each parameter of a row of 1024: how many of the 128 knots lie more than the tolerance below it, less
    one but not below zero, plus the degree. -/
def kSpanx1024 (t : FVec Ideal S1x1024 .f32) : IVec S1x1024 32 :=
  addi (maxsi (subi (shapeCast S1x1024 (multiReductionI .add [0] S1024 (extui 32 (cmpf .ogt
      (subf (broadcastTo S128x1024 t broadcasts_S1x1024_S128x1024)
        (divf (sitofp .f32 (iota .tc S128x1024 32 [0] iota_S128x1024_d0_w32)) (broadcast S128x1024 (Scalar.ofBits (F := Ideal) .f32 0x42FA0000#32))))
      (broadcast S128x1024 (Scalar.ofBits (F := Ideal) .f32 0x322BCC77#32))) natLt_1_32) 0#32 reduces_S128x1024_S1024 rfl) shapeCasts_S1024_S1x1024) (broadcast S1x1024 1#32))
    (broadcast S1x1024 0#32)) (broadcast S1x1024 3#32)

/-- Knot 0 of the six around a span, computed from the span as a number: 1024 parameters. -/
def kKnotx1024_0 (sf : FVec Ideal S1x1024 .f32) : FVec Ideal S1x1024 .f32 :=
  minimumf (broadcast S1x1024 (Scalar.ofBits (F := Ideal) .f32 0x3F800000#32)) (maximumf (broadcast S1x1024 (Scalar.ofBits (F := Ideal) .f32 0x00000000#32)) (divf (addf sf (broadcast S1x1024 (Scalar.ofBits (F := Ideal) .f32 0xC0A00000#32))) (broadcast S1x1024 (Scalar.ofBits (F := Ideal) .f32 0x42FA0000#32))))

/-- Knot 1 of the six around a span, computed from the span as a number: 1024 parameters. -/
def kKnotx1024_1 (sf : FVec Ideal S1x1024 .f32) : FVec Ideal S1x1024 .f32 :=
  minimumf (broadcast S1x1024 (Scalar.ofBits (F := Ideal) .f32 0x3F800000#32)) (maximumf (broadcast S1x1024 (Scalar.ofBits (F := Ideal) .f32 0x00000000#32)) (divf (addf sf (broadcast S1x1024 (Scalar.ofBits (F := Ideal) .f32 0xC0800000#32))) (broadcast S1x1024 (Scalar.ofBits (F := Ideal) .f32 0x42FA0000#32))))

/-- Knot 2 of the six around a span, computed from the span as a number: 1024 parameters. -/
def kKnotx1024_2 (sf : FVec Ideal S1x1024 .f32) : FVec Ideal S1x1024 .f32 :=
  minimumf (broadcast S1x1024 (Scalar.ofBits (F := Ideal) .f32 0x3F800000#32)) (maximumf (broadcast S1x1024 (Scalar.ofBits (F := Ideal) .f32 0x00000000#32)) (divf (addf sf (broadcast S1x1024 (Scalar.ofBits (F := Ideal) .f32 0xC0400000#32))) (broadcast S1x1024 (Scalar.ofBits (F := Ideal) .f32 0x42FA0000#32))))

/-- Knot 3 of the six around a span, computed from the span as a number: 1024 parameters. -/
def kKnotx1024_3 (sf : FVec Ideal S1x1024 .f32) : FVec Ideal S1x1024 .f32 :=
  minimumf (broadcast S1x1024 (Scalar.ofBits (F := Ideal) .f32 0x3F800000#32)) (maximumf (broadcast S1x1024 (Scalar.ofBits (F := Ideal) .f32 0x00000000#32)) (divf (addf sf (broadcast S1x1024 (Scalar.ofBits (F := Ideal) .f32 0xC0000000#32))) (broadcast S1x1024 (Scalar.ofBits (F := Ideal) .f32 0x42FA0000#32))))

/-- Knot 4 of the six around a span, computed from the span as a number: 1024 parameters. -/
def kKnotx1024_4 (sf : FVec Ideal S1x1024 .f32) : FVec Ideal S1x1024 .f32 :=
  minimumf (broadcast S1x1024 (Scalar.ofBits (F := Ideal) .f32 0x3F800000#32)) (maximumf (broadcast S1x1024 (Scalar.ofBits (F := Ideal) .f32 0x00000000#32)) (divf (addf sf (broadcast S1x1024 (Scalar.ofBits (F := Ideal) .f32 0xBF800000#32))) (broadcast S1x1024 (Scalar.ofBits (F := Ideal) .f32 0x42FA0000#32))))

/-- Knot 5 of the six around a span, computed from the span as a number: 1024 parameters. -/
def kKnotx1024_5 (sf : FVec Ideal S1x1024 .f32) : FVec Ideal S1x1024 .f32 :=
  minimumf (broadcast S1x1024 (Scalar.ofBits (F := Ideal) .f32 0x3F800000#32)) (maximumf (broadcast S1x1024 (Scalar.ofBits (F := Ideal) .f32 0x00000000#32)) (divf (addf sf (broadcast S1x1024 (Scalar.ofBits (F := Ideal) .f32 0x00000000#32))) (broadcast S1x1024 (Scalar.ofBits (F := Ideal) .f32 0x42FA0000#32))))

/-- The recursion's quotient, 1024 parameters. -/
def kTmpx1024 (N V1 V2 t : FVec Ideal S1x1024 .f32) : FVec Ideal S1x1024 .f32 :=
  select (cmpf .oeq (addf (subf V1 t) (subf t V2)) (broadcast S1x1024 (Scalar.ofBits (F := Ideal) .f32 0x00000000#32))) (broadcast S1x1024 (Scalar.ofBits (F := Ideal) .f32 0x38D1B717#32))
    (divf N (addf (subf V1 t) (subf t V2)))

/-- The left share of a quotient, 1024 parameters. -/
def kLx1024 (V1 t q : FVec Ideal S1x1024 .f32) : FVec Ideal S1x1024 .f32 := mulf (subf V1 t) q

/-- The right share of a quotient, 1024 parameters. -/
def kRx1024 (V2 t q : FVec Ideal S1x1024 .f32) : FVec Ideal S1x1024 .f32 := mulf (subf t V2) q

/-- The first quotient of degree one, 1024 parameters. -/
def kQ10x1024 (sf t : FVec Ideal S1x1024 .f32) : FVec Ideal S1x1024 .f32 :=
  kTmpx1024 (broadcast S1x1024 (Scalar.ofBits (F := Ideal) .f32 0x3F800000#32)) (kKnotx1024_3 sf) (kKnotx1024_2 sf) t

/-- The first basis value of degree one, 1024 parameters. -/
def kA0x1024 (sf t : FVec Ideal S1x1024 .f32) : FVec Ideal S1x1024 .f32 :=
  addf (broadcast S1x1024 (Scalar.ofBits (F := Ideal) .f32 0x00000000#32)) (kLx1024 (kKnotx1024_3 sf) t (kQ10x1024 sf t))

/-- The second basis value of degree one, 1024 parameters. -/
def kA1x1024 (sf t : FVec Ideal S1x1024 .f32) : FVec Ideal S1x1024 .f32 :=
  kRx1024 (kKnotx1024_2 sf) t (kQ10x1024 sf t)

/-- The first quotient of degree two, 1024 parameters. -/
def kQ20x1024 (sf t : FVec Ideal S1x1024 .f32) : FVec Ideal S1x1024 .f32 :=
  kTmpx1024 (kA0x1024 sf t) (kKnotx1024_3 sf) (kKnotx1024_1 sf) t

/-- The first basis value of degree two, 1024 parameters. -/
def kB0x1024 (sf t : FVec Ideal S1x1024 .f32) : FVec Ideal S1x1024 .f32 :=
  addf (broadcast S1x1024 (Scalar.ofBits (F := Ideal) .f32 0x00000000#32)) (kLx1024 (kKnotx1024_3 sf) t (kQ20x1024 sf t))

/-- The second quotient of degree two, 1024 parameters. -/
def kQ21x1024 (sf t : FVec Ideal S1x1024 .f32) : FVec Ideal S1x1024 .f32 :=
  kTmpx1024 (kA1x1024 sf t) (kKnotx1024_4 sf) (kKnotx1024_2 sf) t

/-- The second basis value of degree two, 1024 parameters. -/
def kB1x1024 (sf t : FVec Ideal S1x1024 .f32) : FVec Ideal S1x1024 .f32 :=
  addf (kRx1024 (kKnotx1024_1 sf) t (kQ20x1024 sf t)) (kLx1024 (kKnotx1024_4 sf) t (kQ21x1024 sf t))

/-- The third basis value of degree two, 1024 parameters. -/
def kB2x1024 (sf t : FVec Ideal S1x1024 .f32) : FVec Ideal S1x1024 .f32 :=
  kRx1024 (kKnotx1024_2 sf) t (kQ21x1024 sf t)

/-- The first quotient of degree three, 1024 parameters. -/
def kQ30x1024 (sf t : FVec Ideal S1x1024 .f32) : FVec Ideal S1x1024 .f32 :=
  kTmpx1024 (kB0x1024 sf t) (kKnotx1024_3 sf) (kKnotx1024_0 sf) t

/-- The first basis value, 1024 parameters. -/
def kC0x1024 (sf t : FVec Ideal S1x1024 .f32) : FVec Ideal S1x1024 .f32 :=
  addf (broadcast S1x1024 (Scalar.ofBits (F := Ideal) .f32 0x00000000#32)) (kLx1024 (kKnotx1024_3 sf) t (kQ30x1024 sf t))

/-- The second quotient of degree three, 1024 parameters. -/
def kQ31x1024 (sf t : FVec Ideal S1x1024 .f32) : FVec Ideal S1x1024 .f32 :=
  kTmpx1024 (kB1x1024 sf t) (kKnotx1024_4 sf) (kKnotx1024_1 sf) t

/-- The second basis value, 1024 parameters. -/
def kC1x1024 (sf t : FVec Ideal S1x1024 .f32) : FVec Ideal S1x1024 .f32 :=
  addf (kRx1024 (kKnotx1024_0 sf) t (kQ30x1024 sf t)) (kLx1024 (kKnotx1024_4 sf) t (kQ31x1024 sf t))

/-- The third quotient of degree three, 1024 parameters. -/
def kQ32x1024 (sf t : FVec Ideal S1x1024 .f32) : FVec Ideal S1x1024 .f32 :=
  kTmpx1024 (kB2x1024 sf t) (kKnotx1024_5 sf) (kKnotx1024_2 sf) t

/-- The third basis value, 1024 parameters. -/
def kC2x1024 (sf t : FVec Ideal S1x1024 .f32) : FVec Ideal S1x1024 .f32 :=
  addf (kRx1024 (kKnotx1024_1 sf) t (kQ31x1024 sf t)) (kLx1024 (kKnotx1024_5 sf) t (kQ32x1024 sf t))

/-- The fourth basis value, 1024 parameters. -/
def kC3x1024 (sf t : FVec Ideal S1x1024 .f32) : FVec Ideal S1x1024 .f32 :=
  kRx1024 (kKnotx1024_2 sf) t (kQ32x1024 sf t)

/-- One diagonal of the banded basis matrix: a basis value on the row its offset from the span's first row names,
    zero elsewhere; 1024 parameters. -/
def kDiagx1024 (s : IVec S1x1024 32) (l : BitVec 32) (N : FVec Ideal S1x1024 .f32) : FVec Ideal S128x1024 .f32 :=
  select (cmpi .eq (iota .tc S128x1024 32 [0] iota_S128x1024_d0_w32)
      (broadcastTo S128x1024 (addi (subi s (broadcast S1x1024 3#32)) (broadcast S1x1024 l)) broadcasts_S1x1024_S128x1024))
    (broadcastTo S128x1024 (shapeCast S1x1024 N shapeCasts_S1x1024_S1x1024) broadcasts_S1x1024_S128x1024) (broadcast S128x1024 (Scalar.ofBits (F := Ideal) .f32 0x00000000#32))

/-- The banded basis matrix of 1024 parameters. -/
def kMatx1024 (t : FVec Ideal S1x1024 .f32) : FVec Ideal S128x1024 .f32 :=
  addf (addf (addf (addf (broadcast S128x1024 (Scalar.ofBits (F := Ideal) .f32 0x00000000#32))
    (kDiagx1024 (kSpanx1024 t) 0#32 (kC0x1024 (sitofp .f32 (kSpanx1024 t)) t)))
    (kDiagx1024 (kSpanx1024 t) 1#32 (kC1x1024 (sitofp .f32 (kSpanx1024 t)) t)))
    (kDiagx1024 (kSpanx1024 t) 2#32 (kC2x1024 (sitofp .f32 (kSpanx1024 t)) t)))
    (kDiagx1024 (kSpanx1024 t) 3#32 (kC3x1024 (sitofp .f32 (kSpanx1024 t)) t))

/-- The span of each parameter of a row of 256: how many of the 128 knots lie more than the tolerance below it, less
    one but not below zero, plus the degree. -/
def kSpanx256 (t : FVec Ideal S1x256 .f32) : IVec S1x256 32 :=
  addi (maxsi (subi (shapeCast S1x256 (multiReductionI .add [0] S256 (extui 32 (cmpf .ogt
      (subf (broadcastTo S128x256 t broadcasts_S1x256_S128x256)
        (divf (sitofp .f32 (iota .tc S128x256 32 [0] iota_S128x256_d0_w32)) (broadcast S128x256 (Scalar.ofBits (F := Ideal) .f32 0x42FA0000#32))))
      (broadcast S128x256 (Scalar.ofBits (F := Ideal) .f32 0x322BCC77#32))) natLt_1_32) 0#32 reduces_S128x256_S256 rfl) shapeCasts_S256_S1x256) (broadcast S1x256 1#32))
    (broadcast S1x256 0#32)) (broadcast S1x256 3#32)

/-- Knot 0 of the six around a span, computed from the span as a number: 256 parameters. -/
def kKnotx256_0 (sf : FVec Ideal S1x256 .f32) : FVec Ideal S1x256 .f32 :=
  minimumf (broadcast S1x256 (Scalar.ofBits (F := Ideal) .f32 0x3F800000#32)) (maximumf (broadcast S1x256 (Scalar.ofBits (F := Ideal) .f32 0x00000000#32)) (divf (addf sf (broadcast S1x256 (Scalar.ofBits (F := Ideal) .f32 0xC0A00000#32))) (broadcast S1x256 (Scalar.ofBits (F := Ideal) .f32 0x42FA0000#32))))

/-- Knot 1 of the six around a span, computed from the span as a number: 256 parameters. -/
def kKnotx256_1 (sf : FVec Ideal S1x256 .f32) : FVec Ideal S1x256 .f32 :=
  minimumf (broadcast S1x256 (Scalar.ofBits (F := Ideal) .f32 0x3F800000#32)) (maximumf (broadcast S1x256 (Scalar.ofBits (F := Ideal) .f32 0x00000000#32)) (divf (addf sf (broadcast S1x256 (Scalar.ofBits (F := Ideal) .f32 0xC0800000#32))) (broadcast S1x256 (Scalar.ofBits (F := Ideal) .f32 0x42FA0000#32))))

/-- Knot 2 of the six around a span, computed from the span as a number: 256 parameters. -/
def kKnotx256_2 (sf : FVec Ideal S1x256 .f32) : FVec Ideal S1x256 .f32 :=
  minimumf (broadcast S1x256 (Scalar.ofBits (F := Ideal) .f32 0x3F800000#32)) (maximumf (broadcast S1x256 (Scalar.ofBits (F := Ideal) .f32 0x00000000#32)) (divf (addf sf (broadcast S1x256 (Scalar.ofBits (F := Ideal) .f32 0xC0400000#32))) (broadcast S1x256 (Scalar.ofBits (F := Ideal) .f32 0x42FA0000#32))))

/-- Knot 3 of the six around a span, computed from the span as a number: 256 parameters. -/
def kKnotx256_3 (sf : FVec Ideal S1x256 .f32) : FVec Ideal S1x256 .f32 :=
  minimumf (broadcast S1x256 (Scalar.ofBits (F := Ideal) .f32 0x3F800000#32)) (maximumf (broadcast S1x256 (Scalar.ofBits (F := Ideal) .f32 0x00000000#32)) (divf (addf sf (broadcast S1x256 (Scalar.ofBits (F := Ideal) .f32 0xC0000000#32))) (broadcast S1x256 (Scalar.ofBits (F := Ideal) .f32 0x42FA0000#32))))

/-- Knot 4 of the six around a span, computed from the span as a number: 256 parameters. -/
def kKnotx256_4 (sf : FVec Ideal S1x256 .f32) : FVec Ideal S1x256 .f32 :=
  minimumf (broadcast S1x256 (Scalar.ofBits (F := Ideal) .f32 0x3F800000#32)) (maximumf (broadcast S1x256 (Scalar.ofBits (F := Ideal) .f32 0x00000000#32)) (divf (addf sf (broadcast S1x256 (Scalar.ofBits (F := Ideal) .f32 0xBF800000#32))) (broadcast S1x256 (Scalar.ofBits (F := Ideal) .f32 0x42FA0000#32))))

/-- Knot 5 of the six around a span, computed from the span as a number: 256 parameters. -/
def kKnotx256_5 (sf : FVec Ideal S1x256 .f32) : FVec Ideal S1x256 .f32 :=
  minimumf (broadcast S1x256 (Scalar.ofBits (F := Ideal) .f32 0x3F800000#32)) (maximumf (broadcast S1x256 (Scalar.ofBits (F := Ideal) .f32 0x00000000#32)) (divf (addf sf (broadcast S1x256 (Scalar.ofBits (F := Ideal) .f32 0x00000000#32))) (broadcast S1x256 (Scalar.ofBits (F := Ideal) .f32 0x42FA0000#32))))

/-- The recursion's quotient, 256 parameters. -/
def kTmpx256 (N V1 V2 t : FVec Ideal S1x256 .f32) : FVec Ideal S1x256 .f32 :=
  select (cmpf .oeq (addf (subf V1 t) (subf t V2)) (broadcast S1x256 (Scalar.ofBits (F := Ideal) .f32 0x00000000#32))) (broadcast S1x256 (Scalar.ofBits (F := Ideal) .f32 0x38D1B717#32))
    (divf N (addf (subf V1 t) (subf t V2)))

/-- The left share of a quotient, 256 parameters. -/
def kLx256 (V1 t q : FVec Ideal S1x256 .f32) : FVec Ideal S1x256 .f32 := mulf (subf V1 t) q

/-- The right share of a quotient, 256 parameters. -/
def kRx256 (V2 t q : FVec Ideal S1x256 .f32) : FVec Ideal S1x256 .f32 := mulf (subf t V2) q

/-- The first quotient of degree one, 256 parameters. -/
def kQ10x256 (sf t : FVec Ideal S1x256 .f32) : FVec Ideal S1x256 .f32 :=
  kTmpx256 (broadcast S1x256 (Scalar.ofBits (F := Ideal) .f32 0x3F800000#32)) (kKnotx256_3 sf) (kKnotx256_2 sf) t

/-- The first basis value of degree one, 256 parameters. -/
def kA0x256 (sf t : FVec Ideal S1x256 .f32) : FVec Ideal S1x256 .f32 :=
  addf (broadcast S1x256 (Scalar.ofBits (F := Ideal) .f32 0x00000000#32)) (kLx256 (kKnotx256_3 sf) t (kQ10x256 sf t))

/-- The second basis value of degree one, 256 parameters. -/
def kA1x256 (sf t : FVec Ideal S1x256 .f32) : FVec Ideal S1x256 .f32 :=
  kRx256 (kKnotx256_2 sf) t (kQ10x256 sf t)

/-- The first quotient of degree two, 256 parameters. -/
def kQ20x256 (sf t : FVec Ideal S1x256 .f32) : FVec Ideal S1x256 .f32 :=
  kTmpx256 (kA0x256 sf t) (kKnotx256_3 sf) (kKnotx256_1 sf) t

/-- The first basis value of degree two, 256 parameters. -/
def kB0x256 (sf t : FVec Ideal S1x256 .f32) : FVec Ideal S1x256 .f32 :=
  addf (broadcast S1x256 (Scalar.ofBits (F := Ideal) .f32 0x00000000#32)) (kLx256 (kKnotx256_3 sf) t (kQ20x256 sf t))

/-- The second quotient of degree two, 256 parameters. -/
def kQ21x256 (sf t : FVec Ideal S1x256 .f32) : FVec Ideal S1x256 .f32 :=
  kTmpx256 (kA1x256 sf t) (kKnotx256_4 sf) (kKnotx256_2 sf) t

/-- The second basis value of degree two, 256 parameters. -/
def kB1x256 (sf t : FVec Ideal S1x256 .f32) : FVec Ideal S1x256 .f32 :=
  addf (kRx256 (kKnotx256_1 sf) t (kQ20x256 sf t)) (kLx256 (kKnotx256_4 sf) t (kQ21x256 sf t))

/-- The third basis value of degree two, 256 parameters. -/
def kB2x256 (sf t : FVec Ideal S1x256 .f32) : FVec Ideal S1x256 .f32 :=
  kRx256 (kKnotx256_2 sf) t (kQ21x256 sf t)

/-- The first quotient of degree three, 256 parameters. -/
def kQ30x256 (sf t : FVec Ideal S1x256 .f32) : FVec Ideal S1x256 .f32 :=
  kTmpx256 (kB0x256 sf t) (kKnotx256_3 sf) (kKnotx256_0 sf) t

/-- The first basis value, 256 parameters. -/
def kC0x256 (sf t : FVec Ideal S1x256 .f32) : FVec Ideal S1x256 .f32 :=
  addf (broadcast S1x256 (Scalar.ofBits (F := Ideal) .f32 0x00000000#32)) (kLx256 (kKnotx256_3 sf) t (kQ30x256 sf t))

/-- The second quotient of degree three, 256 parameters. -/
def kQ31x256 (sf t : FVec Ideal S1x256 .f32) : FVec Ideal S1x256 .f32 :=
  kTmpx256 (kB1x256 sf t) (kKnotx256_4 sf) (kKnotx256_1 sf) t

/-- The second basis value, 256 parameters. -/
def kC1x256 (sf t : FVec Ideal S1x256 .f32) : FVec Ideal S1x256 .f32 :=
  addf (kRx256 (kKnotx256_0 sf) t (kQ30x256 sf t)) (kLx256 (kKnotx256_4 sf) t (kQ31x256 sf t))

/-- The third quotient of degree three, 256 parameters. -/
def kQ32x256 (sf t : FVec Ideal S1x256 .f32) : FVec Ideal S1x256 .f32 :=
  kTmpx256 (kB2x256 sf t) (kKnotx256_5 sf) (kKnotx256_2 sf) t

/-- The third basis value, 256 parameters. -/
def kC2x256 (sf t : FVec Ideal S1x256 .f32) : FVec Ideal S1x256 .f32 :=
  addf (kRx256 (kKnotx256_1 sf) t (kQ31x256 sf t)) (kLx256 (kKnotx256_5 sf) t (kQ32x256 sf t))

/-- The fourth basis value, 256 parameters. -/
def kC3x256 (sf t : FVec Ideal S1x256 .f32) : FVec Ideal S1x256 .f32 :=
  kRx256 (kKnotx256_2 sf) t (kQ32x256 sf t)

/-- One diagonal of the banded basis matrix: a basis value on the row its offset from the span's first row names,
    zero elsewhere; 256 parameters. -/
def kDiagx256 (s : IVec S1x256 32) (l : BitVec 32) (N : FVec Ideal S1x256 .f32) : FVec Ideal S128x256 .f32 :=
  select (cmpi .eq (iota .tc S128x256 32 [0] iota_S128x256_d0_w32)
      (broadcastTo S128x256 (addi (subi s (broadcast S1x256 3#32)) (broadcast S1x256 l)) broadcasts_S1x256_S128x256))
    (broadcastTo S128x256 (shapeCast S1x256 N shapeCasts_S1x256_S1x256) broadcasts_S1x256_S128x256) (broadcast S128x256 (Scalar.ofBits (F := Ideal) .f32 0x00000000#32))

/-- The banded basis matrix of 256 parameters. -/
def kMatx256 (t : FVec Ideal S1x256 .f32) : FVec Ideal S128x256 .f32 :=
  addf (addf (addf (addf (broadcast S128x256 (Scalar.ofBits (F := Ideal) .f32 0x00000000#32))
    (kDiagx256 (kSpanx256 t) 0#32 (kC0x256 (sitofp .f32 (kSpanx256 t)) t)))
    (kDiagx256 (kSpanx256 t) 1#32 (kC1x256 (sitofp .f32 (kSpanx256 t)) t)))
    (kDiagx256 (kSpanx256 t) 2#32 (kC2x256 (sitofp .f32 (kSpanx256 t)) t)))
    (kDiagx256 (kSpanx256 t) 3#32 (kC3x256 (sitofp .f32 (kSpanx256 t)) t))

/-- The selection matrix of one coordinate: one where the row is three times the column plus the coordinate. -/
def kSel (n : BitVec 32) : FVec Ideal S384x128 .bf16 :=
  truncf .bf16 (select (cmpi .eq (iota .tc S384x128 32 [0] iota_S384x128_d0_w32)
      (addi (muli (broadcast S384x128 3#32) (iota .tc S384x128 32 [1] iota_S384x128_d1_w32)) (broadcast S384x128 n)))
    (broadcast S384x128 (Scalar.ofBits (F := Ideal) .f32 0x3F800000#32)) (broadcast S384x128 (Scalar.ofBits (F := Ideal) .f32 0x00000000#32))) bitsLt_bf16_f32

/-- The high part of the control points. -/
def kHi (p : FVec Ideal S128x384 .f32) : FVec Ideal S128x384 .bf16 :=
  truncf .bf16 (shapeCast S128x384 p shapeCasts_S128x384_S128x384) bitsLt_bf16_f32

/-- The low part of the control points. -/
def kLo (p : FVec Ideal S128x384 .f32) : FVec Ideal S128x384 .bf16 :=
  truncf .bf16 (subf (shapeCast S128x384 p shapeCasts_S128x384_S128x384) (extf .f32 (kHi p) bitsLt_bf16_f32)) bitsLt_bf16_f32

/-- The weighted control points of one coordinate. -/
def kCtrl (n : BitVec 32) (p : FVec Ideal S128x384 .f32) (w : FVec Ideal S128x128 .f32) : FVec Ideal S128x128 .f32 :=
  mulf (addf
      (matmul dot_S128x384_S384x128_S128x128_1_0_0_1_n_n none (kHi p) (kSel n) (constant (F := Ideal) S128x128 .f32 0x00000000#32))
      (matmul dot_S128x384_S384x128_S128x128_1_0_0_1_n_n none (kLo p) (kSel n) (constant (F := Ideal) S128x128 .f32 0x00000000#32)))
    (shapeCast S128x128 w shapeCasts_S128x128_S128x128)

/-- One coordinate's control points contracted with the second direction's basis matrix. -/
def kT (C : FVec Ideal S128x128 .f32) (v : FVec Ideal S1x1024 .f32) : FVec Ideal S128x1024 .f32 :=
  matmul dot_S128x128_S128x1024_S128x1024_1_0_0_1_n_n (some .fp32) C
    (kMatx1024 (shapeCast S1x1024 v shapeCasts_S1x1024_S1x1024)) (constant (F := Ideal) S128x1024 .f32 0x00000000#32)

/-- The rank of every parameter: how many are smaller, or equal and earlier. -/
def kRank (r : FVec Ideal S1x1024 .f32) (q : FVec Ideal S1024x1 .f32) : IVec S1024x1 32 :=
  shapeCast S1024x1 (shapeCast S1024x1 (multiReductionI .add [1] S1024 (extui 32 (ori
      (cmpf .olt (broadcastTo S1024x1024 (shapeCast S1x1024 r shapeCasts_S1x1024_S1x1024) broadcasts_S1x1024_S1024x1024)
        (broadcastTo S1024x1024 (shapeCast S1024x1 q shapeCasts_S1024x1_S1024x1) broadcasts_S1024x1_S1024x1024))
      (andi (cmpf .oeq (broadcastTo S1024x1024 (shapeCast S1x1024 r shapeCasts_S1x1024_S1x1024) broadcasts_S1x1024_S1024x1024)
        (broadcastTo S1024x1024 (shapeCast S1024x1 q shapeCasts_S1024x1_S1024x1) broadcasts_S1024x1_S1024x1024))
        (cmpi .slt (iota .tc S1024x1024 32 [1] iota_S1024x1024_d1_w32) (iota .tc S1024x1024 32 [0] iota_S1024x1024_d0_w32)))) natLt_1_32)
    0#32 reduces_S1024x1024_S1024 rfl) shapeCasts_S1024_S1024x1) shapeCasts_S1024x1_S1024x1

/-- The tile of sorted parameters: at each column the sum of the parameters whose rank is the column's position. -/
def kU (i : grid0.Coords) (rk : IVec S1024x1 32) (q : FVec Ideal S1024x1 .f32) : FVec Ideal S1x256 .f32 :=
  shapeCast S1x256 (multiReduction .add [0] S256 (select
      (cmpi .eq (broadcastTo S1024x256 rk broadcasts_S1024x1_S1024x256)
        (addi (iota .tc S1024x256 32 [1] iota_S1024x256_d1_w32)
          (broadcast S1024x256 (Scalar.muli (BitVec.ofNat 32 (i 0).val) 256#32))))
      (broadcastTo S1024x256 (shapeCast S1024x1 (shapeCast S1024x1 q shapeCasts_S1024x1_S1024x1) shapeCasts_S1024x1_S1024x1)
        broadcasts_S1024x1_S1024x256)
      (broadcast S1024x256 (Scalar.ofBits (F := Ideal) .f32 0x00000000#32))) 0x00000000#32 reduces_S1024x256_S256 (.inl rfl) rfl) shapeCasts_S256_S1x256

/-- One homogeneous coordinate of a tile: the tile's basis matrix against the two parts of the contraction. -/
def kRc (t : FVec Ideal S1x256 .f32) (hi lo : FVec Ideal S1x128x1024 .bf16) : FVec Ideal S256x1024 .f32 :=
  addf
    (matmul dot_S128x256_S128x1024_S256x1024_0_0_1_1_n_n none (truncf (F := Ideal) .bf16 (kMatx256 t) bitsLt_bf16_f32)
      (shapeCast S128x1024 hi shapeCasts_S1x128x1024_S128x1024) (constant (F := Ideal) S256x1024 .f32 0x00000000#32))
    (matmul dot_S128x256_S128x1024_S256x1024_0_0_1_1_n_n none (truncf (F := Ideal) .bf16 (kMatx256 t) bitsLt_bf16_f32)
      (shapeCast S128x1024 lo shapeCasts_S1x128x1024_S128x1024) (constant (F := Ideal) S256x1024 .f32 0x00000000#32))

end Cert.Own

end
-- ==== Proof.KerBlk.lean ====
module

public import proofs.«01_k».proof.Proof.KerDefs
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.Pipeline.ValueKit.Stack
public import Idealize.ShloMosaic.Lib.Pipeline.ReadBack

@[expose] public section

set_option maxRecDepth 16384

/-! # What one grid point leaves behind

The first grid point fills the three scratch arrays, later points keep them, and every point writes its tile of the
result from them. -/

noncomputable section

namespace Cert.Own

open Idealize.ShloMosaic Cert.KernelIdeal Cert.KernelIdeal.Gen

variable (m : (ℓ : Loc nD τ sig) → Buf (Elt Ideal) ℓ)

/-- The weighted control points of each of the four homogeneous coordinates. -/
def kC (g : Fin 4) (p : FVec Ideal S128x384 .f32) (w : FVec Ideal S128x128 .f32) : FVec Ideal S128x128 .f32 :=
  match g with
  | 0 => kCtrl 0#32 p w
  | 1 => kCtrl 1#32 p w
  | 2 => kCtrl 2#32 p w
  | 3 => shapeCast S128x128 w shapeCasts_S128x128_S128x128

/-- At the first grid point the setup leaves the ranks of all parameters in the first scratch array. -/
theorem rank_A (c : Dev nD) (t : Fin cfg0.N) (h : t.val % 4 = 0) :
    (outsAt0 m c t.val t.isLt).2.1 = kRank (iblk m c 2 t) (iblk m c 3 t) := by
  rw [outsAt0_A m c t h]
  frame_out
  rfl

/-- The high parts of the four contractions. -/
def hiF (p : FVec Ideal S128x384 .f32) (w : FVec Ideal S128x128 .f32) (v : FVec Ideal S1x1024 .f32) (g : Fin 4) : FVec Ideal S128x1024 .bf16 :=
  truncf (F := Ideal) .bf16 (kT (kC g p w) v) bitsLt_bf16_f32

/-- The low parts of the four contractions. -/
def loF (p : FVec Ideal S128x384 .f32) (w : FVec Ideal S128x128 .f32) (v : FVec Ideal S1x1024 .f32) (g : Fin 4) : FVec Ideal S128x1024 .bf16 :=
  truncf (F := Ideal) .bf16 (subf (kT (kC g p w) v) (extf .f32 (hiF p w v g) bitsLt_bf16_f32)) bitsLt_bf16_f32

/-- At the first point the second scratch is left holding the high parts. -/
theorem thi_A (c : Dev nD) (t : Fin cfg0.N) (ht : t.val % 4 = 0) :
    (outsAt0 m c t.val t.isLt).2.2.1 = stackAlong0 (hiF (iblk m c 0 t) (iblk m c 1 t) (iblk m c 4 t)) := by
  rw [outsAt0_A m c t ht]
  frame_out
  funext y
  canon_tiles x h
  · exact stack_piece (hiF (iblk m c 0 t) (iblk m c 1 t) (iblk m c 4 t)) 3 _ x y
      (by show (y 0 : ℕ) = 3 + (x 0 : ℕ); omega) (fun a => match a with | 0 => h1 | 1 => h2)
  · exact stack_piece (hiF (iblk m c 0 t) (iblk m c 1 t) (iblk m c 4 t)) 2 _ x y
      (by show (y 0 : ℕ) = 2 + (x 0 : ℕ); omega) (fun a => match a with | 0 => h1 | 1 => h2)
  · exact stack_piece (hiF (iblk m c 0 t) (iblk m c 1 t) (iblk m c 4 t)) 1 _ x y
      (by show (y 0 : ℕ) = 1 + (x 0 : ℕ); omega) (fun a => match a with | 0 => h1 | 1 => h2)
  · exact stack_piece (hiF (iblk m c 0 t) (iblk m c 1 t) (iblk m c 4 t)) 0 _ x y
      (by show (y 0 : ℕ) = 0 + (x 0 : ℕ); omega) (fun a => match a with | 0 => h1 | 1 => h2)

/-- At the first point the third scratch is left holding the low parts. -/
theorem tlo_A (c : Dev nD) (t : Fin cfg0.N) (ht : t.val % 4 = 0) :
    (outsAt0 m c t.val t.isLt).2.2.2 = stackAlong0 (loF (iblk m c 0 t) (iblk m c 1 t) (iblk m c 4 t)) := by
  rw [outsAt0_A m c t ht]
  frame_out
  funext y
  canon_tiles x h
  · exact stack_piece (loF (iblk m c 0 t) (iblk m c 1 t) (iblk m c 4 t)) 3 _ x y
      (by show (y 0 : ℕ) = 3 + (x 0 : ℕ); omega) (fun a => match a with | 0 => h1 | 1 => h2)
  · exact stack_piece (loF (iblk m c 0 t) (iblk m c 1 t) (iblk m c 4 t)) 2 _ x y
      (by show (y 0 : ℕ) = 2 + (x 0 : ℕ); omega) (fun a => match a with | 0 => h1 | 1 => h2)
  · exact stack_piece (loF (iblk m c 0 t) (iblk m c 1 t) (iblk m c 4 t)) 1 _ x y
      (by show (y 0 : ℕ) = 1 + (x 0 : ℕ); omega) (fun a => match a with | 0 => h1 | 1 => h2)
  · exact stack_piece (loF (iblk m c 0 t) (iblk m c 1 t) (iblk m c 4 t)) 0 _ x y
      (by show (y 0 : ℕ) = 0 + (x 0 : ℕ); omega) (fun a => match a with | 0 => h1 | 1 => h2)

/-- One homogeneous coordinate of a tile over the rank and the parameters. -/
def rcF (i : grid0.Coords) (rk : IVec S1024x1 32) (q : FVec Ideal S1024x1 .f32) (p : FVec Ideal S128x384 .f32) (w : FVec Ideal S128x128 .f32)
    (v : FVec Ideal S1x1024 .f32) (g : Fin 4) : FVec Ideal S256x1024 .f32 :=
  kRc (kU i rk q) (shapeCast S1x128x1024 (hiF p w v g) shapeCasts_S128x1024_S1x128x1024)
    (shapeCast S1x128x1024 (loF p w v g) shapeCasts_S128x1024_S1x128x1024)

/-- One coordinate of a result tile. -/
def outF (i : grid0.Coords) (rk : IVec S1024x1 32) (q : FVec Ideal S1024x1 .f32) (p : FVec Ideal S128x384 .f32) (w : FVec Ideal S128x128 .f32)
    (v : FVec Ideal S1x1024 .f32) (g : Fin 3) : FVec Ideal S256x1024 .f32 :=
  mulf (rcF i rk q p w v g.castSucc) (divf (broadcast S256x1024 (Scalar.ofBits (F := Ideal) .f32 0x3F800000#32)) (rcF i rk q p w v 3))

/-- A later point leaves the tile of its own columns of sorted parameters, over what the first point left in the scratch. -/
theorem out_B (c : Dev nD) (t : Fin cfg0.N) (ht : ¬ t.val % 4 = 0) (rk : IVec S1024x1 32) (p : FVec Ideal S128x384 .f32)
    (w : FVec Ideal S128x128 .f32) (v : FVec Ideal S1x1024 .f32)
    (e0 : (outsAt0 m c (t.val - 1) (Nat.lt_of_le_of_lt (Nat.sub_le _ _) t.isLt)).2.1 = rk)
    (e1 : (outsAt0 m c (t.val - 1) (Nat.lt_of_le_of_lt (Nat.sub_le _ _) t.isLt)).2.2.1 = stackAlong0 (hiF p w v))
    (e2 : (outsAt0 m c (t.val - 1) (Nat.lt_of_le_of_lt (Nat.sub_le _ _) t.isLt)).2.2.2 = stackAlong0 (loF p w v)) :
    (outsAt0 m c t.val t.isLt).1 = stackAlong0 (outF (grid0.coords t) rk (iblk m c 3 t) p w v) := by
  rw [outsAt0_B m c t ht]
  frame_out
  funext y
  rw [e0, e1, e2]
  simp only [read_unread_whole]
  canon_tiles x h
  · rw [ld_stack (Val := Elt Ideal) (e := .bf16) (G := 4) (r := 2) (d := ![128, 1024]) (hiF p w v) 2 ![2, 0, 0] inb_S4x128x1024_S1x128x1024_2_0_0
      shapeCasts_S128x1024_S1x128x1024 rfl (fun a => match a with | 0 => rfl | 1 => rfl),
      ld_stack (Val := Elt Ideal) (e := .bf16) (G := 4) (r := 2) (d := ![128, 1024]) (loF p w v) 2 ![2, 0, 0] inb_S4x128x1024_S1x128x1024_2_0_0
      shapeCasts_S128x1024_S1x128x1024 rfl (fun a => match a with | 0 => rfl | 1 => rfl),
      ld_stack (Val := Elt Ideal) (e := .bf16) (G := 4) (r := 2) (d := ![128, 1024]) (hiF p w v) 3 ![3, 0, 0] inb_S4x128x1024_S1x128x1024_3_0_0
      shapeCasts_S128x1024_S1x128x1024 rfl (fun a => match a with | 0 => rfl | 1 => rfl),
      ld_stack (Val := Elt Ideal) (e := .bf16) (G := 4) (r := 2) (d := ![128, 1024]) (loF p w v) 3 ![3, 0, 0] inb_S4x128x1024_S1x128x1024_3_0_0
      shapeCasts_S128x1024_S1x128x1024 rfl (fun a => match a with | 0 => rfl | 1 => rfl)]
    exact stack_piece (outF (grid0.coords t) rk (iblk m c 3 t) p w v) 2 shapeCasts_S256x1024_S1x256x1024 x y
      (by show (y 0 : ℕ) = 2 + (x 0 : ℕ); omega) (fun a => match a with | 0 => h1 | 1 => h2)
  · rw [ld_stack (Val := Elt Ideal) (e := .bf16) (G := 4) (r := 2) (d := ![128, 1024]) (hiF p w v) 1 ![1, 0, 0] inb_S4x128x1024_S1x128x1024_1_0_0
      shapeCasts_S128x1024_S1x128x1024 rfl (fun a => match a with | 0 => rfl | 1 => rfl),
      ld_stack (Val := Elt Ideal) (e := .bf16) (G := 4) (r := 2) (d := ![128, 1024]) (loF p w v) 1 ![1, 0, 0] inb_S4x128x1024_S1x128x1024_1_0_0
      shapeCasts_S128x1024_S1x128x1024 rfl (fun a => match a with | 0 => rfl | 1 => rfl),
      ld_stack (Val := Elt Ideal) (e := .bf16) (G := 4) (r := 2) (d := ![128, 1024]) (hiF p w v) 3 ![3, 0, 0] inb_S4x128x1024_S1x128x1024_3_0_0
      shapeCasts_S128x1024_S1x128x1024 rfl (fun a => match a with | 0 => rfl | 1 => rfl),
      ld_stack (Val := Elt Ideal) (e := .bf16) (G := 4) (r := 2) (d := ![128, 1024]) (loF p w v) 3 ![3, 0, 0] inb_S4x128x1024_S1x128x1024_3_0_0
      shapeCasts_S128x1024_S1x128x1024 rfl (fun a => match a with | 0 => rfl | 1 => rfl)]
    exact stack_piece (outF (grid0.coords t) rk (iblk m c 3 t) p w v) 1 shapeCasts_S256x1024_S1x256x1024 x y
      (by show (y 0 : ℕ) = 1 + (x 0 : ℕ); omega) (fun a => match a with | 0 => h1 | 1 => h2)
  · rw [ld_stack (Val := Elt Ideal) (e := .bf16) (G := 4) (r := 2) (d := ![128, 1024]) (hiF p w v) 0 ![0, 0, 0] inb_S4x128x1024_S1x128x1024_0_0_0
      shapeCasts_S128x1024_S1x128x1024 rfl (fun a => match a with | 0 => rfl | 1 => rfl),
      ld_stack (Val := Elt Ideal) (e := .bf16) (G := 4) (r := 2) (d := ![128, 1024]) (loF p w v) 0 ![0, 0, 0] inb_S4x128x1024_S1x128x1024_0_0_0
      shapeCasts_S128x1024_S1x128x1024 rfl (fun a => match a with | 0 => rfl | 1 => rfl),
      ld_stack (Val := Elt Ideal) (e := .bf16) (G := 4) (r := 2) (d := ![128, 1024]) (hiF p w v) 3 ![3, 0, 0] inb_S4x128x1024_S1x128x1024_3_0_0
      shapeCasts_S128x1024_S1x128x1024 rfl (fun a => match a with | 0 => rfl | 1 => rfl),
      ld_stack (Val := Elt Ideal) (e := .bf16) (G := 4) (r := 2) (d := ![128, 1024]) (loF p w v) 3 ![3, 0, 0] inb_S4x128x1024_S1x128x1024_3_0_0
      shapeCasts_S128x1024_S1x128x1024 rfl (fun a => match a with | 0 => rfl | 1 => rfl)]
    exact stack_piece (outF (grid0.coords t) rk (iblk m c 3 t) p w v) 0 shapeCasts_S256x1024_S1x256x1024 x y
      (by show (y 0 : ℕ) = 0 + (x 0 : ℕ); omega) (fun a => match a with | 0 => h1 | 1 => h2)

/-- A load of what a list of stores left, as a load of the stores' canonical contents. -/
theorem readCov_ld {κ : Kind} {sp : Space} {S : Shape} {e : EltTy} (v : View sig κ sp S e) (L : List (View.Piece (Elt Ideal) S e)) (r : Rect S) :
    v.readCov L r.toLoadRect = View.ld (Val := Elt Ideal) (e' := e) (View.canon (Val := Elt Ideal) L) r :=
  View.readCov_eq_canon' v L _

/-- The first point leaves the tile of its own columns of sorted parameters. -/
theorem out_A (c : Dev nD) (t : Fin cfg0.N) (ht : t.val % 4 = 0)  :
    (outsAt0 m c t.val t.isLt).1 = stackAlong0 (outF (grid0.coords t) (kRank (iblk m c 2 t) (iblk m c 3 t)) (iblk m c 3 t)
      (iblk m c 0 t) (iblk m c 1 t) (iblk m c 4 t)) := by
  have e0 := rank_A m c t ht
  have e1 := thi_A m c t ht
  have e2 := tlo_A m c t ht
  rw [outsAt0_A m c t ht] at e0 e1 e2 ⊢
  frame_out at e0
  frame_out at e1
  frame_out at e2
  frame_out
  rw [e0]
  simp only [readCov_ld]
  rw [e1, e2]
  funext y
  clear e0 e1 e2
  canon_tiles x h
  · rw [ld_stack (Val := Elt Ideal) (e := .bf16) (G := 4) (r := 2) (d := ![128, 1024]) (hiF (iblk m c 0 t) (iblk m c 1 t) (iblk m c 4 t)) 2 ![2, 0, 0] inb_S4x128x1024_S1x128x1024_2_0_0
      shapeCasts_S128x1024_S1x128x1024 rfl (fun a => match a with | 0 => rfl | 1 => rfl),
      ld_stack (Val := Elt Ideal) (e := .bf16) (G := 4) (r := 2) (d := ![128, 1024]) (loF (iblk m c 0 t) (iblk m c 1 t) (iblk m c 4 t)) 2 ![2, 0, 0] inb_S4x128x1024_S1x128x1024_2_0_0
      shapeCasts_S128x1024_S1x128x1024 rfl (fun a => match a with | 0 => rfl | 1 => rfl),
      ld_stack (Val := Elt Ideal) (e := .bf16) (G := 4) (r := 2) (d := ![128, 1024]) (hiF (iblk m c 0 t) (iblk m c 1 t) (iblk m c 4 t)) 3 ![3, 0, 0] inb_S4x128x1024_S1x128x1024_3_0_0
      shapeCasts_S128x1024_S1x128x1024 rfl (fun a => match a with | 0 => rfl | 1 => rfl),
      ld_stack (Val := Elt Ideal) (e := .bf16) (G := 4) (r := 2) (d := ![128, 1024]) (loF (iblk m c 0 t) (iblk m c 1 t) (iblk m c 4 t)) 3 ![3, 0, 0] inb_S4x128x1024_S1x128x1024_3_0_0
      shapeCasts_S128x1024_S1x128x1024 rfl (fun a => match a with | 0 => rfl | 1 => rfl)]
    exact stack_piece (outF (grid0.coords t) (kRank (iblk m c 2 t) (iblk m c 3 t)) (iblk m c 3 t) (iblk m c 0 t) (iblk m c 1 t) (iblk m c 4 t)) 2 shapeCasts_S256x1024_S1x256x1024 x y
      (by show (y 0 : ℕ) = 2 + (x 0 : ℕ); omega) (fun a => match a with | 0 => h1 | 1 => h2)
  · rw [ld_stack (Val := Elt Ideal) (e := .bf16) (G := 4) (r := 2) (d := ![128, 1024]) (hiF (iblk m c 0 t) (iblk m c 1 t) (iblk m c 4 t)) 1 ![1, 0, 0] inb_S4x128x1024_S1x128x1024_1_0_0
      shapeCasts_S128x1024_S1x128x1024 rfl (fun a => match a with | 0 => rfl | 1 => rfl),
      ld_stack (Val := Elt Ideal) (e := .bf16) (G := 4) (r := 2) (d := ![128, 1024]) (loF (iblk m c 0 t) (iblk m c 1 t) (iblk m c 4 t)) 1 ![1, 0, 0] inb_S4x128x1024_S1x128x1024_1_0_0
      shapeCasts_S128x1024_S1x128x1024 rfl (fun a => match a with | 0 => rfl | 1 => rfl),
      ld_stack (Val := Elt Ideal) (e := .bf16) (G := 4) (r := 2) (d := ![128, 1024]) (hiF (iblk m c 0 t) (iblk m c 1 t) (iblk m c 4 t)) 3 ![3, 0, 0] inb_S4x128x1024_S1x128x1024_3_0_0
      shapeCasts_S128x1024_S1x128x1024 rfl (fun a => match a with | 0 => rfl | 1 => rfl),
      ld_stack (Val := Elt Ideal) (e := .bf16) (G := 4) (r := 2) (d := ![128, 1024]) (loF (iblk m c 0 t) (iblk m c 1 t) (iblk m c 4 t)) 3 ![3, 0, 0] inb_S4x128x1024_S1x128x1024_3_0_0
      shapeCasts_S128x1024_S1x128x1024 rfl (fun a => match a with | 0 => rfl | 1 => rfl)]
    exact stack_piece (outF (grid0.coords t) (kRank (iblk m c 2 t) (iblk m c 3 t)) (iblk m c 3 t) (iblk m c 0 t) (iblk m c 1 t) (iblk m c 4 t)) 1 shapeCasts_S256x1024_S1x256x1024 x y
      (by show (y 0 : ℕ) = 1 + (x 0 : ℕ); omega) (fun a => match a with | 0 => h1 | 1 => h2)
  · rw [ld_stack (Val := Elt Ideal) (e := .bf16) (G := 4) (r := 2) (d := ![128, 1024]) (hiF (iblk m c 0 t) (iblk m c 1 t) (iblk m c 4 t)) 0 ![0, 0, 0] inb_S4x128x1024_S1x128x1024_0_0_0
      shapeCasts_S128x1024_S1x128x1024 rfl (fun a => match a with | 0 => rfl | 1 => rfl),
      ld_stack (Val := Elt Ideal) (e := .bf16) (G := 4) (r := 2) (d := ![128, 1024]) (loF (iblk m c 0 t) (iblk m c 1 t) (iblk m c 4 t)) 0 ![0, 0, 0] inb_S4x128x1024_S1x128x1024_0_0_0
      shapeCasts_S128x1024_S1x128x1024 rfl (fun a => match a with | 0 => rfl | 1 => rfl),
      ld_stack (Val := Elt Ideal) (e := .bf16) (G := 4) (r := 2) (d := ![128, 1024]) (hiF (iblk m c 0 t) (iblk m c 1 t) (iblk m c 4 t)) 3 ![3, 0, 0] inb_S4x128x1024_S1x128x1024_3_0_0
      shapeCasts_S128x1024_S1x128x1024 rfl (fun a => match a with | 0 => rfl | 1 => rfl),
      ld_stack (Val := Elt Ideal) (e := .bf16) (G := 4) (r := 2) (d := ![128, 1024]) (loF (iblk m c 0 t) (iblk m c 1 t) (iblk m c 4 t)) 3 ![3, 0, 0] inb_S4x128x1024_S1x128x1024_3_0_0
      shapeCasts_S128x1024_S1x128x1024 rfl (fun a => match a with | 0 => rfl | 1 => rfl)]
    exact stack_piece (outF (grid0.coords t) (kRank (iblk m c 2 t) (iblk m c 3 t)) (iblk m c 3 t) (iblk m c 0 t) (iblk m c 1 t) (iblk m c 4 t)) 0 shapeCasts_S256x1024_S1x256x1024 x y
      (by show (y 0 : ℕ) = 0 + (x 0 : ℕ); omega) (fun a => match a with | 0 => h1 | 1 => h2)

end Cert.Own

end
-- ==== Proof.Scal.lean ====
module

public import Idealize.ShloMosaic.Lib.Claim
public import Idealize.ShloMosaic.Lib.Pipeline.ValueKit
public import Idealize.ShloMosaic.Lib.Pointwise

@[expose] public section

/-! # The scalar mathematics

Knot spans, local knots and basis values of ONE parameter, as extended reals, with no arrays. Both programs' arrays
are read as these. -/

noncomputable section

namespace Cert.Own

open Idealize.ShloMosaic

/-- An extended real that is a real. -/
def IsR (x : EReal) : Prop := ∃ r : ℝ, x = (r : EReal)

/-- A real number is real. -/
theorem IsR.coe (r : ℝ) : IsR (r : EReal) := ⟨r, rfl⟩
/-- Zero is real. -/
theorem IsR.zero : IsR (0 : EReal) := ⟨0, rfl⟩
/-- One is real. -/
theorem IsR.one : IsR (1 : EReal) := ⟨1, rfl⟩

/-- Sums of reals are real. -/
theorem IsR.add {x y : EReal} (hx : IsR x) (hy : IsR y) : IsR (x + y) := by
  obtain ⟨a, rfl⟩ := hx; obtain ⟨b, rfl⟩ := hy; exact ⟨a + b, (EReal.coe_add a b).symm⟩

/-- Differences of reals are real. -/
theorem IsR.sub {x y : EReal} (hx : IsR x) (hy : IsR y) : IsR (x - y) := by
  obtain ⟨a, rfl⟩ := hx; obtain ⟨b, rfl⟩ := hy; exact ⟨a - b, (EReal.coe_sub a b).symm⟩

/-- Products of reals are real. -/
theorem IsR.mul {x y : EReal} (hx : IsR x) (hy : IsR y) : IsR (x * y) := by
  obtain ⟨a, rfl⟩ := hx; obtain ⟨b, rfl⟩ := hy; exact ⟨a * b, (EReal.coe_mul a b).symm⟩

/-- Quotients of reals by reals that are not zero are real. -/
theorem IsR.div {x y : EReal} (hx : IsR x) (hy : IsR y) (h : y ≠ 0) : IsR (Ideal.div x y) := by
  unfold Ideal.div
  rw [if_neg h]
  obtain ⟨a, rfl⟩ := hx; obtain ⟨b, rfl⟩ := hy
  exact ⟨a * b⁻¹, by rw [EReal.coe_mul, EReal.coe_inv]⟩

/-- Finite sums of reals are real. -/
theorem IsR.sum {ι : Type} (s : Finset ι) {f : ι → EReal} (h : ∀ i, IsR (f i)) : IsR (∑ i ∈ s, f i) := by
  classical
  induction s using Finset.induction_on with
  | empty => exact IsR.zero
  | insert a s ha ih => rw [Finset.sum_insert ha]; exact (h a).add ih

/-- A finite sum of reals, as the real sum. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A real less itself is zero. -/
theorem IsR.sub_self {x : EReal} (hx : IsR x) : x - x = 0 := by
  obtain ⟨a, rfl⟩ := hx; rw [← EReal.coe_sub, _root_.sub_self]; rfl

/-- An extended real whose absolute value is below the infinity is a real. -/
theorem IsR.of_abs {x : EReal} (h : max x (-x) < ⊤) : IsR x := by
  induction x with
  | bot => simp at h
  | top => simp at h
  | coe r => exact ⟨r, rfl⟩

/-- The tolerance of the span search. -/
def thr : EReal := Ideal.ofBits .f32 0x322BCC77#32

/-- The value the recursion puts in place of a quotient by zero. -/
def eps4 : EReal := Ideal.ofBits .f32 0x38D1B717#32

/-- The tolerance is a real, not negative. -/
theorem thr_real : ∃ θ : ℝ, thr = (θ : EReal) ∧ 0 ≤ θ := by
  refine ⟨_, by simp [thr, Ideal.ofBits, Ideal.ieee, -EReal.coe_mul]; rfl, ?_⟩
  norm_num

/-- The fixed quotient is a real. -/
theorem eps4_real : IsR eps4 := by
  refine ⟨_, by simp [eps4, Ideal.ofBits, Ideal.ieee, -EReal.coe_mul]; rfl⟩

/-- The pattern of 125. -/
theorem ofBits_125 : Ideal.ofBits .f32 0x42FA0000#32 = ((125 : ℝ) : EReal) := by
  simp [Ideal.ofBits, Ideal.ieee, -EReal.coe_mul]; norm_num
/-- The float word of minus five. -/
theorem ofBits_m5 : Ideal.ofBits .f32 0xC0A00000#32 = ((-5 : ℝ) : EReal) := by
  simp [Ideal.ofBits, Ideal.ieee, -EReal.coe_mul, -EReal.coe_neg]; norm_num
/-- The float word of minus four. -/
theorem ofBits_m4 : Ideal.ofBits .f32 0xC0800000#32 = ((-4 : ℝ) : EReal) := by
  simp [Ideal.ofBits, Ideal.ieee, -EReal.coe_mul, -EReal.coe_neg]; norm_num
/-- The float word of minus three. -/
theorem ofBits_m3 : Ideal.ofBits .f32 0xC0400000#32 = ((-3 : ℝ) : EReal) := by
  simp [Ideal.ofBits, Ideal.ieee, -EReal.coe_mul, -EReal.coe_neg]; norm_num
/-- The float word of minus two. -/
theorem ofBits_m2 : Ideal.ofBits .f32 0xC0000000#32 = ((-2 : ℝ) : EReal) := by
  simp [Ideal.ofBits, Ideal.ieee, -EReal.coe_mul, -EReal.coe_neg]; norm_num
/-- The float word of minus one. -/
theorem ofBits_m1 : Ideal.ofBits .f32 0xBF800000#32 = ((-1 : ℝ) : EReal) := by
  simp [Ideal.ofBits, Ideal.ieee, -EReal.coe_mul, -EReal.coe_neg]; norm_num
/-- The float word of infinity. -/
theorem ofBits_inf : Ideal.ofBits .f32 0x7F800000#32 = ⊤ := by
  simp [Ideal.ofBits, Ideal.ieee]

/-- The inner knot of a number. -/
def kq (j : ℕ) : EReal := (((j : ℝ) / 125 : ℝ) : EReal)

/-- The number of the 128 knots more than the tolerance below a parameter. -/
def cnt (t : EReal) : ℕ := (Finset.univ.filter fun j : Fin 128 => thr < t - kq j.val).card

/-- The first control point of a parameter's span. -/
def base (t : EReal) : ℕ := cnt t - 1

/-- For a real parameter of at most one: the knots more than the tolerance below it are the first so many, at most 125. -/
theorem cnt_spec {t : EReal} (ht : IsR t) (h1 : t ≤ 1) : cnt t ≤ 125 ∧ ∀ j : ℕ, thr < t - kq j ↔ j < cnt t := by
  classical
  obtain ⟨t, rfl⟩ := ht
  obtain ⟨θ, hθ, h0⟩ := thr_real
  have h1' : t ≤ 1 := by exact_mod_cast h1
  have hP : ∀ j : ℕ, thr < (t : EReal) - kq j ↔ θ < t - (j : ℝ) / 125 := fun j => by
    rw [hθ, kq, ← EReal.coe_sub, EReal.coe_lt_coe_iff]
  have hex : ∃ n : ℕ, ¬ θ < t - (n : ℝ) / 125 := ⟨125, by norm_num; linarith⟩
  have hfind : ∀ j : ℕ, θ < t - (j : ℝ) / 125 ↔ j < Nat.find hex := fun j => by
    rw [Nat.lt_find_iff]
    constructor
    · intro h m hm hn
      apply hn
      have : (m : ℝ) ≤ j := by exact_mod_cast hm
      have : (m : ℝ) / 125 ≤ (j : ℝ) / 125 := by linarith
      linarith
    · intro h
      exact not_not.1 (h j le_rfl)
  have hle : Nat.find hex ≤ 125 := Nat.find_min' hex (by norm_num; linarith)
  have hc : cnt (t : EReal) = Nat.find hex := by
    unfold cnt
    rw [Finset.filter_congr fun (j : Fin 128) _ => (hP j.val).trans (hfind j.val)]
    generalize Nat.find hex = n at hle
    have : (Finset.univ.filter fun j : Fin 128 => j.val < n) = (Finset.univ : Finset (Fin n)).map ⟨fun i => (⟨i.val, by omega⟩ : Fin 128), fun a b h => by simpa [Fin.ext_iff] using h⟩ := by
      ext j
      simp only [Finset.mem_filter, Finset.mem_univ, true_and, Finset.mem_map, Function.Embedding.coeFn_mk]
      exact ⟨fun h => ⟨⟨j.val, h⟩, rfl⟩, fun ⟨a, ha⟩ => by rw [← ha]; exact a.isLt⟩
    rw [this, Finset.card_map, Finset.card_univ, Fintype.card_fin]
  rw [hc]
  exact ⟨hle, fun j => by rw [hP, hfind]⟩

/-- The first control point of a span is at most the 125th. -/
theorem base_le {t : EReal} (ht : IsR t) (h1 : t ≤ 1) : base t ≤ 124 := by
  have := (cnt_spec ht h1).1; unfold base; omega

/-- The masked distance of a parameter from an inner knot. -/
def dist (t : EReal) (j : ℕ) : EReal := Scalar.select (Ideal.cmp .ogt (t - kq j) thr) (t - kq j) 1

/-- Below the count the masked distance is the distance itself. -/
theorem dist_lt {t : EReal} (ht : IsR t) (h1 : t ≤ 1) {j : ℕ} (h : j < cnt t) : dist t j = t - kq j := by
  have := ((cnt_spec ht h1).2 j).2 h
  simp [dist, Ideal.cmp, Scalar.select, this]

/-- From the count on the masked distance is one. -/
theorem dist_ge {t : EReal} (ht : IsR t) (h1 : t ≤ 1) {j : ℕ} (h : ¬ j < cnt t) : dist t j = 1 := by
  have := mt ((cnt_spec ht h1).2 j).1 h
  simp [dist, Ideal.cmp, Scalar.select, this]

/-- Masked distances are real. -/
theorem dist_real {t : EReal} (ht : IsR t) (h1 : t ≤ 1) (j : ℕ) : IsR (dist t j) := by
  by_cases h : j < cnt t
  · rw [dist_lt ht h1 h]; exact ht.sub (IsR.coe _)
  · rw [dist_ge ht h1 h]; exact IsR.one

/-- The span's first control point has the smallest masked distance, and is the first that has it. -/
theorem dist_base {t : EReal} (ht : IsR t) (h1 : t ≤ 1) (j : ℕ) :
    dist t (base t) < dist t j ∨ (dist t (base t) = dist t j ∧ base t ≤ j) := by
  by_cases hb : base t < cnt t
  · rw [dist_lt ht h1 hb]
    by_cases hj : j < cnt t
    · rw [dist_lt ht h1 hj]
      have hjb : j ≤ base t := by unfold base; omega
      obtain ⟨t, rfl⟩ := ht
      rcases Nat.lt_or_eq_of_le hjb with h | h
      · left
        rw [kq, kq, ← EReal.coe_sub, ← EReal.coe_sub, EReal.coe_lt_coe_iff]
        have : (j : ℝ) < (base (t : EReal) : ℕ) := by exact_mod_cast h
        have : (j : ℝ) / 125 < ((base (t : EReal) : ℕ) : ℝ) / 125 := by linarith
        linarith
      · right; rw [← h]; exact ⟨rfl, le_rfl⟩
    · rw [dist_ge ht h1 hj]
      have hle : base t ≤ j := by omega
      have : t - kq (base t) ≤ 1 := by
        obtain ⟨t, rfl⟩ := ht
        have h1' : t ≤ 1 := by exact_mod_cast h1
        have hp : (0 : ℝ) ≤ ((base (t : EReal) : ℕ) : ℝ) / 125 := by positivity
        rw [kq, ← EReal.coe_sub]
        have : t - ((base (t : EReal) : ℕ) : ℝ) / 125 ≤ 1 := by linarith
        exact_mod_cast this
      rcases lt_or_eq_of_le this with h | h
      · exact Or.inl h
      · exact Or.inr ⟨h, hle⟩
  · have h0 : cnt t = 0 := by unfold base at hb; omega
    right
    rw [dist_ge ht h1 hb, dist_ge ht h1 (by omega)]
    refine ⟨rfl, ?_⟩
    unfold base; omega

/-- The recursion's quotient. -/
def tmpS (N V1 V2 t : EReal) : EReal :=
  Scalar.select (Ideal.cmp .oeq ((V1 - t) + (t - V2)) 0) eps4 (Ideal.div N ((V1 - t) + (t - V2)))

/-- The quotient of reals is real. -/
theorem tmpS_real {N V1 V2 t : EReal} (hN : IsR N) (h1 : IsR V1) (h2 : IsR V2) (ht : IsR t) : IsR (tmpS N V1 V2 t) := by
  by_cases h : (V1 - t) + (t - V2) = 0
  · rw [show tmpS N V1 V2 t = eps4 by simp [tmpS, Ideal.cmp, Scalar.select, h]]; exact eps4_real
  · rw [show tmpS N V1 V2 t = Ideal.div N ((V1 - t) + (t - V2)) by simp [tmpS, Ideal.cmp, Scalar.select, h]]
    exact hN.div ((h1.sub ht).add (ht.sub h2)) h

/-- The four basis values from six knots and a parameter: the Cox–de Boor recursion of degree three. -/
def basS (K0 K1 K2 K3 K4 K5 t : EReal) : Fin 4 → EReal :=
  let q10 := tmpS 1 K3 K2 t
  let a0 := 0 + (K3 - t) * q10
  let a1 := (t - K2) * q10
  let q20 := tmpS a0 K3 K1 t
  let b0 := 0 + (K3 - t) * q20
  let q21 := tmpS a1 K4 K2 t
  let b1 := (t - K1) * q20 + (K4 - t) * q21
  let b2 := (t - K2) * q21
  let q30 := tmpS b0 K3 K0 t
  let c0 := 0 + (K3 - t) * q30
  let q31 := tmpS b1 K4 K1 t
  let c1 := (t - K0) * q30 + (K4 - t) * q31
  let q32 := tmpS b2 K5 K2 t
  let c2 := (t - K1) * q31 + (K5 - t) * q32
  let c3 := (t - K2) * q32
  ![c0, c1, c2, c3]

/-- Basis values of real knots at a real parameter are real. -/
theorem basS_real {K0 K1 K2 K3 K4 K5 t : EReal} (h0 : IsR K0) (h1 : IsR K1) (h2 : IsR K2) (h3 : IsR K3) (h4 : IsR K4)
    (h5 : IsR K5) (ht : IsR t) (r : Fin 4) : IsR (basS K0 K1 K2 K3 K4 K5 t r) := by
  have q10 := tmpS_real IsR.one h3 h2 ht
  have a0 := IsR.zero.add ((h3.sub ht).mul q10)
  have a1 := (ht.sub h2).mul q10
  have q20 := tmpS_real a0 h3 h1 ht
  have b0 := IsR.zero.add ((h3.sub ht).mul q20)
  have q21 := tmpS_real a1 h4 h2 ht
  have b1 := ((ht.sub h1).mul q20).add ((h4.sub ht).mul q21)
  have b2 := (ht.sub h2).mul q21
  have q30 := tmpS_real b0 h3 h0 ht
  have q31 := tmpS_real b1 h4 h1 ht
  have q32 := tmpS_real b2 h5 h2 ht
  fin_cases r
  · exact IsR.zero.add ((h3.sub ht).mul q30)
  · exact ((ht.sub h0).mul q30).add ((h4.sub ht).mul q31)
  · exact ((ht.sub h1).mul q31).add ((h5.sub ht).mul q32)
  · exact (ht.sub h2).mul q32

/-- The knot numbered `d` of the six around the span that starts at control point `b`. -/
def kn (b d : ℕ) : EReal := kq (min (b + d - 2) 125)

/-- The four basis values of a parameter at its own span. -/
def bas (t : EReal) : Fin 4 → EReal :=
  basS (kn (base t) 0) (kn (base t) 1) (kn (base t) 2) (kn (base t) 3) (kn (base t) 4) (kn (base t) 5) t

/-- The basis values are real. -/
theorem bas_real {t : EReal} (ht : IsR t) (r : Fin 4) : IsR (bas t r) :=
  basS_real (IsR.coe _) (IsR.coe _) (IsR.coe _) (IsR.coe _) (IsR.coe _) (IsR.coe _) ht r

/-- The weighted sum of the sixteen control points of a pair of spans. -/
def surfS (f : Fin 128 → Fin 128 → EReal) (bu bv : ℕ) (hu : bu ≤ 124) (hv : bv ≤ 124) (Nu Nv : Fin 4 → EReal) : EReal :=
  ∑ l : Fin 4, ∑ r : Fin 4, Nu l * f ⟨bu + l.val, by omega⟩ ⟨bv + r.val, by omega⟩ * Nv r

/-- One column of the banded matrix. -/
def band (b : ℕ) (N : Fin 4 → EReal) (i : Fin 128) : EReal :=
  0 + (if i.val = b + 0 then N 0 else 0) + (if i.val = b + 1 then N 1 else 0) + (if i.val = b + 2 then N 2 else 0) + (if i.val = b + 3 then N 3 else 0)

/-- A banded column of real values is real. -/
theorem band_real (b : ℕ) {N : Fin 4 → EReal} (hN : ∀ l, IsR (N l)) (i : Fin 128) : IsR (band b N i) := by
  have h : ∀ (p : Prop) [Decidable p] (l : Fin 4), IsR (if p then N l else 0) := fun p _ l => by
    split
    · exact hN l
    · exact IsR.zero
  exact (((IsR.zero.add (h _ 0)).add (h _ 1)).add (h _ 2)).add (h _ 3)

/-- A banded column against a vector of reals: only the span's four entries count. -/
theorem sum_band (b : ℕ) (hb : b ≤ 124) {N : Fin 4 → EReal} {f : Fin 128 → EReal} (hN : ∀ l, IsR (N l)) (hf : ∀ i, IsR (f i)) :
    ∑ i : Fin 128, band b N i * f i = ∑ l : Fin 4, N l * f ⟨b + l.val, by omega⟩ := by
  choose n hn using hN
  choose g hg using hf
  obtain rfl : N = fun l => (n l : EReal) := funext hn
  obtain rfl : f = fun i => (g i : EReal) := funext hg
  have key : ∀ (k : ℕ) (hk : b + k < 128) (c : ℝ), ∑ i : Fin 128, (if i.val = b + k then c else 0) * g i = c * g ⟨b + k, hk⟩ := fun k hk c => by
    rw [Finset.sum_eq_single (⟨b + k, hk⟩ : Fin 128)]
    · simp
    · intro i _ hi
      rw [if_neg (fun h => hi (Fin.ext h)), zero_mul]
    · simp
  have hreal : ∑ i : Fin 128, (0 + (if i.val = b + 0 then n 0 else 0) + (if i.val = b + 1 then n 1 else 0) + (if i.val = b + 2 then n 2 else 0)
      + (if i.val = b + 3 then n 3 else 0)) * g i = ∑ l : Fin 4, n l * g ⟨b + l.val, by omega⟩ := by
    simp only [zero_add, add_mul, Finset.sum_add_distrib]
    rw [key 0 (by omega), key 1 (by omega), key 2 (by omega), key 3 (by omega), Fin.sum_univ_four]
    rfl
  have hl : ∀ i : Fin 128, band b (fun l => (n l : EReal)) i * (g i : EReal)
      = (((0 + (if i.val = b + 0 then n 0 else 0) + (if i.val = b + 1 then n 1 else 0) + (if i.val = b + 2 then n 2 else 0)
      + (if i.val = b + 3 then n 3 else 0)) * g i : ℝ) : EReal) := fun i => by
    have hi : ∀ (p : Prop) [Decidable p] (c : ℝ), (if p then (c : EReal) else 0) = ((if p then c else 0 : ℝ) : EReal) := fun p _ c => by
      split <;> rfl
    unfold band
    simp only [hi]
    push_cast
    rfl
  simp only [hl, coe_sum, hreal, ← EReal.coe_mul]

/-- Two banded columns about a matrix of reals: the sum of sixteen weighted entries. -/
theorem sum_bands (f : Fin 128 → Fin 128 → EReal) (bu bv : ℕ) (hu : bu ≤ 124) (hv : bv ≤ 124) {Nu Nv : Fin 4 → EReal}
    (hf : ∀ i j, IsR (f i j)) (hNu : ∀ l, IsR (Nu l)) (hNv : ∀ l, IsR (Nv l)) :
    ∑ i : Fin 128, band bu Nu i * ∑ j : Fin 128, f i j * band bv Nv j = surfS f bu bv hu hv Nu Nv := by
  have h1 : ∀ i, ∑ j : Fin 128, f i j * band bv Nv j = ∑ r : Fin 4, Nv r * f i ⟨bv + r.val, by omega⟩ := fun i => by
    rw [← sum_band bv hv hNv (hf i)]
    exact Finset.sum_congr rfl fun j _ => mul_comm _ _
  simp only [h1]
  rw [sum_band bu hu hNu (fun i => IsR.sum _ fun r => (hNv r).mul (hf i _))]
  unfold surfS
  refine Finset.sum_congr rfl fun l _ => ?_
  choose n hn using hNu
  choose v hv' using hNv
  choose g hg using hf
  simp only [hn, hv', hg]
  simp only [← EReal.coe_mul, coe_sum]
  rw [Finset.mul_sum]
  exact congrArg _ (Finset.sum_congr rfl fun r _ => by ring)

end Cert.Own
end
-- ==== Proof.Rank.lean ====
module

public import Idealize.ShloMosaic.Lib.Claim
public import Idealize.ShloMosaic.Lib.Pipeline.ValueKit
public import Idealize.ShloMosaic.Lib.SortFacts
public import Idealize.ShloMosaic.Lib.PlanTiles.StableSort

@[expose] public section

/-! # Sorting by rank

A stable sort puts each entry at the position its rank names: how many entries are smaller, or equal and earlier. -/

noncomputable section

namespace Cert.Own

open Idealize.ShloMosaic

variable {n : ℕ} (x : Fin n → EReal)

/-- One position before another in a stable increasing order. -/
def Bef (a b : Fin n) : Prop := x a < x b ∨ (x a = x b ∧ a < b)

/-- The rank of a position: how many positions come before it. -/
def rank (b : Fin n) : ℕ := by classical exact (Finset.univ.filter fun a => Bef x a b).card

/-- How many entries are larger. -/
def above (b : Fin n) : ℕ := by classical exact (Finset.univ.filter fun a => x b < x a).card

/-- Entries with fewer larger ones are larger. -/
theorem above_lt_iff (a b : Fin n) : above x b < above x a ↔ x a < x b := by
  classical
  unfold above
  constructor
  · intro h
    by_contra hn
    refine absurd h (not_lt.2 (Finset.card_le_card fun k hk => ?_))
    rw [Finset.mem_filter] at hk ⊢
    exact ⟨hk.1, lt_of_le_of_lt (not_lt.1 hn) hk.2⟩
  · intro h
    refine Finset.card_lt_card ⟨fun k hk => ?_, fun hs => ?_⟩
    · rw [Finset.mem_filter] at hk ⊢
      exact ⟨hk.1, lt_trans h hk.2⟩
    · have := hs (Finset.mem_filter.2 ⟨Finset.mem_univ b, h⟩)
      exact lt_irrefl _ (Finset.mem_filter.1 this).2

/-- Two places have equally many strictly smaller values exactly when their values are equal. -/
theorem above_eq_iff (a b : Fin n) : above x a = above x b ↔ x a = x b := by
  have h1 := above_lt_iff x a b
  have h2 := above_lt_iff x b a
  constructor
  · intro h
    exact le_antisymm (not_lt.1 fun hh => by have := h2.2 hh; omega) (not_lt.1 fun hh => by have := h1.2 hh; omega)
  · intro h
    have h3 : ¬ x a < x b := by rw [h]; exact lt_irrefl _
    have h4 : ¬ x b < x a := by rw [h]; exact lt_irrefl _
    have := mt h1.1 h3; have := mt h2.1 h4; omega

/-- The stable sorting permutation by increasing value. -/
def srt : Fin n → Fin n := sortedFrom fun a b => decide (x a < x b)

/-- The sorting permutation keeps the stable order. -/
theorem srt_bef (p q : Fin n) (h : p < q) : Bef x (srt x p) (srt x q) := by
  have e : (fun a b : Fin n => decide (x a < x b)) = fun a b => decide (above x b < above x a) := by
    funext a b; exact decide_eq_decide.2 (above_lt_iff x a b).symm
  have hp := PlanTiles.pairwise_stableSort_lex (above x) (· < ·) (List.finRange n) (List.pairwise_lt_finRange n)
  rw [← e, List.pairwise_iff_get] at hp
  have := hp (p.cast (length_sortPositions n _).symm) (q.cast (length_sortPositions n _).symm) (by rw [Fin.lt_def]; exact h)
  rcases this with h' | ⟨h', h''⟩
  · exact Or.inl ((above_lt_iff x _ _).1 h')
  · exact Or.inr ⟨(above_eq_iff x _ _).1 h', h''⟩

/-- No place comes before itself. -/
theorem bef_irrefl (a : Fin n) : ¬ Bef x a a := fun h => by
  rcases h with h | ⟨-, h⟩
  · exact lt_irrefl _ h
  · exact lt_irrefl _ h

/-- Of two places at most one comes before the other. -/
theorem bef_asymm (a b : Fin n) (h : Bef x a b) : ¬ Bef x b a := fun h' => by
  rcases h with h | ⟨e, h⟩ <;> rcases h' with h' | ⟨e', h'⟩
  · exact lt_asymm h h'
  · rw [e'] at h; exact lt_irrefl _ h
  · rw [e] at h'; exact lt_irrefl _ h'
  · exact lt_asymm h h'

/-- The rank of a sorted position's source is that position. -/
theorem rank_srt (q : Fin n) : rank x (srt x q) = q.val := by
  classical
  unfold rank
  have hs : Function.Surjective (srt x) := sortedFrom_surjective _
  have hi : Function.Injective (srt x) := sortedFrom_injective _
  have : (Finset.univ.filter fun a => Bef x a (srt x q)) = (Finset.univ.filter fun p : Fin n => p < q).map ⟨srt x, hi⟩ := by
    ext a
    obtain ⟨p, rfl⟩ := hs a
    simp only [Finset.mem_filter, Finset.mem_univ, true_and, Finset.mem_map, Function.Embedding.coeFn_mk]
    constructor
    · intro h
      refine ⟨p, ?_, rfl⟩
      by_contra hn
      rcases lt_or_eq_of_le (not_lt.1 hn) with h' | h'
      · exact bef_asymm x _ _ h (srt_bef x q p h')
      · rw [h'] at h; exact bef_irrefl x _ h
    · rintro ⟨p', h, e⟩
      rw [← e]; exact srt_bef x p' q h
  rw [this, Finset.card_map]
  have : (Finset.univ.filter fun p : Fin n => p < q) = Finset.Iio q := by ext; simp
  rw [this, Fin.card_Iio]

/-- Only the source of a position has that position as its rank. -/
theorem rank_eq_iff (a q : Fin n) : rank x a = q.val ↔ a = srt x q := by
  constructor
  · intro h
    obtain ⟨p, rfl⟩ := (sortedFrom_surjective (fun a b => decide (x a < x b)) : Function.Surjective (srt x)) a
    exact congrArg (srt x) (Fin.ext ((rank_srt x p).symm.trans h))
  · rintro rfl; exact rank_srt x q

/-- A rank is less than the number of places. -/
theorem rank_lt (a : Fin n) : rank x a < n := by
  obtain ⟨p, rfl⟩ := (sortedFrom_surjective (fun a b => decide (x a < x b)) : Function.Surjective (srt x)) a
  exact lt_of_eq_of_lt (rank_srt x p) p.isLt

/-- Summing the entries whose rank is a position gives the sorted entry there. -/
theorem sum_rank (q : Fin n) : ∑ a, (if rank x a = q.val then x a else 0) = x (srt x q) := by
  rw [Finset.sum_eq_single (srt x q)]
  · rw [if_pos (rank_srt x q)]
  · intro a _ ha
    rw [if_neg fun h => ha ((rank_eq_iff x a q).1 h)]
  · intro h; exact absurd (Finset.mem_univ _) h

end Cert.Own
end
-- ==== Proof.KerWord.lean ====
module

public import proofs.«01_k».proof.Proof.Scal
public import proofs.«01_k».proof.Proof.Rank

@[expose] public section

set_option maxRecDepth 16384

/-! # The kernel's integer words and clipped knots -/

noncomputable section

namespace Cert.Own

open Idealize.ShloMosaic

/-- A word sum of bits is the number of bits set. -/
theorem fold_bits {n : ℕ} (P : Fin n → Prop) [DecidablePred P] (s : Finset (Fin n)) :
    Finset.fold IntOp.addi 0#32 (fun x => BitVec.setWidth 32 (BitVec.ofBool (decide (P x)))) s = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun h' => ha (Finset.mem_filter.1 h').1)]
      simp only [h, decide_true, IntOp.addi]
      rw [Nat.add_comm, BitVec.ofNat_add]
      rfl
    · rw [if_neg h]
      simp only [h, decide_false, IntOp.addi]
      simp

/-- A small word read as a signed number. -/
theorem word_toInt {j : ℕ} (h : j < 2147483648) : (BitVec.ofNat 32 j).toInt = j := by
  rw [BitVec.toInt_eq_toNat_of_lt] <;> rw [BitVec.toNat_ofNat, Nat.mod_eq_of_lt (by omega)]
  omega

/-- Equality of small words is equality of the numbers. -/
theorem word_eq {a b : ℕ} (ha : a < 2147483648) (hb : b < 2147483648) :
    IntOp.cmpi .eq (BitVec.ofNat 32 a) (BitVec.ofNat 32 b) = BitVec.ofBool (decide (a = b)) := by
  have : (BitVec.ofNat 32 a = BitVec.ofNat 32 b) ↔ a = b :=
    ⟨fun h => by have := congrArg BitVec.toInt h; rw [word_toInt ha, word_toInt hb] at this; exact_mod_cast this, fun h => by rw [h]⟩
  by_cases h : a = b
  · simp [IntOp.cmpi, h]
  · have h' := mt this.1 h
    simp only [IntOp.cmpi, h, decide_false, beq_eq_false_iff_ne.2 h']

/-- The signed order of small words is the order of the numbers. -/
theorem word_slt {a b : ℕ} (ha : a < 2147483648) (hb : b < 2147483648) :
    IntOp.cmpi .slt (BitVec.ofNat 32 a) (BitVec.ofNat 32 b) = BitVec.ofBool (decide (a < b)) := by
  by_cases h : a < b
  · simp [IntOp.cmpi, BitVec.slt, word_toInt ha, word_toInt hb, h]
  · simp [IntOp.cmpi, BitVec.slt, word_toInt ha, word_toInt hb, h]

/-- A selection by a decided bit. -/
theorem select_bit {α : Type} (P : Prop) [Decidable P] (x y : α) : Scalar.select (BitVec.ofBool (decide P)) x y = if P then x else y := by
  by_cases h : P <;> simp [Scalar.select, h]

/-- The span word from the count. -/
theorem span_word (c : ℕ) (h : c ≤ 125) :
    IntOp.addi (IntOp.maxsi (IntOp.subi (BitVec.ofNat 32 c) 1#32) 0#32) 3#32 = BitVec.ofNat 32 (c - 1 + 3) := by
  have : ∀ c : Fin 126, IntOp.addi (IntOp.maxsi (IntOp.subi (BitVec.ofNat 32 c.val) 1#32) 0#32) 3#32 = BitVec.ofNat 32 (c.val - 1 + 3) := by
    decide +kernel
  exact this ⟨c, by omega⟩

/-- The row a diagonal sits on. -/
theorem diag_word (b l : ℕ) (hb : b ≤ 124) (hl : l < 4) :
    IntOp.addi (IntOp.subi (BitVec.ofNat 32 (b + 3)) 3#32) (BitVec.ofNat 32 l) = BitVec.ofNat 32 (b + l) := by
  have : ∀ (b : Fin 125) (l : Fin 4),
      IntOp.addi (IntOp.subi (BitVec.ofNat 32 (b.val + 3)) 3#32) (BitVec.ofNat 32 l.val) = BitVec.ofNat 32 (b.val + l.val) := by
    decide +kernel
  exact this ⟨b, by omega⟩ ⟨l, hl⟩

/-- The row that holds a coordinate of a control point. -/
theorem coord_word (k : Fin 128) (c : Fin 3) :
    IntOp.addi (IntOp.muli 3#32 (BitVec.ofNat 32 k.val)) (BitVec.ofNat 32 c.val) = BitVec.ofNat 32 (3 * k.val + c.val) := by
  revert k c
  decide +kernel

/-- The position of a column of a tile. -/
theorem tile_word (i : Fin 4) (n : Fin 256) :
    IntOp.addi (BitVec.ofNat 32 n.val) (Scalar.muli (BitVec.ofNat 32 i.val) 256#32) = BitVec.ofNat 32 (256 * i.val + n.val) := by
  revert i n
  decide +kernel

/-- A knot's number over 125. -/
theorem div_125 (r : ℝ) : Ideal.div (r : EReal) (Ideal.ofBits .f32 0x42FA0000#32) = ((r / 125 : ℝ) : EReal) := by
  rw [ofBits_125]
  unfold Ideal.div
  rw [if_neg (by norm_cast), ← EReal.coe_inv, ← EReal.coe_mul]
  rfl

/-- The knots of the span search. -/
theorem knot_word (x : Fin 128) :
    Ideal.div (FloatOps.sitofp (F := Ideal) .f32 (BitVec.ofNat 32 x.val)) (Ideal.ofBits .f32 0x42FA0000#32) = kq x.val := by
  have : FloatOps.sitofp (F := Ideal) .f32 (BitVec.ofNat 32 x.val) = ((x.val : ℝ) : EReal) := by
    show (((BitVec.ofNat 32 x.val).toInt : ℝ) : EReal) = _
    rw [word_toInt (by omega)]
    rfl
  rw [this, div_125]
  rfl

/-- A clipped knot number. -/
theorem clip_knot (b d : ℕ) (z : ℝ) (hz : z = (b : ℝ) + 3 + ((d : ℝ) - 5)) :
    min (1 : EReal) (max 0 (Ideal.div (z : EReal) (Ideal.ofBits .f32 0x42FA0000#32))) = kn b d := by
  have e0 : (0 : EReal) = ((0 : ℝ) : EReal) := rfl
  have e1 : (1 : EReal) = ((1 : ℝ) : EReal) := rfl
  rw [div_125, e0, e1, ← EReal.coe_strictMono.monotone.map_max, ← EReal.coe_strictMono.monotone.map_min, kn, kq]
  congr 1
  rcases Nat.le_total (b + d) 2 with h | h
  · have h' : ((b : ℝ) + d) ≤ 2 := by exact_mod_cast h
    rw [show min (b + d - 2) 125 = 0 by omega, max_eq_left (by rw [hz]; linarith)]
    norm_num
  · obtain ⟨k, hk⟩ := Nat.exists_eq_add_of_le h
    have hk' : (b : ℝ) + d = 2 + k := by exact_mod_cast hk
    rw [show b + d - 2 = k by omega, show z / 125 = (k : ℝ) / 125 by rw [hz]; linarith, max_eq_right (by positivity)]
    rcases Nat.le_total k 125 with h2 | h2
    · have : (k : ℝ) ≤ 125 := by exact_mod_cast h2
      rw [Nat.min_eq_left h2, min_eq_right (by linarith)]
    · have : (125 : ℝ) ≤ k := by exact_mod_cast h2
      rw [Nat.min_eq_right h2, min_eq_left (by linarith)]
      norm_num

end Cert.Own
end
-- ==== Proof.KerMatU.lean ====
module

public import proofs.«01_k».proof.Proof.KerDefs
public import proofs.«01_k».proof.Proof.KerWord

@[expose] public section

set_option maxRecDepth 16384

/-! # The kernel's banded matrix of 256 parameters, read at an index -/

noncomputable section

namespace Cert.Own

open Idealize.ShloMosaic Cert.KernelIdeal Cert.KernelIdeal.Facts₀

/-- The span of a real parameter of at most one. -/
theorem kSpanx256_read (t : FVec Ideal S1x256 .f32) (n : Fin 256) (ht : IsR (t (ix2 0 n))) (h1 : t (ix2 0 n) ≤ 1) :
    kSpanx256 t (ix2 0 n) = BitVec.ofNat 32 (base (t (ix2 0 n)) + 3) := by
  have hc := (cnt_spec ht h1).1
  pointwise [kSpanx256]
  simp only [knot_word]
  rw [fold_bits]
  exact span_word _ hc

/-- The span as a number. -/
theorem kSpanfx256_read (t : FVec Ideal S1x256 .f32) (n : Fin 256) (ht : IsR (t (ix2 0 n))) (h1 : t (ix2 0 n) ≤ 1) :
    sitofp (F := Ideal) .f32 (kSpanx256 t) (ix2 0 n) = (((base (t (ix2 0 n)) : ℝ) + 3 : ℝ) : EReal) := by
  have hb := base_le ht h1
  show (((kSpanx256 t (ix2 0 n)).toInt : ℝ) : EReal) = _
  rw [kSpanx256_read t n ht h1, word_toInt (by omega)]
  push_cast
  rfl

/-- Knot 0 of the six around a span. -/
theorem kKnotx256_0_read (sf : FVec Ideal S1x256 .f32) (n : Fin 256) (b : ℕ) (h : sf (ix2 0 n) = (((b : ℝ) + 3 : ℝ) : EReal)) :
    kKnotx256_0 sf (ix2 0 n) = kn b 0 := by
  pointwise [kKnotx256_0]
  rw [h, ofBits_m5, ← EReal.coe_add]
  exact clip_knot b 0 _ (by push_cast; ring)

/-- Knot 1 of the six around a span. -/
theorem kKnotx256_1_read (sf : FVec Ideal S1x256 .f32) (n : Fin 256) (b : ℕ) (h : sf (ix2 0 n) = (((b : ℝ) + 3 : ℝ) : EReal)) :
    kKnotx256_1 sf (ix2 0 n) = kn b 1 := by
  pointwise [kKnotx256_1]
  rw [h, ofBits_m4, ← EReal.coe_add]
  exact clip_knot b 1 _ (by push_cast; ring)

/-- Knot 2 of the six around a span. -/
theorem kKnotx256_2_read (sf : FVec Ideal S1x256 .f32) (n : Fin 256) (b : ℕ) (h : sf (ix2 0 n) = (((b : ℝ) + 3 : ℝ) : EReal)) :
    kKnotx256_2 sf (ix2 0 n) = kn b 2 := by
  pointwise [kKnotx256_2]
  rw [h, ofBits_m3, ← EReal.coe_add]
  exact clip_knot b 2 _ (by push_cast; ring)

/-- Knot 3 of the six around a span. -/
theorem kKnotx256_3_read (sf : FVec Ideal S1x256 .f32) (n : Fin 256) (b : ℕ) (h : sf (ix2 0 n) = (((b : ℝ) + 3 : ℝ) : EReal)) :
    kKnotx256_3 sf (ix2 0 n) = kn b 3 := by
  pointwise [kKnotx256_3]
  rw [h, ofBits_m2, ← EReal.coe_add]
  exact clip_knot b 3 _ (by push_cast; ring)

/-- Knot 4 of the six around a span. -/
theorem kKnotx256_4_read (sf : FVec Ideal S1x256 .f32) (n : Fin 256) (b : ℕ) (h : sf (ix2 0 n) = (((b : ℝ) + 3 : ℝ) : EReal)) :
    kKnotx256_4 sf (ix2 0 n) = kn b 4 := by
  pointwise [kKnotx256_4]
  rw [h, ofBits_m1, ← EReal.coe_add]
  exact clip_knot b 4 _ (by push_cast; ring)

/-- Knot 5 of the six around a span. -/
theorem kKnotx256_5_read (sf : FVec Ideal S1x256 .f32) (n : Fin 256) (b : ℕ) (h : sf (ix2 0 n) = (((b : ℝ) + 3 : ℝ) : EReal)) :
    kKnotx256_5 sf (ix2 0 n) = kn b 5 := by
  pointwise [kKnotx256_5]
  rw [h]
  exact clip_knot b 5 _ (by push_cast; ring)

/-- The recursion's quotient, read at a parameter. -/
theorem kTmpx256_read (N V1 V2 t : FVec Ideal S1x256 .f32) (n : Fin 256) :
    kTmpx256 N V1 V2 t (ix2 0 n) = tmpS (N (ix2 0 n)) (V1 (ix2 0 n)) (V2 (ix2 0 n)) (t (ix2 0 n)) := by
  pointwise [kTmpx256, tmpS, eps4]
/-- The left share of a quotient, read at a parameter. -/
theorem kLx256_read (V1 t q : FVec Ideal S1x256 .f32) (n : Fin 256) :
    kLx256 V1 t q (ix2 0 n) = (V1 (ix2 0 n) - t (ix2 0 n)) * q (ix2 0 n) := by pointwise [kLx256]
/-- The right share of a quotient, read at a parameter. -/
theorem kRx256_read (V2 t q : FVec Ideal S1x256 .f32) (n : Fin 256) :
    kRx256 V2 t q (ix2 0 n) = (t (ix2 0 n) - V2 (ix2 0 n)) * q (ix2 0 n) := by pointwise [kRx256]
/-- The row of zeros reads zero. -/
theorem zerox256_read (n : Fin 256) : broadcast S1x256 (Scalar.ofBits (F := Ideal) .f32 0x00000000#32) (ix2 0 n) = 0 := by pointwise
/-- The row of ones reads one. -/
theorem onex256_read (n : Fin 256) : broadcast S1x256 (Scalar.ofBits (F := Ideal) .f32 0x3F800000#32) (ix2 0 n) = 1 := by pointwise

/-- The first basis value. -/
theorem kC0x256_read (sf t : FVec Ideal S1x256 .f32) (n : Fin 256) (b : ℕ) (h : sf (ix2 0 n) = (((b : ℝ) + 3 : ℝ) : EReal)) :
    kC0x256 sf t (ix2 0 n) = basS (kn b 0) (kn b 1) (kn b 2) (kn b 3) (kn b 4) (kn b 5) (t (ix2 0 n)) 0 := by
  simp only [kC0x256, kQ30x256, kQ31x256, kQ32x256, kB0x256, kB1x256, kB2x256, kQ20x256, kQ21x256, kA0x256, kA1x256, kQ10x256, kTmpx256_read, kLx256_read, kRx256_read,
    ValueIdx.addf_apply, zerox256_read, onex256_read, kKnotx256_0_read sf n b h, kKnotx256_1_read sf n b h, kKnotx256_2_read sf n b h,
    kKnotx256_3_read sf n b h, kKnotx256_4_read sf n b h, kKnotx256_5_read sf n b h]
  rfl

/-- The second basis value. -/
theorem kC1x256_read (sf t : FVec Ideal S1x256 .f32) (n : Fin 256) (b : ℕ) (h : sf (ix2 0 n) = (((b : ℝ) + 3 : ℝ) : EReal)) :
    kC1x256 sf t (ix2 0 n) = basS (kn b 0) (kn b 1) (kn b 2) (kn b 3) (kn b 4) (kn b 5) (t (ix2 0 n)) 1 := by
  simp only [kC1x256, kQ30x256, kQ31x256, kQ32x256, kB0x256, kB1x256, kB2x256, kQ20x256, kQ21x256, kA0x256, kA1x256, kQ10x256, kTmpx256_read, kLx256_read, kRx256_read,
    ValueIdx.addf_apply, zerox256_read, onex256_read, kKnotx256_0_read sf n b h, kKnotx256_1_read sf n b h, kKnotx256_2_read sf n b h,
    kKnotx256_3_read sf n b h, kKnotx256_4_read sf n b h, kKnotx256_5_read sf n b h]
  rfl

/-- The third basis value. -/
theorem kC2x256_read (sf t : FVec Ideal S1x256 .f32) (n : Fin 256) (b : ℕ) (h : sf (ix2 0 n) = (((b : ℝ) + 3 : ℝ) : EReal)) :
    kC2x256 sf t (ix2 0 n) = basS (kn b 0) (kn b 1) (kn b 2) (kn b 3) (kn b 4) (kn b 5) (t (ix2 0 n)) 2 := by
  simp only [kC2x256, kQ30x256, kQ31x256, kQ32x256, kB0x256, kB1x256, kB2x256, kQ20x256, kQ21x256, kA0x256, kA1x256, kQ10x256, kTmpx256_read, kLx256_read, kRx256_read,
    ValueIdx.addf_apply, zerox256_read, onex256_read, kKnotx256_0_read sf n b h, kKnotx256_1_read sf n b h, kKnotx256_2_read sf n b h,
    kKnotx256_3_read sf n b h, kKnotx256_4_read sf n b h, kKnotx256_5_read sf n b h]
  rfl

/-- The fourth basis value. -/
theorem kC3x256_read (sf t : FVec Ideal S1x256 .f32) (n : Fin 256) (b : ℕ) (h : sf (ix2 0 n) = (((b : ℝ) + 3 : ℝ) : EReal)) :
    kC3x256 sf t (ix2 0 n) = basS (kn b 0) (kn b 1) (kn b 2) (kn b 3) (kn b 4) (kn b 5) (t (ix2 0 n)) 3 := by
  simp only [kC3x256, kQ30x256, kQ31x256, kQ32x256, kB0x256, kB1x256, kB2x256, kQ20x256, kQ21x256, kA0x256, kA1x256, kQ10x256, kTmpx256_read, kLx256_read, kRx256_read,
    ValueIdx.addf_apply, zerox256_read, onex256_read, kKnotx256_0_read sf n b h, kKnotx256_1_read sf n b h, kKnotx256_2_read sf n b h,
    kKnotx256_3_read sf n b h, kKnotx256_4_read sf n b h, kKnotx256_5_read sf n b h]
  rfl

/-- One diagonal. -/
theorem kDiagx256_read (s : IVec S1x256 32) (l : ℕ) (hl : l < 4) (N : FVec Ideal S1x256 .f32) (i : Fin 128) (n : Fin 256) (b : ℕ) (hb : b ≤ 124)
    (hs : s (ix2 0 n) = BitVec.ofNat 32 (b + 3)) :
    kDiagx256 s (BitVec.ofNat 32 l) N (ix2 i n) = if i.val = b + l then N (ix2 0 n) else 0 := by
  pointwise [kDiagx256]
  rw [hs, diag_word b l hb hl, word_eq (by omega) (by omega), select_bit]

/-- The banded matrix. -/
theorem kMatx256_read (t : FVec Ideal S1x256 .f32) (i : Fin 128) (n : Fin 256) (ht : IsR (t (ix2 0 n))) (h1 : t (ix2 0 n) ≤ 1) :
    kMatx256 t (ix2 i n) = band (base (t (ix2 0 n))) (bas (t (ix2 0 n))) i := by
  have hb := base_le ht h1
  have hs := kSpanx256_read t n ht h1
  have hf := kSpanfx256_read t n ht h1
  pointwise [kMatx256]
  rw [kDiagx256_read _ 0 (by omega) _ i n _ hb hs, kDiagx256_read _ 1 (by omega) _ i n _ hb hs, kDiagx256_read _ 2 (by omega) _ i n _ hb hs,
    kDiagx256_read _ 3 (by omega) _ i n _ hb hs, kC0x256_read _ t n _ hf, kC1x256_read _ t n _ hf, kC2x256_read _ t n _ hf, kC3x256_read _ t n _ hf,
    band, zero_add]
  rfl

end Cert.Own
end
-- ==== Proof.KerMatV.lean ====
module

public import proofs.«01_k».proof.Proof.KerDefs
public import proofs.«01_k».proof.Proof.KerWord

@[expose] public section

set_option maxRecDepth 16384

/-! # The kernel's banded matrix of 1024 parameters, read at an index -/

noncomputable section

namespace Cert.Own

open Idealize.ShloMosaic Cert.KernelIdeal Cert.KernelIdeal.Facts₀

/-- The span of a real parameter of at most one. -/
theorem kSpanx1024_read (t : FVec Ideal S1x1024 .f32) (n : Fin 1024) (ht : IsR (t (ix2 0 n))) (h1 : t (ix2 0 n) ≤ 1) :
    kSpanx1024 t (ix2 0 n) = BitVec.ofNat 32 (base (t (ix2 0 n)) + 3) := by
  have hc := (cnt_spec ht h1).1
  pointwise [kSpanx1024]
  simp only [knot_word]
  rw [fold_bits]
  exact span_word _ hc

/-- The span as a number. -/
theorem kSpanfx1024_read (t : FVec Ideal S1x1024 .f32) (n : Fin 1024) (ht : IsR (t (ix2 0 n))) (h1 : t (ix2 0 n) ≤ 1) :
    sitofp (F := Ideal) .f32 (kSpanx1024 t) (ix2 0 n) = (((base (t (ix2 0 n)) : ℝ) + 3 : ℝ) : EReal) := by
  have hb := base_le ht h1
  show (((kSpanx1024 t (ix2 0 n)).toInt : ℝ) : EReal) = _
  rw [kSpanx1024_read t n ht h1, word_toInt (by omega)]
  push_cast
  rfl

/-- Knot 0 of the six around a span. -/
theorem kKnotx1024_0_read (sf : FVec Ideal S1x1024 .f32) (n : Fin 1024) (b : ℕ) (h : sf (ix2 0 n) = (((b : ℝ) + 3 : ℝ) : EReal)) :
    kKnotx1024_0 sf (ix2 0 n) = kn b 0 := by
  pointwise [kKnotx1024_0]
  rw [h, ofBits_m5, ← EReal.coe_add]
  exact clip_knot b 0 _ (by push_cast; ring)

/-- Knot 1 of the six around a span. -/
theorem kKnotx1024_1_read (sf : FVec Ideal S1x1024 .f32) (n : Fin 1024) (b : ℕ) (h : sf (ix2 0 n) = (((b : ℝ) + 3 : ℝ) : EReal)) :
    kKnotx1024_1 sf (ix2 0 n) = kn b 1 := by
  pointwise [kKnotx1024_1]
  rw [h, ofBits_m4, ← EReal.coe_add]
  exact clip_knot b 1 _ (by push_cast; ring)

/-- Knot 2 of the six around a span. -/
theorem kKnotx1024_2_read (sf : FVec Ideal S1x1024 .f32) (n : Fin 1024) (b : ℕ) (h : sf (ix2 0 n) = (((b : ℝ) + 3 : ℝ) : EReal)) :
    kKnotx1024_2 sf (ix2 0 n) = kn b 2 := by
  pointwise [kKnotx1024_2]
  rw [h, ofBits_m3, ← EReal.coe_add]
  exact clip_knot b 2 _ (by push_cast; ring)

/-- Knot 3 of the six around a span. -/
theorem kKnotx1024_3_read (sf : FVec Ideal S1x1024 .f32) (n : Fin 1024) (b : ℕ) (h : sf (ix2 0 n) = (((b : ℝ) + 3 : ℝ) : EReal)) :
    kKnotx1024_3 sf (ix2 0 n) = kn b 3 := by
  pointwise [kKnotx1024_3]
  rw [h, ofBits_m2, ← EReal.coe_add]
  exact clip_knot b 3 _ (by push_cast; ring)

/-- Knot 4 of the six around a span. -/
theorem kKnotx1024_4_read (sf : FVec Ideal S1x1024 .f32) (n : Fin 1024) (b : ℕ) (h : sf (ix2 0 n) = (((b : ℝ) + 3 : ℝ) : EReal)) :
    kKnotx1024_4 sf (ix2 0 n) = kn b 4 := by
  pointwise [kKnotx1024_4]
  rw [h, ofBits_m1, ← EReal.coe_add]
  exact clip_knot b 4 _ (by push_cast; ring)

/-- Knot 5 of the six around a span. -/
theorem kKnotx1024_5_read (sf : FVec Ideal S1x1024 .f32) (n : Fin 1024) (b : ℕ) (h : sf (ix2 0 n) = (((b : ℝ) + 3 : ℝ) : EReal)) :
    kKnotx1024_5 sf (ix2 0 n) = kn b 5 := by
  pointwise [kKnotx1024_5]
  rw [h]
  exact clip_knot b 5 _ (by push_cast; ring)

/-- The recursion's quotient, read at a parameter. -/
theorem kTmpx1024_read (N V1 V2 t : FVec Ideal S1x1024 .f32) (n : Fin 1024) :
    kTmpx1024 N V1 V2 t (ix2 0 n) = tmpS (N (ix2 0 n)) (V1 (ix2 0 n)) (V2 (ix2 0 n)) (t (ix2 0 n)) := by
  pointwise [kTmpx1024, tmpS, eps4]
/-- The left share of a quotient, read at a parameter. -/
theorem kLx1024_read (V1 t q : FVec Ideal S1x1024 .f32) (n : Fin 1024) :
    kLx1024 V1 t q (ix2 0 n) = (V1 (ix2 0 n) - t (ix2 0 n)) * q (ix2 0 n) := by pointwise [kLx1024]
/-- The right share of a quotient, read at a parameter. -/
theorem kRx1024_read (V2 t q : FVec Ideal S1x1024 .f32) (n : Fin 1024) :
    kRx1024 V2 t q (ix2 0 n) = (t (ix2 0 n) - V2 (ix2 0 n)) * q (ix2 0 n) := by pointwise [kRx1024]
/-- The row of zeros reads zero. -/
theorem zerox1024_read (n : Fin 1024) : broadcast S1x1024 (Scalar.ofBits (F := Ideal) .f32 0x00000000#32) (ix2 0 n) = 0 := by pointwise
/-- The row of ones reads one. -/
theorem onex1024_read (n : Fin 1024) : broadcast S1x1024 (Scalar.ofBits (F := Ideal) .f32 0x3F800000#32) (ix2 0 n) = 1 := by pointwise

/-- The first basis value. -/
theorem kC0x1024_read (sf t : FVec Ideal S1x1024 .f32) (n : Fin 1024) (b : ℕ) (h : sf (ix2 0 n) = (((b : ℝ) + 3 : ℝ) : EReal)) :
    kC0x1024 sf t (ix2 0 n) = basS (kn b 0) (kn b 1) (kn b 2) (kn b 3) (kn b 4) (kn b 5) (t (ix2 0 n)) 0 := by
  simp only [kC0x1024, kQ30x1024, kQ31x1024, kQ32x1024, kB0x1024, kB1x1024, kB2x1024, kQ20x1024, kQ21x1024, kA0x1024, kA1x1024, kQ10x1024, kTmpx1024_read, kLx1024_read, kRx1024_read,
    ValueIdx.addf_apply, zerox1024_read, onex1024_read, kKnotx1024_0_read sf n b h, kKnotx1024_1_read sf n b h, kKnotx1024_2_read sf n b h,
    kKnotx1024_3_read sf n b h, kKnotx1024_4_read sf n b h, kKnotx1024_5_read sf n b h]
  rfl

/-- The second basis value. -/
theorem kC1x1024_read (sf t : FVec Ideal S1x1024 .f32) (n : Fin 1024) (b : ℕ) (h : sf (ix2 0 n) = (((b : ℝ) + 3 : ℝ) : EReal)) :
    kC1x1024 sf t (ix2 0 n) = basS (kn b 0) (kn b 1) (kn b 2) (kn b 3) (kn b 4) (kn b 5) (t (ix2 0 n)) 1 := by
  simp only [kC1x1024, kQ30x1024, kQ31x1024, kQ32x1024, kB0x1024, kB1x1024, kB2x1024, kQ20x1024, kQ21x1024, kA0x1024, kA1x1024, kQ10x1024, kTmpx1024_read, kLx1024_read, kRx1024_read,
    ValueIdx.addf_apply, zerox1024_read, onex1024_read, kKnotx1024_0_read sf n b h, kKnotx1024_1_read sf n b h, kKnotx1024_2_read sf n b h,
    kKnotx1024_3_read sf n b h, kKnotx1024_4_read sf n b h, kKnotx1024_5_read sf n b h]
  rfl

/-- The third basis value. -/
theorem kC2x1024_read (sf t : FVec Ideal S1x1024 .f32) (n : Fin 1024) (b : ℕ) (h : sf (ix2 0 n) = (((b : ℝ) + 3 : ℝ) : EReal)) :
    kC2x1024 sf t (ix2 0 n) = basS (kn b 0) (kn b 1) (kn b 2) (kn b 3) (kn b 4) (kn b 5) (t (ix2 0 n)) 2 := by
  simp only [kC2x1024, kQ30x1024, kQ31x1024, kQ32x1024, kB0x1024, kB1x1024, kB2x1024, kQ20x1024, kQ21x1024, kA0x1024, kA1x1024, kQ10x1024, kTmpx1024_read, kLx1024_read, kRx1024_read,
    ValueIdx.addf_apply, zerox1024_read, onex1024_read, kKnotx1024_0_read sf n b h, kKnotx1024_1_read sf n b h, kKnotx1024_2_read sf n b h,
    kKnotx1024_3_read sf n b h, kKnotx1024_4_read sf n b h, kKnotx1024_5_read sf n b h]
  rfl

/-- The fourth basis value. -/
theorem kC3x1024_read (sf t : FVec Ideal S1x1024 .f32) (n : Fin 1024) (b : ℕ) (h : sf (ix2 0 n) = (((b : ℝ) + 3 : ℝ) : EReal)) :
    kC3x1024 sf t (ix2 0 n) = basS (kn b 0) (kn b 1) (kn b 2) (kn b 3) (kn b 4) (kn b 5) (t (ix2 0 n)) 3 := by
  simp only [kC3x1024, kQ30x1024, kQ31x1024, kQ32x1024, kB0x1024, kB1x1024, kB2x1024, kQ20x1024, kQ21x1024, kA0x1024, kA1x1024, kQ10x1024, kTmpx1024_read, kLx1024_read, kRx1024_read,
    ValueIdx.addf_apply, zerox1024_read, onex1024_read, kKnotx1024_0_read sf n b h, kKnotx1024_1_read sf n b h, kKnotx1024_2_read sf n b h,
    kKnotx1024_3_read sf n b h, kKnotx1024_4_read sf n b h, kKnotx1024_5_read sf n b h]
  rfl

/-- One diagonal. -/
theorem kDiagx1024_read (s : IVec S1x1024 32) (l : ℕ) (hl : l < 4) (N : FVec Ideal S1x1024 .f32) (i : Fin 128) (n : Fin 1024) (b : ℕ) (hb : b ≤ 124)
    (hs : s (ix2 0 n) = BitVec.ofNat 32 (b + 3)) :
    kDiagx1024 s (BitVec.ofNat 32 l) N (ix2 i n) = if i.val = b + l then N (ix2 0 n) else 0 := by
  pointwise [kDiagx1024]
  rw [hs, diag_word b l hb hl, word_eq (by omega) (by omega), select_bit]

/-- The banded matrix. -/
theorem kMatx1024_read (t : FVec Ideal S1x1024 .f32) (i : Fin 128) (n : Fin 1024) (ht : IsR (t (ix2 0 n))) (h1 : t (ix2 0 n) ≤ 1) :
    kMatx1024 t (ix2 i n) = band (base (t (ix2 0 n))) (bas (t (ix2 0 n))) i := by
  have hb := base_le ht h1
  have hs := kSpanx1024_read t n ht h1
  have hf := kSpanfx1024_read t n ht h1
  pointwise [kMatx1024]
  rw [kDiagx1024_read _ 0 (by omega) _ i n _ hb hs, kDiagx1024_read _ 1 (by omega) _ i n _ hb hs, kDiagx1024_read _ 2 (by omega) _ i n _ hb hs,
    kDiagx1024_read _ 3 (by omega) _ i n _ hb hs, kC0x1024_read _ t n _ hf, kC1x1024_read _ t n _ hf, kC2x1024_read _ t n _ hf, kC3x1024_read _ t n _ hf,
    band, zero_add]
  rfl

end Cert.Own
end
-- ==== Proof.KerRank.lean ====
module

public import proofs.«01_k».proof.Proof.KerDefs
public import proofs.«01_k».proof.Proof.KerWord

@[expose] public section

set_option maxRecDepth 16384

/-! # The kernel's ranks, sorted tile and control points, read at an index -/

noncomputable section

namespace Cert.Own

open Idealize.ShloMosaic Cert.KernelIdeal Cert.KernelIdeal.Facts₀

/-- The bit that says a parameter comes before another. -/
theorem bef_bit (x : Fin 1024 → EReal) (a n : Fin 1024) :
    IntOp.ori (BitVec.ofBool (decide (x a < x n))) (IntOp.andi (BitVec.ofBool (decide (x a = x n)))
      (IntOp.cmpi .slt (BitVec.ofNat 32 a.val) (BitVec.ofNat 32 n.val))) = (by classical exact BitVec.ofBool (decide (Bef x a n))) := by
  rw [word_slt (by omega) (by omega)]
  unfold Bef
  by_cases h1 : x a < x n <;> by_cases h2 : x a = x n <;> by_cases h3 : a.val < n.val <;>
    simp [IntOp.ori, IntOp.andi, h1, h2, h3, Fin.lt_def]

/-- A parameter's rank. -/
theorem kRank_read (x : Fin 1024 → EReal) (r : FVec Ideal S1x1024 .f32) (q : FVec Ideal S1024x1 .f32) (hr : ∀ a, r (ix2 0 a) = x a)
    (hq : ∀ a, q (ix2 a 0) = x a) (n : Fin 1024) : kRank r q (ix2 n 0) = BitVec.ofNat 32 (rank x n) := by
  pointwise [kRank]
  simp only [hr, hq, bef_bit]
  rw [fold_bits]
  rfl

/-- A column of the tile of sorted parameters. -/
theorem kU_read (x : Fin 1024 → EReal) (i : grid0.Coords) (rk : IVec S1024x1 32) (q : FVec Ideal S1024x1 .f32)
    (hrk : ∀ a, rk (ix2 a 0) = BitVec.ofNat 32 (rank x a)) (hq : ∀ a, q (ix2 a 0) = x a) (n : Fin 256) (k : Fin 1024)
    (hk : k.val = 256 * (i 0).val + n.val) : kU i rk q (ix2 0 n) = x (srt x k) := by
  pointwise [kU]
  rw [← sum_rank x k]
  refine Finset.sum_congr rfl fun a _ => ?_
  have ha := rank_lt x a
  have hkl := k.isLt
  have hw : IntOp.addi (BitVec.ofNat 32 n.val) (Scalar.muli (BitVec.ofNat 32 (i 0).val) 256#32) = BitVec.ofNat 32 k.val :=
    (tile_word (i 0) n).trans (by rw [hk])
  rw [hrk, hq, hw, word_eq (by omega) (by omega), select_bit]

/-- A weighted coordinate of a control point. -/
theorem kCtrl_read (c : Fin 3) (p : FVec Ideal S128x384 .f32) (w : FVec Ideal S128x128 .f32) (hp : ∀ a b, IsR (p (ix2 a b))) (n k : Fin 128) :
    kCtrl (BitVec.ofNat 32 c.val) p w (ix2 n k) = p (ix2 n ⟨3 * k.val + c.val, by omega⟩) * w (ix2 n k) := by
  have key : ∀ f : Fin 384 → EReal, ∑ x : Fin 384, Scalar.select (IntOp.cmpi .eq (BitVec.ofNat 32 x.val)
      (IntOp.addi (IntOp.muli 3#32 (BitVec.ofNat 32 k.val)) (BitVec.ofNat 32 c.val))) (f x) 0 = f ⟨3 * k.val + c.val, by omega⟩ := fun f => by
    simp only [coord_word k c, word_eq (Nat.lt_trans (Fin.isLt _) (by decide : 384 < 2147483648)) (show 3 * k.val + c.val < 2147483648 by omega), select_bit]
    rw [Finset.sum_eq_single (⟨3 * k.val + c.val, by omega⟩ : Fin 384)]
    · simp
    · intro b _ hb
      exact if_neg fun h => hb (Fin.ext h)
    · simp
  pointwise [kCtrl, kHi, kLo, kSel]
  rw [key (fun x => p (ix2 n x)), key (fun x => p (ix2 n x) - p (ix2 n x)), (hp _ _).sub_self, add_zero]

end Cert.Own
end
-- ==== Proof.RefGather.lean ====
module

public import proofs.«01_k».proof.Proof.RefDefs
public import Idealize.ShloMosaic.Lib.ValueIdxCore

@[expose] public section

set_option maxRecDepth 16384

/-! # The reference's gathers and its sum, read at an index -/

noncomputable section

namespace Cert.Own

open Idealize.ShloMosaic Cert.ReferenceIdeal

/-- Dimension numbers of a gather of whole planes: the first axis of `[128, 128, C]` by four start indices a column. -/
abbrev planeDims (C : ℕ) (wf : GatherDims.WF ⟨3, ![128, 128, C]⟩ ⟨3, ![4, 1024, 1]⟩ ⟨4, ![4, 1024, 128, C]⟩ [2, 3] [0] [] [0] [] 2 ![1, 128, C]) :
    GatherDims ⟨3, ![128, 128, C]⟩ ⟨3, ![4, 1024, 1]⟩ ⟨4, ![4, 1024, 128, C]⟩ where
  offsetDims := [2, 3]
  collapsedSliceDims := [0]
  operandBatchingDims := []
  startIndicesBatchingDims := []
  startIndexMap := [0]
  indexVectorDim := 2
  sliceSizes := ![1, 128, C]
  wf := wf

/-- The gather of planes read at an index: the plane the start index names, read signed and clamped. -/
theorem gather_plane_apply {C : ℕ} (wf : GatherDims.WF ⟨3, ![128, 128, C]⟩ ⟨3, ![4, 1024, 1]⟩ ⟨4, ![4, 1024, 128, C]⟩ [2, 3] [0] [] [0] [] 2 ![1, 128, C])
    (x : (⟨3, ![128, 128, C]⟩ : Shape).Idx → EReal) (idx : IVec ⟨3, ![4, 1024, 1]⟩ 32) (l : Fin 4) (n : Fin 1024) (y : Fin 128) (c : Fin C) :
    Host.gather (planeDims C wf) x idx (ix4 l n y c) = x (ix3 ⟨min (idx (ix3 l n 0)).toInt.toNat 127, by omega⟩ y c) := by
  unfold Host.gather
  congr 1
  funext a
  refine Fin.ext ?_
  show (planeDims C wf).start (ix4 l n y c) idx a + (planeDims C wf).batchCoord (ix4 l n y c) a + (planeDims C wf).offCoord (ix4 l n y c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (planeDims C wf).startIndexMap from List.mem_singleton.mpr rfl)]
    have hsi : (planeDims C wf).siIdx (ix4 l n y c) ⟨List.idxOf (⟨0, by decide⟩ : Fin 3) (planeDims C wf).startIndexMap,
        List.idxOf_lt_length_iff.2 (List.mem_singleton.mpr rfl)⟩ = ix3 l n 0 := by
      funext b; refine Fin.ext ?_
      match b with
      | ⟨0, _⟩ => rfl
      | ⟨1, _⟩ => rfl
      | ⟨2, _⟩ => rfl
    rw [hsi]
    rfl
  | ⟨1, _⟩ =>
    unfold GatherDims.start
    rw [dif_neg (show ¬ (⟨1, by decide⟩ : Fin 3) ∈ (planeDims C wf).startIndexMap from fun h => by simp [planeDims] at h)]
    unfold GatherDims.offCoord
    rw [dif_pos ((GatherDims.mem_sKept _ _).mpr ⟨by simp [planeDims], by simp [planeDims]⟩)]
    simp only [Nat.zero_add]
    rfl
  | ⟨2, _⟩ =>
    unfold GatherDims.start
    rw [dif_neg (show ¬ (⟨2, by decide⟩ : Fin 3) ∈ (planeDims C wf).startIndexMap from fun h => by simp [planeDims] at h)]
    unfold GatherDims.offCoord
    rw [dif_pos ((GatherDims.mem_sKept _ _).mpr ⟨by simp [planeDims], by simp [planeDims]⟩)]
    simp only [Nat.zero_add]
    rfl

/-- Dimension numbers of a gather along the third axis of `[4, 1024, 128, C]` by four start indices a column. -/
abbrev lineDims (C : ℕ) (wf : GatherDims.WF ⟨4, ![4, 1024, 128, C]⟩ ⟨3, ![4, 1024, 1]⟩ ⟨5, ![4, 1024, 4, 1024, C]⟩ [0, 1, 4] [2] [] [2] [] 2 ![4, 1024, 1, C]) :
    GatherDims ⟨4, ![4, 1024, 128, C]⟩ ⟨3, ![4, 1024, 1]⟩ ⟨5, ![4, 1024, 4, 1024, C]⟩ where
  offsetDims := [0, 1, 4]
  collapsedSliceDims := [2]
  operandBatchingDims := []
  startIndicesBatchingDims := []
  startIndexMap := [2]
  indexVectorDim := 2
  sliceSizes := ![4, 1024, 1, C]
  wf := wf

/-- That gather read at an index. -/
theorem gather_line_apply {C : ℕ} (wf : GatherDims.WF ⟨4, ![4, 1024, 128, C]⟩ ⟨3, ![4, 1024, 1]⟩ ⟨5, ![4, 1024, 4, 1024, C]⟩ [0, 1, 4] [2] [] [2] [] 2 ![4, 1024, 1, C])
    (x : (⟨4, ![4, 1024, 128, C]⟩ : Shape).Idx → EReal) (idx : IVec ⟨3, ![4, 1024, 1]⟩ 32) (l : Fin 4) (n : Fin 1024) (r : Fin 4) (k : Fin 1024) (c : Fin C) :
    Host.gather (lineDims C wf) x idx (ix5 l n r k c) = x (ix4 l n ⟨min (idx (ix3 r k 0)).toInt.toNat 127, by omega⟩ c) := by
  unfold Host.gather
  congr 1
  funext a
  refine Fin.ext ?_
  show (lineDims C wf).start (ix5 l n r k c) idx a + (lineDims C wf).batchCoord (ix5 l n r k c) a + (lineDims C wf).offCoord (ix5 l n r k c) a = _
  rw [GatherDims.batchCoord_eq_zero _ _ _ List.not_mem_nil]
  match a with
  | ⟨0, _⟩ =>
    unfold GatherDims.start
    rw [dif_neg (show ¬ (⟨0, by decide⟩ : Fin 4) ∈ (lineDims C wf).startIndexMap from fun h => by simp [lineDims] at h)]
    unfold GatherDims.offCoord
    rw [dif_pos ((GatherDims.mem_sKept _ _).mpr ⟨by simp [lineDims], by simp [lineDims]⟩)]
    simp only [Nat.zero_add]
    rfl
  | ⟨1, _⟩ =>
    unfold GatherDims.start
    rw [dif_neg (show ¬ (⟨1, by decide⟩ : Fin 4) ∈ (lineDims C wf).startIndexMap from fun h => by simp [lineDims] at h)]
    unfold GatherDims.offCoord
    rw [dif_pos ((GatherDims.mem_sKept _ _).mpr ⟨by simp [lineDims], by simp [lineDims]⟩)]
    simp only [Nat.zero_add]
    rfl
  | ⟨2, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨2, by decide⟩ : Fin 4) ∈ (lineDims C wf).startIndexMap from List.mem_singleton.mpr rfl)]
    have hsi : (lineDims C wf).siIdx (ix5 l n r k c) ⟨List.idxOf (⟨2, by decide⟩ : Fin 4) (lineDims C wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  | ⟨3, _⟩ =>
    unfold GatherDims.start
    rw [dif_neg (show ¬ (⟨3, by decide⟩ : Fin 4) ∈ (lineDims C wf).startIndexMap from fun h => by simp [lineDims] at h)]
    unfold GatherDims.offCoord
    rw [dif_pos ((GatherDims.mem_sKept _ _).mpr ⟨by simp [lineDims], by simp [lineDims]⟩)]
    simp only [Nat.zero_add]
    rfl

/-- A sum over the first and third of five axes, read at an index. -/
theorem sum02_apply {C : ℕ} (h : (⟨5, ![4, 1024, 4, 1024, C]⟩ : Shape).ReducesTo [0, 2] ⟨3, ![1024, 1024, C]⟩)
    (x : (⟨5, ![4, 1024, 4, 1024, C]⟩ : Shape).Idx → EReal) (n k : Fin 1024) (c : Fin C) :
    ∑ i ∈ Finset.univ.filter (fun i => h.drop i = ix3 n k c), x i = ∑ l : Fin 4, ∑ r : Fin 4, x (ix5 l n r k c) := by
  have hd : ∀ i : (⟨5, ![4, 1024, 4, 1024, C]⟩ : Shape).Idx, h.drop i = ix3 (i 1) (i 3) (i 4) := fun i => by
    funext b; refine Fin.ext ?_
    match b with
    | ⟨0, _⟩ => rfl
    | ⟨1, _⟩ => rfl
    | ⟨2, _⟩ => rfl
  rw [← Finset.sum_product']
  refine (Finset.sum_nbij' (i := fun p : Fin 4 × Fin 4 => (ix5 p.1 n p.2 k c : (⟨5, ![4, 1024, 4, 1024, C]⟩ : Shape).Idx)) (j := fun i => ((i 0 : Fin 4), (i 2 : Fin 4))) ?_ ?_ ?_ ?_ ?_).symm
  · intro p _
    rw [Finset.mem_filter]
    exact ⟨Finset.mem_univ _, hd _⟩
  · intro i _; exact Finset.mem_product.2 ⟨Finset.mem_univ _, Finset.mem_univ _⟩
  · intro p _; rfl
  · intro i hi
    rw [Finset.mem_filter, hd] at hi
    have e := hi.2
    have e0 := congrFun e 0
    have e1 := congrFun e 1
    have e2 := congrFun e 2
    funext b
    match b with
    | ⟨0, _⟩ => rfl
    | ⟨1, _⟩ => exact e0.symm
    | ⟨2, _⟩ => rfl
    | ⟨3, _⟩ => exact e1.symm
    | ⟨4, _⟩ => exact e2.symm
  · intro p _; rfl

end Cert.Own
end
-- ==== Proof.Argmin.lean ====
module

public import proofs.«01_k».proof.Proof.RefDefs

@[expose] public section

set_option maxRecDepth 16384

/-! # The arg-min the reference's span search makes -/

noncomputable section

namespace Cert.Own

open Idealize.ShloMosaic Cert.ReferenceIdeal

/-- A value and its position: smaller value first, then the smaller position. -/
def LeP (a b : EReal × BitVec 32) : Prop := a.1 < b.1 ∨ (a.1 = b.1 ∧ a.2.toInt ≤ b.2.toInt)

/-- The order of value-index pairs is reflexive. -/
theorem LeP.refl (a : EReal × BitVec 32) : LeP a a := Or.inr ⟨rfl, le_rfl⟩

/-- The order of value-index pairs is transitive. -/
theorem LeP.trans {a b c : EReal × BitVec 32} (h : LeP a b) (h' : LeP b c) : LeP a c := by
  rcases h with h | ⟨e, h⟩ <;> rcases h' with h' | ⟨e', h'⟩
  · exact Or.inl (lt_trans h h')
  · exact Or.inl (e' ▸ h)
  · exact Or.inl (e ▸ h')
  · exact Or.inr ⟨e.trans e', le_trans h h'⟩

/-- The reducer keeps the first of the two pairs when it comes first, else the second. -/
theorem reducer_eq (a b : EReal × BitVec 32) :
    reducer_argmin_f32_i32 (F := Ideal) a b = a ∧ LeP a b ∨ reducer_argmin_f32_i32 (F := Ideal) a b = b ∧ LeP b a := by
  obtain ⟨a1, a2⟩ := a
  obtain ⟨b1, b2⟩ := b
  by_cases h : a1 < b1
  · left
    refine ⟨?_, Or.inl h⟩
    have ho : ∀ w : BitVec 1, 1#1 ||| w = 1#1 := by decide
    simp [reducer_argmin_f32_i32, Ideal.cmpf_def, Ideal.cmp, Scalar.select, IntOp.ori, IntOp.andi, h, ho]
  · by_cases he : a1 = b1
    · subst he
      by_cases hs : a2.slt b2
      · left
        refine ⟨?_, Or.inr ⟨rfl, ?_⟩⟩
        · simp [reducer_argmin_f32_i32, Ideal.cmpf_def, Ideal.cmp, Scalar.select, IntOp.ori, IntOp.andi, IntOp.cmpi, hs]
        · rw [BitVec.slt_iff_toInt_lt] at hs; exact hs.le
      · right
        refine ⟨?_, Or.inr ⟨rfl, ?_⟩⟩
        · simp [reducer_argmin_f32_i32, Ideal.cmpf_def, Ideal.cmp, Scalar.select, IntOp.ori, IntOp.andi, IntOp.cmpi, hs]
        · rw [BitVec.slt_iff_toInt_lt] at hs; exact not_lt.1 hs
    · right
      refine ⟨?_, Or.inl (lt_of_le_of_ne (not_lt.1 h) (Ne.symm he))⟩
      simp [reducer_argmin_f32_i32, Ideal.cmpf_def, Ideal.cmp, Scalar.select, IntOp.ori, IntOp.andi, h, he]

/-- The fold's result is one of the pairs and comes before every pair. -/
theorem foldl_reducer (L : List (EReal × BitVec 32)) : ∀ a : EReal × BitVec 32,
    L.foldl (reducer_argmin_f32_i32 (F := Ideal)) a ∈ a :: L ∧ ∀ x ∈ a :: L, LeP (L.foldl (reducer_argmin_f32_i32 (F := Ideal)) a) x := by
  induction L with
  | nil => intro a; exact ⟨List.mem_cons_self .., fun x hx => by rw [List.mem_singleton] at hx; rw [hx]; exact LeP.refl _⟩
  | cons b L ih =>
    intro a
    obtain ⟨hm, hl⟩ := ih (reducer_argmin_f32_i32 (F := Ideal) a b)
    rw [List.foldl_cons]
    have hr := reducer_eq a b
    refine ⟨?_, fun x hx => ?_⟩
    · rcases List.mem_cons.1 hm with h | h
      · rw [h]; rcases hr with ⟨h', -⟩ | ⟨h', -⟩ <;> rw [h'] <;> simp
      · exact List.mem_cons_of_mem _ (List.mem_cons_of_mem _ h)
    · have h0 := hl _ (List.mem_cons_self ..)
      have ha : LeP (reducer_argmin_f32_i32 (F := Ideal) a b) a := by
        rcases hr with ⟨h', h⟩ | ⟨h', h⟩ <;> rw [h']
        · exact LeP.refl _
        · exact h
      have hb : LeP (reducer_argmin_f32_i32 (F := Ideal) a b) b := by
        rcases hr with ⟨h', h⟩ | ⟨h', h⟩ <;> rw [h']
        · exact h
        · exact LeP.refl _
      rcases List.mem_cons.1 hx with rfl | hx
      · exact h0.trans ha
      · rcases List.mem_cons.1 hx with rfl | hx
        · exact h0.trans hb
        · exact hl _ (List.mem_cons_of_mem _ hx)

end Cert.Own
end
-- ==== Proof.RefSpan.lean ====
module

public import proofs.«01_k».proof.Proof.Argmin
public import proofs.«01_k».proof.Proof.Scal
public import Idealize.ShloMosaic.Lib.Routing.Ops

@[expose] public section

set_option maxRecDepth 16384

/-! # The reference's knots, spans and basis values, read at an index -/

noncomputable section

namespace Cert.Own

open Idealize.ShloMosaic Cert.ReferenceIdeal Cert.ReferenceIdeal.Facts₀

/-- An entry of the increments: one at the 125 middle positions. -/
theorem incr_read (k : Fin 132) : incr (ix1 k) = (((if 4 ≤ k.val ∧ k.val < 129 then 1 else 0 : ℕ) : ℝ) : EReal) := by
  pointwise [incr, incr0]
  by_cases h : k.val < 4
  · have h2 : ¬ (4 ≤ k.val ∧ k.val < 129) := by omega
    simp [h, h2]
  · by_cases h1 : k.val - 4 < 125
    · have h2 : (4 ≤ k.val ∧ k.val < 129) := by omega
      simp [h, h1, h2]
    · have h2 : ¬ (4 ≤ k.val ∧ k.val < 129) := by omega
      simp [h, h1, h2]

/-- A small word read signed. -/
theorem toInt_small {j : ℕ} (h : j < 2147483648) : (BitVec.ofNat 32 j).toInt = j := by
  have e := BitVec.toInt_eq_toNat_cond (BitVec.ofNat 32 j)
  rw [BitVec.toNat_ofNat, Nat.mod_eq_of_lt (by omega)] at e
  rw [e, if_pos (by omega)]

/-- A left fold of additions is a sum. -/
theorem foldl_add_sum {ι : Type} (g : ι → EReal) (l : List ι) : ∀ v : EReal, l.foldl (fun r n => r + g n) v = v + (l.map g).sum := by
  induction l with
  | nil => intro v; simp
  | cons a l ih => intro v; rw [List.foldl_cons, ih, List.map_cons, List.sum_cons, add_assoc]

/-- The middle increments up to a position, counted. -/
theorem count_incr : ∀ k : Fin 132, ∑ n : Fin 132, (if 131 ≤ k.val + n.val ∧ 4 ≤ k.val + n.val - 131 ∧ k.val + n.val - 131 < 129 then 1 else 0 : ℕ)
    = min (k.val - 3) 125 := by decide +kernel

/-- The running sum at a position. -/
theorem csum_read (k : Fin 132) : csum (ix1 k) = (((min (k.val - 3) 125 : ℕ) : ℝ) : EReal) := by
  unfold csum
  show Host.reduceWindow (α := EReal) (· + ·) ![132] ![1] ![131] ![0] incr _ reduceWindows_S132_S132_w132s1p131_0 h_S_ (ix1 k) = _
  unfold Host.reduceWindow
  dsimp only
  rw [foldl_add_sum]
  have h0 : (broadcastInDim S_ ![] bcast_S_S_ (constant (F := Ideal) S_ .f32 0x00000000#32)) (Shape.Idx.first h_S_) = (0 : EReal) := by
    show Ideal.ofBits .f32 0x00000000#32 = 0
    exact Ideal.ofBits_zero_f32
  rw [h0, zero_add, ← Fin.sum_univ_def, ← count_incr k]
  push_cast
  rw [← coe_sum]
  refine Fintype.sum_equiv (finCongr (Routing.numel1 132)) _ _ fun n => ?_
  have hw : ((⟨1, ![132]⟩ : Shape).rowMajor.symm n 0).val = n.val := by
    rw [show (⟨1, ![132]⟩ : Shape).rowMajor.symm n = ix1 (n.cast (Routing.numel1 132)) from Routing.symm1 n]; rfl
  have hn : n.val < 132 := (n.cast (Routing.numel1 132)).isLt
  have hk := k.isLt
  rw [show ((finCongr (Routing.numel1 132)) n).val = n.val from rfl]
  split
  · next hin =>
    have h := hin 0
    change 131 ≤ k.val * 1 + ((⟨1, ![132]⟩ : Shape).rowMajor.symm n 0).val
      ∧ k.val * 1 + ((⟨1, ![132]⟩ : Shape).rowMajor.symm n 0).val - 131 < 132 at h
    rw [hw] at h
    have e := incr_read ⟨k.val + n.val - 131, by omega⟩
    refine (congrArg incr (funext fun a => Fin.ext ?_)).trans (e.trans ?_)
    · match a with
      | ⟨0, _⟩ =>
        show k.val * 1 + ((⟨1, ![132]⟩ : Shape).rowMajor.symm n 0).val - 131 = k.val + n.val - 131
        rw [hw, mul_one]
    · by_cases hc : 4 ≤ k.val + n.val - 131 ∧ k.val + n.val - 131 < 129
      · have hc' : 131 ≤ k.val + n.val ∧ 4 ≤ k.val + n.val - 131 ∧ k.val + n.val - 131 < 129 := ⟨by omega, hc⟩
        rw [if_pos hc, if_pos hc']; norm_num
      · have hc' : ¬ (131 ≤ k.val + n.val ∧ 4 ≤ k.val + n.val - 131 ∧ k.val + n.val - 131 < 129) := fun h => hc h.2
        rw [if_neg hc, if_neg hc']; norm_num
  · next hin =>
    have hc' : ¬ (131 ≤ k.val + n.val ∧ 4 ≤ k.val + n.val - 131 ∧ k.val + n.val - 131 < 129) := fun h => hin fun a => by
      match a with
      | ⟨0, _⟩ =>
        show 131 ≤ k.val * 1 + ((⟨1, ![132]⟩ : Shape).rowMajor.symm n 0).val
          ∧ k.val * 1 + ((⟨1, ![132]⟩ : Shape).rowMajor.symm n 0).val - 131 < 132
        rw [hw]; omega
    rw [if_neg hc']
    exact EReal.coe_zero.symm

/-- A knot. -/
theorem knots_read (k : Fin 132) : knots (ix1 k) = kq (min (k.val - 3) 125) := by
  pointwise [knots, csumFirst, csumLast]
  rw [csum_read, csum_read, csum_read, kq]
  have e0 : min ((0 : Fin 132).val - 3) 125 = 0 := rfl
  have e1 : min ((131 : Fin 132).val - 3) 125 = 125 := rfl
  rw [e0, e1]
  generalize ((min (k.val - 3) 125 : ℕ) : ℝ) = r
  rw [← EReal.coe_sub, ← EReal.coe_sub]
  unfold Ideal.div
  rw [if_neg (by norm_cast), ← EReal.coe_inv, ← EReal.coe_mul]
  congr 1
  norm_num
  ring

/-- A masked distance. -/
theorem masked_read (t : FVec Ideal S1024 .f32) (j : Fin 126) (n : Fin 1024) : masked knots t (ix2 j n) = dist (t (ix1 n)) j.val := by
  have hk : knots (ix1 (⟨3 + j.val, by omega⟩ : Fin 132)) = kq j.val := by
    rw [knots_read]; congr 1; dsimp only; omega
  pointwise [masked, diffs, dist, thr, hk]

/-- The span of a real parameter of at most one. -/
theorem spanV_read (t : FVec Ideal S1024 .f32) (n : Fin 1024) (ht : IsR (t (ix1 n))) (h1 : t (ix1 n) ≤ 1) :
    spanV knots t (ix1 n) = BitVec.ofNat 32 (base (t (ix1 n)) + 3) := by
  have hb := base_le ht h1
  have key : (Host.argReduce (reducer_argmin_f32_i32 (F := Ideal)) (masked knots t) (iotaInDim S126x1024 32 0)
      (constant (F := Ideal) S_ .f32 0x7F800000#32) (constantI S_ 32 0#32) reducesTo_S126x1024_S1024_d0 h_S_ (ix1 n)).2
      = BitVec.ofNat 32 (base (t (ix1 n))) := by
    rw [Ideal.argReduce_eq_reduce2, Host.reduce2_eq_foldl_fiber]
    set L := Host.argReduceFiber (masked knots t) (iotaInDim S126x1024 32 0) reducesTo_S126x1024_S1024_d0 (ix1 n) with hL
    have hdrop : ∀ i : S126x1024.Idx, reducesTo_S126x1024_S1024_d0.drop i = ix1 (i 1) := fun i => by
      funext b; refine Fin.ext ?_
      match b with
      | ⟨0, _⟩ => rfl
    have hmem : ∀ x ∈ L, ∃ j : Fin 126, x = (dist (t (ix1 n)) j.val, BitVec.ofNat 32 j.val) := fun x hx => by
      rw [hL, Host.argReduceFiber, List.mem_map] at hx
      obtain ⟨k, hk, rfl⟩ := hx
      rw [List.mem_filter] at hk
      have hk' := of_decide_eq_true hk.2
      generalize S126x1024.rowMajor.symm k = i at hk' ⊢
      rw [hdrop] at hk'
      have e := congrFun hk' 0
      refine ⟨i 0, ?_⟩
      have hi : i = ix2 (i 0) n := by rw [eq_ix2 i]; exact congrArg _ e
      rw [hi]
      exact Prod.ext (masked_read t (i 0) n) rfl
    have hin : (dist (t (ix1 n)) (base (t (ix1 n))), BitVec.ofNat 32 (base (t (ix1 n)))) ∈ L := by
      rw [hL, Host.argReduceFiber, List.mem_map]
      refine ⟨S126x1024.rowMajor (ix2 (⟨base (t (ix1 n)), by omega⟩ : Fin 126) n), ?_, ?_⟩
      · rw [List.mem_filter]
        refine ⟨List.mem_finRange _, ?_⟩
        rw [Equiv.symm_apply_apply]
        exact decide_eq_true (hdrop _)
      · rw [Equiv.symm_apply_apply]
        exact Prod.ext (masked_read t _ n) rfl
    obtain ⟨hm, hle⟩ := foldl_reducer L ((constant (F := Ideal) S_ .f32 0x7F800000#32) (Shape.Idx.first h_S_), (constantI S_ 32 0#32) (Shape.Idx.first h_S_))
    generalize L.foldl (reducer_argmin_f32_i32 (F := Ideal)) _ = R at hm hle
    have hR := hle _ (List.mem_cons_of_mem _ hin)
    rcases List.mem_cons.1 hm with h | h
    · exfalso
      rw [h] at hR
      have htop : (constant (F := Ideal) S_ .f32 0x7F800000#32) (Shape.Idx.first h_S_) = (⊤ : EReal) := ofBits_inf
      rw [htop] at hR
      obtain ⟨d, hd⟩ := dist_real ht h1 (base (t (ix1 n)))
      rw [hd] at hR
      rcases hR with h' | ⟨h', -⟩
      · exact not_top_lt h'
      · exact absurd h'.symm (EReal.coe_ne_top d)
    · obtain ⟨j, rfl⟩ := hmem _ h
      have hj := j.isLt
      rcases dist_base ht h1 j.val with h' | ⟨h', h''⟩
      · exfalso
        rcases hR with h3 | ⟨h3, -⟩
        · exact lt_asymm h' h3
        · dsimp only at h3; rw [h3] at h'; exact lt_irrefl _ h'
      · rcases hR with h3 | ⟨h3, h4⟩
        · dsimp only at h3; rw [h'] at h3; exact absurd h3 (lt_irrefl _)
        · dsimp only at h4 ⊢
          have ej : (BitVec.ofNat 32 j.val).toInt = j.val := by
            exact toInt_small (by omega)
          have eb : (BitVec.ofNat 32 (base (t (ix1 n)))).toInt = base (t (ix1 n)) := by
            exact toInt_small (by omega)
          rw [ej, eb] at h4
          have hjb : j.val = base (t (ix1 n)) := by omega
          rw [hjb]
  unfold spanV
  rw [BitVec.ofNat_add]
  exact congrArg (· + 3#32) key

/-- The first direction's correction never applies. -/
theorem clampV_read (s : IVec S1024 32) (n : Fin 1024) (b : ℕ) (hb : b ≤ 124) (hs : s (ix1 n) = BitVec.ofNat 32 (b + 3)) :
    clampV s (ix1 n) = BitVec.ofNat 32 (b + 3) := by
  pointwise [clampV]
  rw [hs]
  have : ∀ b : Fin 125, Scalar.select (IntOp.cmpi .eq (BitVec.ofNat 32 (b.val + 3)) 1024#32) 1023#32 (BitVec.ofNat 32 (b.val + 3)) = BitVec.ofNat 32 (b.val + 3) := by
    decide +kernel
  exact this ⟨b, by omega⟩

/-- The positions of the six knots around a span. -/
theorem locIdx_read (s : IVec S1024 32) (n : Fin 1024) (b : ℕ) (hb : b ≤ 124) (hs : s (ix1 n) = BitVec.ofNat 32 (b + 3)) (d : Fin 6) :
    (locIdx s (ix3 d n 0)).toInt.toNat = b + 1 + d.val := by
  pointwise [locIdx, locRaw]
  rw [hs]
  have : ∀ (b : Fin 125) (d : Fin 6), (Scalar.select
      (IntOp.cmpi CmpIPredicate.slt (IntOp.addi (BitVec.ofNat 32 (b.val + 3)) (IntOp.addi (BitVec.ofNat 32 d.val) 4294967294#32)) 0#32)
      (IntOp.addi (IntOp.addi (BitVec.ofNat 32 (b.val + 3)) (IntOp.addi (BitVec.ofNat 32 d.val) 4294967294#32)) 132#32)
      (IntOp.addi (BitVec.ofNat 32 (b.val + 3)) (IntOp.addi (BitVec.ofNat 32 d.val) 4294967294#32))).toInt.toNat = b.val + 1 + d.val := by
    decide +kernel
  exact this ⟨b, by omega⟩ d

/-- The positions of the four control points of a span. -/
theorem winIdx_read (s : IVec S1024 32) (n : Fin 1024) (b : ℕ) (hb : b ≤ 124) (hs : s (ix1 n) = BitVec.ofNat 32 (b + 3)) (d : Fin 4) :
    (winIdx s (ix3 d n 0)).toInt.toNat = b + d.val := by
  pointwise [winIdx, winRaw]
  rw [hs]
  have : ∀ (b : Fin 125) (d : Fin 4), (Scalar.select (IntOp.cmpi CmpIPredicate.slt (IntOp.addi (IntOp.subi (BitVec.ofNat 32 (b.val + 3)) 3#32) (BitVec.ofNat 32 d.val)) 0#32)
      (IntOp.addi (IntOp.addi (IntOp.subi (BitVec.ofNat 32 (b.val + 3)) 3#32) (BitVec.ofNat 32 d.val)) 128#32)
      (IntOp.addi (IntOp.subi (BitVec.ofNat 32 (b.val + 3)) 3#32) (BitVec.ofNat 32 d.val))).toInt.toNat = b.val + d.val := by
    decide +kernel
  exact this ⟨b, by omega⟩ d

/-- A knot of the six around a span. -/
theorem locV_read (s : IVec S1024 32) (n : Fin 1024) (b : ℕ) (hb : b ≤ 124) (hs : s (ix1 n) = BitVec.ofNat 32 (b + 3)) (d : Fin 6) :
    locV knots s (ix2 d n) = kn b d.val := by
  have e := ValueIdx.gather_take_apply (N := 132) (R := 6) (C := 1024) (by decide) gather_S132_S6x1024x1_S6x1024_n_0_n_n_0_2_1_wf knots (locIdx s) (ix2 d n)
  refine (show locV knots s (ix2 d n) = _ from e).trans ?_
  have hi : (ValueIdx.takeIdx (ix2 d n) : S6x1024x1.Idx) = ix3 d n 0 := by
    funext a
    match a with
    | ⟨0, _⟩ => rfl
    | ⟨1, _⟩ => rfl
    | ⟨2, _⟩ => rfl
  refine (knots_read _).trans ?_
  have hd := d.isLt
  have h2 := locIdx_read s n b hb hs d
  rw [← hi] at h2
  unfold kn
  have h3 : min (min (locIdx s (ValueIdx.takeIdx (ix2 d n))).toInt.toNat (132 - 1) - 3) 125 = min (b + d.val - 2) 125 := by omega
  exact congrArg kq h3

end Cert.Own
end
-- ==== Proof.RefBas.lean ====
module

public import proofs.«01_k».proof.Proof.RefDefs
public import proofs.«01_k».proof.Proof.Scal

@[expose] public section

set_option maxRecDepth 16384

/-! # The reference's basis values, read at an index -/

noncomputable section

namespace Cert.Own

open Idealize.ShloMosaic Cert.ReferenceIdeal Cert.ReferenceIdeal.Facts₀

/-- Row 0 of the six knots, read at a parameter. -/
theorem row0_read (K : FVec Ideal S6x1024 .f32) (n : Fin 1024) : row0 K (ix1 n) = K (ix2 0 n) := by pointwise [row0]
/-- Row 1 of the six knots, read at a parameter. -/
theorem row1_read (K : FVec Ideal S6x1024 .f32) (n : Fin 1024) : row1 K (ix1 n) = K (ix2 1 n) := by pointwise [row1]
/-- Row 2 of the six knots, read at a parameter. -/
theorem row2_read (K : FVec Ideal S6x1024 .f32) (n : Fin 1024) : row2 K (ix1 n) = K (ix2 2 n) := by pointwise [row2]
/-- Row 3 of the six knots, read at a parameter. -/
theorem row3_read (K : FVec Ideal S6x1024 .f32) (n : Fin 1024) : row3 K (ix1 n) = K (ix2 3 n) := by pointwise [row3]
/-- Row 4 of the six knots, read at a parameter. -/
theorem row4_read (K : FVec Ideal S6x1024 .f32) (n : Fin 1024) : row4 K (ix1 n) = K (ix2 4 n) := by pointwise [row4]
/-- Row 5 of the six knots, read at a parameter. -/
theorem row5_read (K : FVec Ideal S6x1024 .f32) (n : Fin 1024) : row5 K (ix1 n) = K (ix2 5 n) := by pointwise [row5]
/-- The array of zeros reads zero. -/
theorem zeroV_read (n : Fin 1024) : zeroV (ix1 n) = 0 := by pointwise [zeroV]
/-- The array of ones reads one. -/
theorem oneV_read (n : Fin 1024) : oneV (ix1 n) = 1 := by pointwise [oneV]
/-- The recursion's quotient, read at a parameter. -/
theorem tmpV_read (N V1 V2 t : FVec Ideal S1024 .f32) (n : Fin 1024) :
    tmpV N V1 V2 t (ix1 n) = tmpS (N (ix1 n)) (V1 (ix1 n)) (V2 (ix1 n)) (t (ix1 n)) := by
  pointwise [tmpV, tmpS, eps4, zeroV]
/-- The left share of a quotient, read at a parameter. -/
theorem lV_read (V1 t q : FVec Ideal S1024 .f32) (n : Fin 1024) : lV V1 t q (ix1 n) = (V1 (ix1 n) - t (ix1 n)) * q (ix1 n) := by
  pointwise [lV]
/-- The right share of a quotient, read at a parameter. -/
theorem rV_read (V2 t q : FVec Ideal S1024 .f32) (n : Fin 1024) : rV V2 t q (ix1 n) = (t (ix1 n) - V2 (ix1 n)) * q (ix1 n) := by
  pointwise [rV]

set_option maxHeartbeats 1600000 in
/-- The reference's basis values are the scalar recursion's. -/
theorem basV_read (K : FVec Ideal S6x1024 .f32) (t : FVec Ideal S1024 .f32) (r : Fin 4) (n : Fin 1024) :
    basV K t (ix2 r n) = basS (K (ix2 0 n)) (K (ix2 1 n)) (K (ix2 2 n)) (K (ix2 3 n)) (K (ix2 4 n)) (K (ix2 5 n)) (t (ix1 n)) r := by
  pointwise [basV]
  fin_cases r <;>
  simp only [basS, lV_read, rV_read, tmpV_read, zeroV_read, oneV_read, row0_read, row1_read, row2_read, row3_read, row4_read, row5_read,
    ValueIdx.addf_apply] <;> rfl

end Cert.Own
end
-- ==== Proof.RefRead.lean ====
module

public import proofs.«01_k».proof.Proof.RefGather
public import proofs.«01_k».proof.Proof.RefSpan
public import proofs.«01_k».proof.Proof.RefBas
public import proofs.«01_k».proof.Proof.Rank

@[expose] public section

set_option maxRecDepth 16384

/-! # The reference's result, read at an index -/

noncomputable section

namespace Cert.Own

open Idealize.ShloMosaic Cert.ReferenceIdeal Cert.ReferenceIdeal.Facts₀

/-- The first direction's parameters as a function of the position. -/
def par (u : FVec Ideal S1024 .f32) : Fin 1024 → EReal := fun a => u (ix1 a)

/-- The sort's comparison is the order of the extended reals. -/
theorem comparator_eq (a b : EReal) : (comparator_f32_d0 (F := Ideal) a b == 1#1) = decide (a < b) := by
  have hs : ∀ x : EReal, Scalar.select (Ideal.cmp .oeq x (Ideal.ofBits .f32 0x00000000#32)) (Ideal.ofBits .f32 0x00000000#32) x = x := fun x => by
    by_cases h : x = 0 <;> simp [Ideal.cmp, Scalar.select, h]
  have hn : ∀ x y z : EReal, Scalar.select (Ideal.cmp .une x x) y z = z := fun x y z => by
    simp [Ideal.cmp, Scalar.select]
  show (Ideal.cmp .olt
    (Scalar.select (Ideal.cmp .une a a) _ (Scalar.select (Ideal.cmp .oeq a (Ideal.ofBits .f32 0x00000000#32)) (Ideal.ofBits .f32 0x00000000#32) a))
    (Scalar.select (Ideal.cmp .une b b) _ (Scalar.select (Ideal.cmp .oeq b (Ideal.ofBits .f32 0x00000000#32)) (Ideal.ofBits .f32 0x00000000#32) b)) == 1#1) = _
  rw [hn, hn, hs, hs]
  by_cases h : a < b <;> simp [Ideal.cmp, h]

/-- A sorted parameter. -/
theorem sorted_read (u : FVec Ideal S1024 .f32) (q : Fin 1024) : sorted u (ix1 q) = par u (srt (par u) q) := by
  have hal : ∀ k : Fin 1024, Shape.Idx.along (ix1 q : S1024.Idx) (0 : Fin 1) k = ix1 k := fun k => by
    funext a
    match a with
    | ⟨0, _⟩ => rfl
  unfold sorted Host.sort
  rw [dif_pos (show (0 : ℕ) < S1024.rank by decide)]
  have hb : (fun k k' : Fin 1024 => comparator_f32_d0 (F := Ideal) (u (Shape.Idx.along (ix1 q : S1024.Idx) (0 : Fin 1) k)) (u (Shape.Idx.along (ix1 q : S1024.Idx) (0 : Fin 1) k')) == 1#1)
      = fun a b => decide (par u a < par u b) := by
    funext a b
    rw [hal, hal, comparator_eq]; rfl
  show u (Shape.Idx.along (ix1 q : S1024.Idx) (0 : Fin 1) (sortedFrom (fun k k' : Fin 1024 => comparator_f32_d0 (F := Ideal) (u (Shape.Idx.along (ix1 q : S1024.Idx) (0 : Fin 1) k)) (u (Shape.Idx.along (ix1 q : S1024.Idx) (0 : Fin 1) k')) == 1#1) q)) = _
  rw [hb]
  exact congrArg u (hal _)

/-- The four-coordinate sum read at an index. -/
theorem surf4_read (P : FVec Ideal S128x128x4 .f32) (su sv : IVec S1024 32) (Nu Nv : FVec Ideal S4x1024 .f32) (n k : Fin 1024) (c : Fin 4)
    (bu bv : ℕ) (hu : bu ≤ 124) (hv : bv ≤ 124) (hsu : su (ix1 n) = BitVec.ofNat 32 (bu + 3)) (hsv : sv (ix1 k) = BitVec.ofNat 32 (bv + 3)) :
    surf4 P su sv Nu Nv (ix3 n k c) = surfS (fun i j => P (ix3 i j c)) bu bv hu hv (fun l => Nu (ix2 l n)) (fun r => Nv (ix2 r k)) := by
  have hz : (constant (F := Ideal) S_ .f32 0x00000000#32) (Shape.Idx.first h_S_) = (0 : EReal) := Ideal.ofBits_zero_f32
  unfold surf4
  show (constant (F := Ideal) S_ .f32 0x00000000#32) (Shape.Idx.first h_S_) + ∑ i ∈ Finset.univ.filter (fun i => reducesTo_S4x1024x4x1024x4_S1024x1024x4_d0_2.drop i = ix3 n k c), _ = _
  rw [hz, zero_add, sum02_apply]
  unfold surfS
  refine Finset.sum_congr rfl fun l _ => Finset.sum_congr rfl fun r _ => ?_
  have hg := (gather_line_apply gather_S4x1024x128x4_S4x1024x1_S4x1024x4x1024x4_014_2_n_n_2_2_4102414_wf
    (Host.gather gather_S128x128x4_S4x1024x1_S4x1024x128x4_23_0_n_n_0_2_11284 P (winIdx su)) (winIdx sv) l n r k c).trans
    (gather_plane_apply gather_S128x128x4_S4x1024x1_S4x1024x128x4_23_0_n_n_0_2_11284_wf P (winIdx su) l n _ c)
  have el := winIdx_read su n bu hu hsu l
  have er := winIdx_read sv k bv hv hsv r
  have hl := l.isLt
  have hr := r.isLt
  have h1 : (⟨min (winIdx su (ix3 l n 0)).toInt.toNat 127, by omega⟩ : Fin 128) = ⟨bu + l.val, by omega⟩ := Fin.ext (by dsimp only; omega)
  have h2 : (⟨min (winIdx sv (ix3 r k 0)).toInt.toNat 127, by omega⟩ : Fin 128) = ⟨bv + r.val, by omega⟩ := Fin.ext (by dsimp only; omega)
  rw [h1, h2] at hg
  rw [ValueIdx.mulf_apply, ValueIdx.mulf_apply]
  refine congrArg₂ (· * ·) (congrArg₂ (· * ·) ?_ hg) ?_
  · pointwise
  · pointwise

/-- The one-coordinate sum read at an index. -/
theorem surf1_read (P : FVec Ideal Cert.Pre_finite_nonvanishing.S128x128x1 .f32) (su sv : IVec S1024 32) (Nu Nv : FVec Ideal S4x1024 .f32) (n k : Fin 1024)
    (bu bv : ℕ) (hu : bu ≤ 124) (hv : bv ≤ 124) (hsu : su (ix1 n) = BitVec.ofNat 32 (bu + 3)) (hsv : sv (ix1 k) = BitVec.ofNat 32 (bv + 3)) :
    surf1 P su sv Nu Nv (ix3 n k 0) = surfS (fun i j => P (ix3 i j 0)) bu bv hu hv (fun l => Nu (ix2 l n)) (fun r => Nv (ix2 r k)) := by
  have hz : (constant (F := Ideal) S_ .f32 0x00000000#32) (Shape.Idx.first h_S_) = (0 : EReal) := Ideal.ofBits_zero_f32
  unfold surf1
  show (constant (F := Ideal) S_ .f32 0x00000000#32) (Shape.Idx.first h_S_) + ∑ i ∈ Finset.univ.filter (fun i => Cert.Pre_finite_nonvanishing.Facts.reducesTo_S4x1024x4x1024x1_S1024x1024x1_d0_2.drop i = ix3 n k 0), _ = _
  rw [hz, zero_add, sum02_apply]
  unfold surfS
  refine Finset.sum_congr rfl fun l _ => Finset.sum_congr rfl fun r _ => ?_
  have hg := (gather_line_apply Cert.Pre_finite_nonvanishing.Facts.gather_S4x1024x128x1_S4x1024x1_S4x1024x4x1024x1_014_2_n_n_2_2_4102411_wf
    (Host.gather Cert.Pre_finite_nonvanishing.gather_S128x128x1_S4x1024x1_S4x1024x128x1_23_0_n_n_0_2_11281 P (winIdx su)) (winIdx sv) l n r k 0).trans
    (gather_plane_apply Cert.Pre_finite_nonvanishing.Facts.gather_S128x128x1_S4x1024x1_S4x1024x128x1_23_0_n_n_0_2_11281_wf P (winIdx su) l n _ 0)
  have el := winIdx_read su n bu hu hsu l
  have er := winIdx_read sv k bv hv hsv r
  have hl := l.isLt
  have hr := r.isLt
  have h1 : (⟨min (winIdx su (ix3 l n 0)).toInt.toNat 127, by omega⟩ : Fin 128) = ⟨bu + l.val, by omega⟩ := Fin.ext (by dsimp only; omega)
  have h2 : (⟨min (winIdx sv (ix3 r k 0)).toInt.toNat 127, by omega⟩ : Fin 128) = ⟨bv + r.val, by omega⟩ := Fin.ext (by dsimp only; omega)
  rw [h1, h2] at hg
  rw [ValueIdx.mulf_apply, ValueIdx.mulf_apply]
  refine congrArg₂ (· * ·) (congrArg₂ (· * ·) ?_ hg) ?_
  · pointwise
  · pointwise

/-- A homogeneous coordinate of a control point. -/
def ctl (p : FVec Ideal S1x128x128x3 .f32) (w : FVec Ideal S1x128x128x1 .f32) (c : Fin 4) (i j : Fin 128) : EReal :=
  if h : c.val < 3 then p (ix4 0 i j ⟨c.val, h⟩) * w (ix4 0 i j 0) else w (ix4 0 i j 0)

/-- The homogeneous control points, read at an index: the weighted coordinate, or the weight itself in the last
    place. -/
theorem ctrlV_read (p : FVec Ideal S1x128x128x3 .f32) (w : FVec Ideal S1x128x128x1 .f32) (i j : Fin 128) (c : Fin 4) :
    ctrlV p w (ix3 i j c) = ctl p w c i j := by
  pointwise [ctrlV, ctl]
  split
  · rfl
  · exact congrArg w (congrArg (ix4 0 i j) (Subsingleton.elim _ _))

/-- A basis value at the span of a real parameter of at most one is the scalar one. -/
theorem bas_read (s : IVec S1024 32) (t : FVec Ideal S1024 .f32) (n : Fin 1024) (ht : IsR (t (ix1 n))) (h1 : t (ix1 n) ≤ 1)
    (hs : s (ix1 n) = BitVec.ofNat 32 (base (t (ix1 n)) + 3)) (l : Fin 4) : basV (locV knots s) t (ix2 l n) = bas (t (ix1 n)) l := by
  have hb := base_le ht h1
  rw [basV_read]
  unfold bas
  rw [locV_read s n _ hb hs 0, locV_read s n _ hb hs 1, locV_read s n _ hb hs 2, locV_read s n _ hb hs 3, locV_read s n _ hb hs 4,
    locV_read s n _ hb hs 5]
  rfl

/-- The homogeneous coordinate of a surface point over two parameters. -/
def pt (f : Fin 128 → Fin 128 → EReal) (a b : EReal) (ha : base a ≤ 124) (hb : base b ≤ 124) : EReal :=
  surfS f (base a) (base b) ha hb (bas a) (bas b)

/-- The reference's result at an index: the quotient of two homogeneous coordinates. -/
theorem refV_read (p : FVec Ideal S1x128x128x3 .f32) (w : FVec Ideal S1x128x128x1 .f32) (u v : FVec Ideal S1024 .f32)
    (hu : ∀ a, IsR (par u a)) (hu1 : ∀ a, par u a ≤ 1) (hv : ∀ a, IsR (par v a)) (hv1 : ∀ a, par v a ≤ 1) (i j : Fin 1024) (c : Fin 3) :
    refV p w u v (ix4 0 i j c) = Ideal.div
      (pt (ctl p w c.castSucc) (par u (srt (par u) i)) (par v j) (base_le (hu _) (hu1 _)) (base_le (hv _) (hv1 _)))
      (pt (ctl p w 3) (par u (srt (par u) i)) (par v j) (base_le (hu _) (hu1 _)) (base_le (hv _) (hv1 _))) := by
  have hsr : sorted u (ix1 i) = par u (srt (par u) i) := sorted_read u i
  have h1 : IsR (sorted u (ix1 i)) := hsr ▸ hu _
  have h2 : sorted u (ix1 i) ≤ 1 := hsr ▸ hu1 _
  have hsu := clampV_read _ i _ (base_le h1 h2) (spanV_read (sorted u) i h1 h2)
  have hsv := spanV_read v j (hv j) (hv1 j)
  pointwise [refV, projV]
  rw [surf4_read _ _ _ _ _ i j _ _ _ (base_le h1 h2) (base_le (hv j) (hv1 j)) hsu hsv,
    surf4_read _ _ _ _ _ i j _ _ _ (base_le h1 h2) (base_le (hv j) (hv1 j)) hsu hsv]
  simp only [ctrlV_read, bas_read _ (sorted u) i h1 h2 hsu, bas_read _ v j (hv j) (hv1 j) hsv, hsr]
  rfl

/-- The precondition's weight surface at an index. -/
theorem wsurf_read (p : FVec Ideal S1x128x128x3 .f32) (w : FVec Ideal S1x128x128x1 .f32) (u v : FVec Ideal S1024 .f32)
    (hu : ∀ a, IsR (par u a)) (hu1 : ∀ a, par u a ≤ 1) (hv : ∀ a, IsR (par v a)) (hv1 : ∀ a, par v a ≤ 1) (i j : Fin 1024) :
    wsurf w u v (ix3 i j 0)
      = pt (ctl p w 3) (par u (srt (par u) i)) (par v j) (base_le (hu _) (hu1 _)) (base_le (hv _) (hv1 _)) := by
  have hsr : sorted u (ix1 i) = par u (srt (par u) i) := sorted_read u i
  have h1 : IsR (sorted u (ix1 i)) := hsr ▸ hu _
  have h2 : sorted u (ix1 i) ≤ 1 := hsr ▸ hu1 _
  have hsu := clampV_read _ i _ (base_le h1 h2) (spanV_read (sorted u) i h1 h2)
  have hsv := spanV_read v j (hv j) (hv1 j)
  have hw : ∀ a b : Fin 128, (shapeCast Cert.Pre_finite_nonvanishing.S128x128x1 w Cert.Pre_finite_nonvanishing.Facts.shapeCasts_S1x128x128x1_S128x128x1) (ix3 a b 0) = ctl p w 3 a b := fun a b => by
    pointwise [ctl]
  unfold wsurf
  rw [surf1_read _ _ _ _ _ i j _ _ (base_le h1 h2) (base_le (hv j) (hv1 j)) hsu hsv]
  simp only [hw, bas_read _ (sorted u) i h1 h2 hsu, bas_read _ v j (hv j) (hv1 j) hsv, hsr]
  rfl

end Cert.Own
end
-- ==== Proof.KerPt.lean ====
module

public import proofs.«01_k».proof.Proof.KerBlk
public import proofs.«01_k».proof.Proof.KerMatU
public import proofs.«01_k».proof.Proof.KerMatV
public import proofs.«01_k».proof.Proof.KerRank
public import proofs.«01_k».proof.Proof.RefRead

@[expose] public section

set_option maxRecDepth 16384

/-! # A point of the kernel's result is the reference's -/

noncomputable section

namespace Cert.Own

open Idealize.ShloMosaic Cert.KernelIdeal Cert.KernelIdeal.Gen

/-- The contraction with the second direction's matrix. -/
theorem kT_read (C : FVec Ideal S128x128 .f32) (v : FVec Ideal S1x1024 .f32) (x : Fin 128) (k : Fin 1024) (hv : IsR (v (ix2 0 k)))
    (h1 : v (ix2 0 k) ≤ 1) :
    kT C v (ix2 x k) = ∑ y : Fin 128, C (ix2 x y) * band (base (v (ix2 0 k))) (bas (v (ix2 0 k))) y := by
  pointwise [kT]
  exact Finset.sum_congr rfl fun y _ => congrArg _ (kMatx1024_read v y k hv h1)

/-- One homogeneous coordinate of a tile at a point. -/
theorem rcF_read (i : grid0.Coords) (rk : IVec S1024x1 32) (q : FVec Ideal S1024x1 .f32) (p : FVec Ideal S128x384 .f32) (w : FVec Ideal S128x128 .f32)
    (v : FVec Ideal S1x1024 .f32) (g : Fin 4) (n : Fin 256) (k : Fin 1024) (f : Fin 128 → Fin 128 → EReal) (a b : EReal)
    (hf : ∀ x y, IsR (f x y)) (hC : ∀ x y, kC g p w (ix2 x y) = f x y) (ha : kU i rk q (ix2 0 n) = a) (hb : v (ix2 0 k) = b)
    (har : IsR a) (ha1 : a ≤ 1) (hbr : IsR b) (hb1 : b ≤ 1) :
    rcF i rk q p w v g (ix2 n k) = pt f a b (base_le har ha1) (base_le hbr hb1) := by
  subst ha
  subst hb
  have hT : ∀ x, kT (kC g p w) v (ix2 x k) = ∑ y : Fin 128, f x y * band (base (v (ix2 0 k))) (bas (v (ix2 0 k))) y := fun x => by
    rw [kT_read _ v x k hbr hb1]
    simp only [hC]
  have hTr : ∀ x, IsR (kT (kC g p w) v (ix2 x k)) := fun x => by
    rw [hT]
    exact IsR.sum _ fun y => (hf x y).mul (band_real _ (bas_real hbr) y)
  pointwise [rcF, kRc, hiF, loF]
  simp only [fun x => (hTr x).sub_self, mul_zero, Finset.sum_const_zero, add_zero]
  simp only [hT, fun x => kMatx256_read (kU i rk q) x n har ha1]
  exact sum_bands f _ _ (base_le har ha1) (base_le hbr hb1) hf (bas_real har) (bas_real hbr)

/-- A quotient as the product with the reciprocal. -/
theorem mul_recip (x y : EReal) (h : y ≠ 0) : x * Ideal.div 1 y = Ideal.div x y := by
  unfold Ideal.div
  rw [if_neg h, if_neg h, one_mul]

/-- A point of a tile is the reference's result there. -/
theorem out_point (p : FVec Ideal Cert.ReferenceIdeal.S1x128x128x3 .f32) (w : FVec Ideal Cert.ReferenceIdeal.S1x128x128x1 .f32)
    (u v : FVec Ideal Cert.ReferenceIdeal.S1024 .f32) (hp : ∀ i, IsR (p i)) (hw : ∀ i, IsR (w i))
    (hu : ∀ i, IsR (u i)) (hv : ∀ i, IsR (v i)) (hu1 : ∀ i, u i ≤ 1) (hv1 : ∀ i, v i ≤ 1) (hne : ∀ i, wsurf w u v i ≠ 0)
    (P : FVec Ideal S128x384 .f32) (W : FVec Ideal S128x128 .f32) (R : FVec Ideal S1x1024 .f32) (Q : FVec Ideal S1024x1 .f32) (T : FVec Ideal S1x1024 .f32)
    (hP : ∀ (a b : Fin 128) (c : Fin 3), P (ix2 a ⟨3 * b.val + c.val, by omega⟩) = p (ix4 0 a b c)) (hPr : ∀ i, IsR (P i))
    (hW : ∀ a b, W (ix2 a b) = w (ix4 0 a b 0)) (hR : ∀ a, R (ix2 0 a) = par u a) (hQ : ∀ a, Q (ix2 a 0) = par u a)
    (hT : ∀ a, T (ix2 0 a) = par v a) (i : grid0.Coords) (n : Fin 256) (k : Fin 1024) (g : Fin 3) (j : Fin 1024)
    (hj : j.val = 256 * (i 0).val + n.val) :
    outF i (kRank R Q) Q P W T g (ix2 n k) = refV p w u v (ix4 0 j k g) := by
  have hC : ∀ (c : Fin 4) (x y : Fin 128), kC c P W (ix2 x y) = ctl p w c x y := fun c x y => by
    have h3 : ∀ c : Fin 3, kCtrl (BitVec.ofNat 32 c.val) P W (ix2 x y) = ctl p w c.castSucc x y := fun c => by
      rw [kCtrl_read c P W (fun a b => hPr _) x y, hP, hW]
      unfold ctl
      rw [dif_pos (show c.castSucc.val < 3 from c.isLt)]
      rfl
    match c with
    | 0 => exact h3 0
    | 1 => exact h3 1
    | 2 => exact h3 2
    | 3 =>
      refine Eq.trans ?_ (hW x y)
      show shapeCast S128x128 W _ (ix2 x y) = _
      pointwise
  have hf : ∀ (c : Fin 4) (x y : Fin 128), IsR (ctl p w c x y) := fun c x y => by
    unfold ctl
    split
    · exact (hp _).mul (hw _)
    · exact hw _
  have hU := kU_read (par u) i (kRank R Q) Q (kRank_read (par u) R Q hR hQ) hQ n j hj
  have hr := fun c => rcF_read i (kRank R Q) Q P W T c n k (ctl p w c) _ _ (hf c) (hC c) hU (hT k) (hu _) (hu1 _) (hv _) (hv1 _)
  have hz := hne (ix3 j k 0)
  rw [wsurf_read p w u v (fun _ => hu _) (fun _ => hu1 _) (fun _ => hv _) (fun _ => hv1 _) j k] at hz
  rw [refV_read p w u v (fun _ => hu _) (fun _ => hu1 _) (fun _ => hv _) (fun _ => hv1 _) j k g]
  pointwise [outF]
  rw [hr, hr]
  exact mul_recip _ _ hz

end Cert.Own
end
-- ==== Proof.KerArr.lean ====
module

public import proofs.«01_k».proof.Proof.KerBlk

@[expose] public section

set_option maxRecDepth 16384

/-! # The kernel's blocks, and what its scratch holds at every point -/

noncomputable section

namespace Cert.Own

open Idealize.ShloMosaic Idealize.ShloMosaic.TcCoe Cert.KernelIdeal Cert.KernelIdeal.Gen

variable (m : (ℓ : Loc nD τ sig) → Buf (Elt Ideal) ℓ)

/-- The control points as rows. -/
def aP (c : Dev nD) : FVec Ideal S128x384 .f32 := shapeCast S128x384 (m ((c : Thread nD τ).loc main_arg0)) shapeCasts_S1x128x128x3_S128x384
/-- The weights as rows. -/
def aW (c : Dev nD) : FVec Ideal S128x128 .f32 := shapeCast S128x128 (m ((c : Thread nD τ).loc main_arg1)) shapeCasts_S1x128x128x1_S128x128
/-- The first direction's parameters as a row. -/
def aR (c : Dev nD) : FVec Ideal S1x1024 .f32 := broadcastInDim S1x1024 ![1] bcast_S1024_S1x1024_1 (m ((c : Thread nD τ).loc main_arg2))
/-- The first direction's parameters as a column. -/
def aQ (c : Dev nD) : FVec Ideal S1024x1 .f32 := broadcastInDim S1024x1 ![0] bcast_S1024_S1024x1_0 (m ((c : Thread nD τ).loc main_arg2))
/-- The second direction's parameters as a row. -/
def aT (c : Dev nD) : FVec Ideal S1x1024 .f32 := broadcastInDim S1x1024 ![1] bcast_S1024_S1x1024_1 (m ((c : Thread nD τ).loc main_arg3))

/-- The five input windows stay at block zero through the whole grid, and the output's takes the block of the grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, t.val, 0] ∧ (grid0.coords t 0).val = t.val :=
  (by decide +kernel : ∀ t : Fin grid0.N, _)

/-- The block of control points at every grid point is the whole array. -/
theorem blk0 (c : Dev nD) (t : Fin cfg0.N) : iblk m c 0 t = aP m c := by
  funext x
  blk_simp [iblk, idx t]
  entry_read
  unfold aP
  blk_ext [idx t]
/-- The block of weights at every grid point is the whole array. -/
theorem blk1 (c : Dev nD) (t : Fin cfg0.N) : iblk m c 1 t = aW m c := by
  funext x
  blk_simp [iblk, idx t]
  entry_read
  unfold aW
  blk_ext [idx t]
/-- The block of first parameters, as a row, is the whole row at every grid point. -/
theorem blk2 (c : Dev nD) (t : Fin cfg0.N) : iblk m c 2 t = aR m c := by
  funext x
  blk_simp [iblk, idx t]
  entry_read
  unfold aR
  blk_ext [idx t]
/-- The block of first parameters, as a column, is the whole column at every grid point. -/
theorem blk3 (c : Dev nD) (t : Fin cfg0.N) : iblk m c 3 t = aQ m c := by
  funext x
  blk_simp [iblk, idx t]
  entry_read
  unfold aQ
  blk_ext [idx t]
/-- The block of second parameters is the whole row at every grid point. -/
theorem blk4 (c : Dev nD) (t : Fin cfg0.N) : iblk m c 4 t = aT m c := by
  funext x
  blk_simp [iblk, idx t]
  entry_read
  unfold aT
  blk_ext [idx t]

/-- What the scratch holds after every point: what the first point computed. -/
theorem carry (c : Dev nD) : ∀ (n : ℕ) (hn : n < cfg0.N), (outsAt0 m c n hn).2.1 = kRank (aR m c) (aQ m c)
    ∧ (outsAt0 m c n hn).2.2.1 = stackAlong0 (hiF (aP m c) (aW m c) (aT m c))
    ∧ (outsAt0 m c n hn).2.2.2 = stackAlong0 (loF (aP m c) (aW m c) (aT m c)) := by
  intro n
  induction n with
  | zero =>
    intro hn
    have h := rank_A m c ⟨0, hn⟩ rfl
    have h1 := thi_A m c ⟨0, hn⟩ rfl
    have h2 := tlo_A m c ⟨0, hn⟩ rfl
    rw [blk2, blk3] at h
    rw [blk0, blk1, blk4] at h1 h2
    exact ⟨h, h1, h2⟩
  | succ n ih =>
    intro hn
    have hN : cfg0.N = 4 := N_0
    obtain ⟨e0, e1, e2⟩ := ih (by omega)
    have ht : ¬ (⟨n + 1, hn⟩ : Fin cfg0.N).val % 4 = 0 := by dsimp only; omega
    have hB := outsAt0_B m c ⟨n + 1, hn⟩ ht
    dsimp only at hB
    rw [hB]
    clear hB ih
    refine ⟨?_, ?_, ?_⟩
    · frame_out
      exact e0
    · frame_out
      exact e1
    · frame_out
      exact e2

/-- The output block after every point. -/
theorem out_all (c : Dev nD) (t : Fin cfg0.N) :
    (outsAt0 m c t.val t.isLt).1 = stackAlong0 (outF (grid0.coords t) (kRank (aR m c) (aQ m c)) (aQ m c) (aP m c) (aW m c) (aT m c)) := by
  by_cases ht : t.val % 4 = 0
  · have h := out_A m c t ht
    rw [blk0, blk1, blk2, blk3, blk4] at h
    exact h
  · obtain ⟨e0, e1, e2⟩ := carry m c (t.val - 1) (Nat.lt_of_le_of_lt (Nat.sub_le _ _) t.isLt)
    have h := out_B m c t ht _ _ _ _ e0 e1 e2
    rw [blk3] at h
    exact h

/-- The kernel's output array after the run, from what every point of a tile is. -/
theorem final (c : Dev nD) (G : FVec Ideal S1x1024x1024x3 .f32)
    (hG : ∀ (i : grid0.Coords) (n : Fin 256) (k : Fin 1024) (g : Fin 3) (j : Fin 1024), j.val = 256 * (i 0).val + n.val →
      outF i (kRank (aR m c) (aQ m c)) (aQ m c) (aP m c) (aW m c) (aT m c) g (ix2 n k) = G (ix4 0 j k g)) :
    (dats m 0 c).arrAt 5 (cfgs 0).N = (fun j => G (ix4 0 (j 1) (j 2) (j 0)) : FVec Ideal S3x1024x1024 .f32) := by
  refine (dats m 0 c).arrAt_eq_of_covers 5 _ (by decide +kernel) fun t _ y => ?_
  blk_simp [idx t]
  rw [after0_5, out_all]
  have hN : t.val < 4 := Nat.lt_of_lt_of_eq t.isLt N_0
  have hc := (idx t).2.2.2.2.2.2
  have hi := (idx t).2.2.2.2.2.1
  have h1 : (y 1).val < 256 := (y 1).isLt
  refine Eq.trans ?_ ((hG (grid0.coords t) (y 1) (y 2) (y 0) ⟨256 * t.val + (y 1).val, by omega⟩ (by rw [hc])).trans (congrArg G ?_))
  · show outF _ _ _ _ _ _ (y 0) _ = _
    congr 1
    funext a
    match a with
    | 0 => rfl
    | 1 => rfl
  · blk_ext [idx t]

/-- Moving the coordinates last and putting the leading axis back. -/
theorem tail_read (G : FVec Ideal S1x1024x1024x3 .f32) :
    broadcastInDim S1x1024x1024x3 ![1, 2, 3] bcast_S1024x1024x3_S1x1024x1024x3_1_2_3
      (transpose S1024x1024x3 [1, 2, 0] (fun j => G (ix4 0 (j 1) (j 2) (j 0)) : FVec Ideal S3x1024x1024 .f32)
        transposes_S3x1024x1024_S1024x1024x3_1_2_0) = G := by
  have key : ∀ (a b : Fin 1024) (d : Fin 3), broadcastInDim S1x1024x1024x3 ![1, 2, 3] bcast_S1024x1024x3_S1x1024x1024x3_1_2_3
      (transpose S1024x1024x3 [1, 2, 0] (fun j => G (ix4 0 (j 1) (j 2) (j 0)) : FVec Ideal S3x1024x1024 .f32)
        transposes_S3x1024x1024_S1024x1024x3_1_2_0) (ix4 0 a b d) = G (ix4 0 a b d) := fun a b d => by
    pointwise
  funext j
  have hj : j = ix4 0 (j 1) (j 2) (j 3) := (eq_ix4 j).trans (congrArg (fun z => ix4 z (j 1) (j 2) (j 3)) (Subsingleton.elim (α := Fin 1) _ _))
  rw [hj]
  exact key _ _ _

/-- The kernel's result. -/
theorem tail (c : Dev nD) (G : FVec Ideal S1x1024x1024x3 .f32)
    (h : (dats m 0 c).arrAt 5 (cfgs 0).N = (fun j => G (ix4 0 (j 1) (j 2) (j 0)) : FVec Ideal S3x1024x1024 .f32)) :
    Pipeline.afterTail₀ cfgs (dats m) 0 (V0 m) [hostOps1] c main_v7 = G := by
  unfold Pipeline.afterTail₀
  rw [show ([hostOps1] : List (List (HloOp τ sig (Elt Ideal)))).flatten = hostOps1 from rfl]
  unfold hostOps1
  after_results
  rw [show (Pipeline.withArrays (cfgs 0).spec c (V0 m c) fun w => (dats m 0 c).arrAt w (cfgs 0).N) (Proc.devRef .tc main_v5) = _ from
    (Pipeline.withArrays_arr (cfgs 0).spec launch0.win.arr_inj c (V0 m c) (fun w => (dats m 0 c).arrAt w (cfgs 0).N) 5).trans h]
  exact tail_read G

end Cert.Own
end
-- ==== Proof.PreRead.lean ====
module

public import Idealize.ShloMosaic.Lib.ReduceAll
public import proofs.«01_k».proof.Proof.RefDefs
public import proofs.«01_k».proof.Proof.Scal

@[expose] public section

set_option maxRecDepth 65536

/-! # What the precondition says -/

noncomputable section

namespace Cert.Own

open Idealize.ShloMosaic Cert.Pre_finite_nonvanishing Cert.Pre_finite_nonvanishing.Facts

/-- The precondition's conjunction, over the reference's own weight surface. -/
def preV (p : FVec Ideal S1x128x128x3 .f32) (w : FVec Ideal S1x128x128x1 .f32) (u v : FVec Ideal S1024 .f32) : IVec S_ 1 :=
  andi (andi (andi (andi (andi (andi
    (Host.reduce IntOp.andi (cmpf .olt (Host.absf p) (broadcastInDim S1x128x128x3 ![] bcast_S_S1x128x128x3 (constant (F := Ideal) S_ .f32 0x7F800000#32)))
      (constantI S_ 1 1#1) reducesTo_S1x128x128x3_S_d0_1_2_3 h_S_)
    (Host.reduce IntOp.andi (cmpf .olt (Host.absf w) (broadcastInDim S1x128x128x1 ![] bcast_S_S1x128x128x1 (constant (F := Ideal) S_ .f32 0x7F800000#32)))
      (constantI S_ 1 1#1) reducesTo_S1x128x128x1_S_d0_1_2_3 h_S_))
    (Host.reduce IntOp.andi (cmpf .olt (Host.absf u) (broadcastInDim S1024 ![] bcast_S_S1024 (constant (F := Ideal) S_ .f32 0x7F800000#32)))
      (constantI S_ 1 1#1) reducesTo_S1024_S_d0 h_S_))
    (Host.reduce IntOp.andi (cmpf .olt (Host.absf v) (broadcastInDim S1024 ![] bcast_S_S1024 (constant (F := Ideal) S_ .f32 0x7F800000#32)))
      (constantI S_ 1 1#1) reducesTo_S1024_S_d0 h_S_))
    (Host.reduce IntOp.andi (cmpf .ole u (broadcastInDim S1024 ![] bcast_S_S1024 (constant (F := Ideal) S_ .f32 0x3F800000#32)))
      (constantI S_ 1 1#1) reducesTo_S1024_S_d0 h_S_))
    (Host.reduce IntOp.andi (cmpf .ole v (broadcastInDim S1024 ![] bcast_S_S1024 (constant (F := Ideal) S_ .f32 0x3F800000#32)))
      (constantI S_ 1 1#1) reducesTo_S1024_S_d0 h_S_))
    (Host.reduce IntOp.andi (cmpf .une (wsurf w u v) (broadcastInDim S1024x1024x1 ![] bcast_S_S1024x1024x1 (constant (F := Ideal) S_ .f32 0x00000000#32)))
      (constantI S_ 1 1#1) reducesTo_S1024x1024x1_S_d0_1_2 h_S_)

set_option maxHeartbeats 4000000 in
/-- The printed precondition is that conjunction. -/
theorem fn_eq (p : FVec Ideal S1x128x128x3 .f32) (w : FVec Ideal S1x128x128x1 .f32) (u v : FVec Ideal S1024 .f32) :
    fn (F := Ideal) p w u v = preV p w u v := rfl

/-- What the precondition's conjunction says: all four arguments real, both directions' parameters at most one, and
    the weight surface nowhere zero. -/
theorem pre_read (p : FVec Ideal S1x128x128x3 .f32) (w : FVec Ideal S1x128x128x1 .f32) (u v : FVec Ideal S1024 .f32)
    (h : preV p w u v = fun _ => 1#1) :
    (∀ i, IsR (p i)) ∧ (∀ i, IsR (w i)) ∧ (∀ i, IsR (u i)) ∧ (∀ i, IsR (v i)) ∧ (∀ i, u i ≤ 1) ∧ (∀ i, v i ≤ 1) ∧ (∀ i, wsurf w u v i ≠ 0) := by
  haveI : Subsingleton S_.Idx := ⟨fun a b => funext fun k => k.elim0⟩
  have h0 := congrFun h (fun k => k.elim0)
  unfold preV at h0
  obtain ⟨h1, e7⟩ := IntOp.andi_eq_one.1 h0
  obtain ⟨h2, e6⟩ := IntOp.andi_eq_one.1 h1
  obtain ⟨h3, e5⟩ := IntOp.andi_eq_one.1 h2
  obtain ⟨h4, e4⟩ := IntOp.andi_eq_one.1 h3
  obtain ⟨h5, e3⟩ := IntOp.andi_eq_one.1 h4
  obtain ⟨e1, e2⟩ := IntOp.andi_eq_one.1 h5
  have fin : ∀ x : EReal, Ideal.cmp .olt (max x (-x)) (Ideal.ofBits .f32 0x7F800000#32) = 1#1 → IsR x := fun x hx => by
    rw [ofBits_inf] at hx
    refine IsR.of_abs ?_
    by_contra hn
    simp [Ideal.cmp, hn] at hx
  have le1 : ∀ x : EReal, Ideal.cmp .ole x (Ideal.ofBits .f32 0x3F800000#32) = 1#1 → x ≤ 1 := fun x hx => by
    rw [Ideal.ofBits_one_f32] at hx
    by_contra hn
    simp [Ideal.cmp, hn] at hx
  have ne0 : ∀ x : EReal, Ideal.cmp .une x (Ideal.ofBits .f32 0x00000000#32) = 1#1 → x ≠ 0 := fun x hx hn => by
    rw [Ideal.ofBits_zero_f32] at hx
    simp [Ideal.cmp, hn] at hx
  exact ⟨fun i => fin _ (Host.reduce_andi_all _ _ _ _ _ e1 i), fun i => fin _ (Host.reduce_andi_all _ _ _ _ _ e2 i),
    fun i => fin _ (Host.reduce_andi_all _ _ _ _ _ e3 i), fun i => fin _ (Host.reduce_andi_all _ _ _ _ _ e4 i),
    fun i => le1 _ (Host.reduce_andi_all _ _ _ _ _ e5 i), fun i => le1 _ (Host.reduce_andi_all _ _ _ _ _ e6 i),
    fun i => ne0 _ (Host.reduce_andi_all _ _ _ _ _ e7 i)⟩

end Cert.Own
end
-- ==== Proof.Final.lean ====
module

public import proofs.«01_k».proof.Proof.KerPt
public import proofs.«01_k».proof.Proof.KerArr
public import proofs.«01_k».proof.Proof.PreRead

@[expose] public section

set_option maxRecDepth 16384

/-! # The kernel's result is the reference's function of the arguments -/

noncomputable section

namespace Cert.Own

open Idealize.ShloMosaic Idealize.ShloMosaic.TcCoe Cert.KernelIdeal Cert.KernelIdeal.Gen

variable (m : (ℓ : Loc nD τ sig) → Buf (Elt Ideal) ℓ)

/-- The control points as rows, at an entry. -/
theorem rowsP (p : FVec Ideal S1x128x128x3 .f32) (a b : Fin 128) (d : Fin 3) :
    shapeCast S128x384 p shapeCasts_S1x128x128x3_S128x384 (ix2 a ⟨3 * b.val + d.val, by omega⟩) = p (ix4 0 a b d) := by
  have key : ∀ e : Fin 384, shapeCast S128x384 p shapeCasts_S1x128x128x3_S128x384 (ix2 a e)
      = p (ix4 0 a ⟨e.val / 3, by omega⟩ ⟨e.val % 3, by omega⟩) := fun e => by
    pointwise
  rw [key]
  congr 2
  · exact Fin.ext (by dsimp only; omega)
  · exact Fin.ext (by dsimp only; omega)
/-- The weights as rows, at an entry. -/
theorem rowsW (w : FVec Ideal S1x128x128x1 .f32) (a b : Fin 128) :
    shapeCast S128x128 w shapeCasts_S1x128x128x1_S128x128 (ix2 a b) = w (ix4 0 a b 0) := by
  pointwise
/-- A vector as a row, at an entry. -/
theorem rowV (u : FVec Ideal S1024 .f32) (a : Fin 1024) : broadcastInDim S1x1024 ![1] bcast_S1024_S1x1024_1 u (ix2 0 a) = par u a := by
  pointwise [par]
/-- A vector as a column, at an entry. -/
theorem colV (u : FVec Ideal S1024 .f32) (a : Fin 1024) : broadcastInDim S1024x1 ![0] bcast_S1024_S1024x1_0 u (ix2 a 0) = par u a := by
  pointwise [par]

/-- Under the precondition the kernel leaves the reference's function of its arguments in its result. -/
theorem kernel_result (c : Dev nD)
    (h : Cert.Pre_finite_nonvanishing.fn (F := Ideal) (m ((c : Thread nD τ).loc main_arg0)) (m ((c : Thread nD τ).loc main_arg1))
      (m ((c : Thread nD τ).loc main_arg2)) (m ((c : Thread nD τ).loc main_arg3)) = fun _ => 1#1) :
    Pipeline.afterTail₀ cfgs (dats m) 0 (V0 m) [hostOps1] c main_v7
      = refV (m ((c : Thread nD τ).loc main_arg0)) (m ((c : Thread nD τ).loc main_arg1))
      (m ((c : Thread nD τ).loc main_arg2)) (m ((c : Thread nD τ).loc main_arg3)) := by
  rw [fn_eq] at h
  obtain ⟨hp, hw, hu, hv, hu1, hv1, hne⟩ := pre_read _ _ _ _ h
  refine tail m c _ (final m c _ fun i n k g j hj => ?_)
  exact out_point _ _ _ _ hp hw hu hv hu1 hv1 hne _ _ _ _ _ (rowsP _) (fun i => hp _) (rowsW _) (rowV _) (colV _) (rowV _)
    i n k g j hj

end Cert.Own
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_nonvanishing
public import proofs.«01_k».proof.Proof.RefFrame
public import proofs.«01_k».proof.Proof.RefRun
public import proofs.«01_k».proof.Proof.Final
public import Idealize.ShloMosaic.Adequacy
public import Idealize.ShloMosaic.Init
public import Idealize.ShloMosaic.Lib.Claim
public import Idealize.ShloMosaic.Lib.Pipeline.ValueKit

@[expose] public section

set_option maxRecDepth 16384

noncomputable section

namespace Cert.Proof

open Idealize.ShloMosaic Idealize.SL.Sem

/-- From memories that agree on the arguments and satisfy the precondition, the kernel and the reference end with the
    same result. -/
theorem value : Cert.algebraic_KernelIdeal_ReferenceIdeal_pre_finite_nonvanishing := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg2 m _ c
    · exact Cert.KernelIdeal.Gen.W_main_arg3 m _ c
  · run_from Cert.Own.run_ref m' g'
    exact (Cert.Own.kernel_result m c (hpre c)).symm

/-- Every claim of this certificate. -/
theorem claim : Cert.Claim :=
  ⟨Kernel.Gen.facts, KernelIdeal.Gen.facts, ReferenceIdeal.Gen.facts, Pre_finite_nonvanishing.Gen.facts,
    fun m ρ _ => Kernel.Gen.frame m ρ, fun m ρ _ => KernelIdeal.Gen.frame m ρ, fun m ρ _ => KernelIdeal.Gen.frame m ρ,
    Cert.Proof.frame_ref, fun m ρ _ => Cert.Proof.frame_ref m ρ trivial, trivial, value⟩

end Cert.Proof

end
